-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![3072, 1536]⟩ ⟨2, ![3072, 12288]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1536, 3072]⟩ ⟨2, ![12288, 3072]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![384, 3072]⟩ ⟨2, ![3072, 3072]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3072x1536 : Shape := ⟨2, ![3072, 1536]⟩
abbrev S1536x3072 : Shape := ⟨2, ![1536, 3072]⟩
abbrev S384x3072 : Shape := ⟨2, ![384, 3072]⟩
abbrev S2x192x1536 : Shape := ⟨3, ![2, 192, 1536]⟩
abbrev S2x96x3072 : Shape := ⟨3, ![2, 96, 3072]⟩
abbrev S3x4x384x1024 : Shape := ⟨4, ![3, 4, 384, 1024]⟩
abbrev S3x2x384x1024 : Shape := ⟨4, ![3, 2, 384, 1024]⟩
abbrev S3x1x384x1024 : Shape := ⟨4, ![3, 1, 384, 1024]⟩
abbrev S2x384x1024 : Shape := ⟨3, ![2, 384, 1024]⟩
abbrev S2 : Shape := ⟨1, ![2]⟩
abbrev S3 : Shape := ⟨1, ![3]⟩
abbrev S_ : Shape := ⟨0, ![]⟩
abbrev S1 : Shape := ⟨1, ![1]⟩
abbrev S1x96x3072 : Shape := ⟨3, ![1, 96, 3072]⟩
abbrev S96x3072 : Shape := ⟨2, ![96, 3072]⟩
abbrev S1x192x1536 : Shape := ⟨3, ![1, 192, 1536]⟩
abbrev S192x1536 : Shape := ⟨2, ![192, 1536]⟩
abbrev S384x1536 : Shape := ⟨2, ![384, 1536]⟩
abbrev S1536x1024 : Shape := ⟨2, ![1536, 1024]⟩
abbrev S384x1024 : Shape := ⟨2, ![384, 1024]⟩
abbrev S1x1x384x1024 : Shape := ⟨4, ![1, 1, 384, 1024]⟩
abbrev S1x2x384x1024 : Shape := ⟨4, ![1, 2, 384, 1024]⟩
abbrev S1x384x1024 : Shape := ⟨3, ![1, 384, 1024]⟩

abbrev nBuf : Space → Nat
  | .hbm => 3
  | .vmem => 10
  | .smem => 0
  | _ => 0

abbrev bufTy : (tb : Table) → Fin (tcTables nBuf tb) → BufTy
  | .hbm, ⟨0, _⟩ => ⟨S3072x1536, .f32⟩
  | .hbm, ⟨1, _⟩ => ⟨S1536x3072, .f32⟩
  | .hbm, ⟨2, _⟩ => ⟨S384x3072, .f32⟩
  | .local _ .vmem, ⟨0, _⟩ => ⟨S3072x1536, .bf16⟩
  | .local _ .vmem, ⟨1, _⟩ => ⟨S1536x3072, .bf16⟩
  | .local _ .vmem, ⟨2, _⟩ => ⟨S2x192x1536, .f32⟩
  | .local _ .vmem, ⟨3, _⟩ => ⟨S2x96x3072, .f32⟩
  | .local _ .vmem, ⟨4, _⟩ => ⟨S3x4x384x1024, .bf16⟩
  | .local _ .vmem, ⟨5, _⟩ => ⟨S3x4x384x1024, .bf16⟩
  | .local _ .vmem, ⟨6, _⟩ => ⟨S3x4x384x1024, .bf16⟩
  | .local _ .vmem, ⟨7, _⟩ => ⟨S3x2x384x1024, .bf16⟩
  | .local _ .vmem, ⟨8, _⟩ => ⟨S3x1x384x1024, .bf16⟩
  | .local _ .vmem, ⟨9, _⟩ => ⟨S2x384x1024, .f32⟩
  | _, _ => ⟨S3072x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => true
  | ⟨1, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 2 36 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c2_i32_1 : BitVec 32 := 2#32
  let c2_i32 : BitVec 32 := 2#32
  let v5 : BitVec 32 := Scalar.remsi v2 c2_i32
  let v6 : BitVec 32 := Scalar.muli c2_i32_1 v5
  let v7 : BitVec 32 := Scalar.subi v4 v6
  let c1_i32_3 : BitVec 32 := 1#32
  let v8 : BitVec 32 := Scalar.muli v7 c1_i32_3
  let v9 : BitVec 32 := Scalar.addi c0_i32 v8
  v9.toNat
def k0_dev2 (d0 : Dev nD) : Nat :=
  let c0_i32_6 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.remsi v2 c4_i32
  let v11 : BitVec 32 := Scalar.subi v2 v10
  let c3_i32 : BitVec 32 := 3#32
  let v12 : BitVec 32 := Scalar.addi v11 c3_i32
  let v13 : BitVec 32 := Scalar.subi v12 v10
  let c1_i32_5 : BitVec 32 := 1#32
  let v14 : BitVec 32 := Scalar.muli v13 c1_i32_5
  let v15 : BitVec 32 := Scalar.addi c0_i32_6 v14
  v15.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v16 : BitVec 32 := Scalar.addi v2 c4_i32_7
  let c8_i32_8 : BitVec 32 := 8#32
  let v17 : BitVec 32 := Scalar.remsi v16 c8_i32_8
  let c1_i32_10 : BitVec 32 := 1#32
  let v18 : BitVec 32 := Scalar.muli v17 c1_i32_10
  let v19 : BitVec 32 := Scalar.addi c0_i32_11 v18
  v19.toNat
def k0_off1 (c0_i32_15 : BitVec 32) : Fin 1 → Nat :=
  let c2_i32_16 : BitVec 32 := 2#32
  let v21 : BitVec 32 := Scalar.remsi c0_i32_15 c2_i32_16
  ![v21.toNat]
def k0_off2 (c0_i32_13 : BitVec 32) : Fin 3 → Nat :=
  let c2_i32_14 : BitVec 32 := 2#32
  let v20 : BitVec 32 := Scalar.remsi c0_i32_13 c2_i32_14
  let c0_i32_17 : BitVec 32 := 0#32
  let c0_i32_18 : BitVec 32 := 0#32
  ![v20.toNat, 0, 0]
def k0_off3 (c0_i32_51 : BitVec 32) : Fin 3 → Nat :=
  let c2_i32_52 : BitVec 32 := 2#32
  let v78 : BitVec 32 := Scalar.remsi c0_i32_51 c2_i32_52
  let c0_i32_55 : BitVec 32 := 0#32
  let c0_i32_56 : BitVec 32 := 0#32
  ![v78.toNat, 0, 0]
def k0_off4 (d0 : Dev nD) (c0_i32_49 : BitVec 32) : Fin 2 → Nat :=
  let c1_i32_47 : BitVec 32 := 1#32
  let c7_i32 : BitVec 32 := 7#32
  let c4_i32_28 : BitVec 32 := 4#32
  let v34 : BitVec 32 := Scalar.remsi c7_i32 c4_i32_28
  let c0_i32_30 : BitVec 32 := 0#32
  let v36 : BitVec 1 := Scalar.cmpi .sgt v34 c0_i32_30
  let v37 : BitVec 32 := Scalar.extui v36
  let c0_i32_31 : BitVec 32 := 0#32
  let v38 : BitVec 1 := Scalar.cmpi .slt v34 c0_i32_31
  let v39 : BitVec 32 := Scalar.extui v38
  let v40 : BitVec 32 := Scalar.subi v37 v39
  let c2_i32_29 : BitVec 32 := 2#32
  let c0_i32_32 : BitVec 32 := 0#32
  let v41 : BitVec 1 := Scalar.cmpi .sgt c2_i32_29 c0_i32_32
  let v42 : BitVec 32 := Scalar.extui v41
  let c0_i32_33 : BitVec 32 := 0#32
  let v43 : BitVec 1 := Scalar.cmpi .slt c2_i32_29 c0_i32_33
  let v44 : BitVec 32 := Scalar.extui v43
  let v45 : BitVec 32 := Scalar.subi v42 v44
  let v46 : BitVec 1 := Scalar.cmpi .ne v40 v45
  let v47 : BitVec 32 := Scalar.remsi v34 c2_i32_29
  let c0_i32_34 : BitVec 32 := 0#32
  let v48 : BitVec 1 := Scalar.cmpi .ne v47 c0_i32_34
  let v49 : BitVec 1 := Scalar.andi v46 v48
  let v35 : BitVec 32 := Scalar.divsi v34 c2_i32_29
  let c1_i32_35 : BitVec 32 := 1#32
  let v50 : BitVec 32 := Scalar.subi v35 c1_i32_35
  let v51 : BitVec 32 := Scalar.select v49 v50 v35
  let c7_i32_36 : BitVec 32 := 7#32
  let c2_i32_37 : BitVec 32 := 2#32
  let v52 : BitVec 32 := Scalar.remsi c7_i32_36 c2_i32_37
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_38 : BitVec 32 := 4#32
  let v53 : BitVec 32 := Scalar.addi v2 c4_i32_38
  let c8_i32_39 : BitVec 32 := 8#32
  let v54 : BitVec 32 := Scalar.remsi v53 c8_i32_39
  let v55 : BitVec 32 := Scalar.muli v52 v54
  let c1_i32_40 : BitVec 32 := 1#32
  let v56 : BitVec 32 := Scalar.subi c1_i32_40 v52
  let v57 : BitVec 32 := Scalar.muli v56 v2
  let v58 : BitVec 32 := Scalar.addi v55 v57
  let c4_i32_41 : BitVec 32 := 4#32
  let v59 : BitVec 32 := Scalar.remsi v58 c4_i32_41
  let v60 : BitVec 32 := Scalar.subi v58 v59
  let c3_i32_42 : BitVec 32 := 3#32
  let v61 : BitVec 32 := Scalar.addi v60 c3_i32_42
  let v62 : BitVec 32 := Scalar.subi v61 v59
  let v63 : BitVec 32 := Scalar.muli v51 v62
  let c1_i32_43 : BitVec 32 := 1#32
  let v64 : BitVec 32 := Scalar.subi c1_i32_43 v51
  let v65 : BitVec 32 := Scalar.muli v64 v58
  let v66 : BitVec 32 := Scalar.addi v63 v65
  let c1_i32_44 : BitVec 32 := 1#32
  let v67 : BitVec 32 := Scalar.addi v66 c1_i32_44
  let c2_i32_46 : BitVec 32 := 2#32
  let c2_i32_45 : BitVec 32 := 2#32
  let v68 : BitVec 32 := Scalar.remsi v66 c2_i32_45
  let v69 : BitVec 32 := Scalar.muli c2_i32_46 v68
  let v70 : BitVec 32 := Scalar.subi v67 v69
  let v71 : BitVec 32 := Scalar.muli c1_i32_47 v70
  let c0_i32_48 : BitVec 32 := 0#32
  let v72 : BitVec 32 := Scalar.muli c0_i32_48 v66
  let v73 : BitVec 32 := Scalar.addi v71 v72
  let c384_i32 : BitVec 32 := 384#32
  let v74 : BitVec 32 := Scalar.muli v73 c384_i32
  let c2_i32_50 : BitVec 32 := 2#32
  let v75 : BitVec 32 := Scalar.remsi c0_i32_49 c2_i32_50
  let c192_i32 : BitVec 32 := 192#32
  let v76 : BitVec 32 := Scalar.muli v75 c192_i32
  let v77 : BitVec 32 := Scalar.addi v74 v76
  let c0_i32_57 : BitVec 32 := 0#32
  ![v77.toNat, 0]
@[reducible] def k0_t1_loop : Scf.Loop 32 :=
  let c0_i32_91 : BitVec 32 := 0#32
  let c16_i32 : BitVec 32 := 16#32
  let v136 : BitVec 32 := Scalar.addi c0_i32_91 c16_i32
  let c1_i32_92 : BitVec 32 := 1#32
  ⟨c0_i32_91, v136, c1_i32_92⟩
def k0_off5 (k0_t1 : Fin k0_t1_loop.trips) : Fin 1 → Nat :=
  let c0_i32_91 : BitVec 32 := 0#32
  let c1_i32_92 : BitVec 32 := 1#32
  let arg27 : BitVec 32 := Scf.iv c0_i32_91 c1_i32_92 k0_t1
  let c2_i32_907 : BitVec 32 := 2#32
  let v795 : BitVec 32 := Scalar.remsi arg27 c2_i32_907
  ![v795.toNat]
def k0_off6 (k0_t1 : Fin k0_t1_loop.trips) : Fin 3 → Nat :=
  let c0_i32_91 : BitVec 32 := 0#32
  let c1_i32_92 : BitVec 32 := 1#32
  let arg27 : BitVec 32 := Scf.iv c0_i32_91 c1_i32_92 k0_t1
  let c2_i32_906 : BitVec 32 := 2#32
  let v794 : BitVec 32 := Scalar.remsi arg27 c2_i32_906
  let c0_i32_908 : BitVec 32 := 0#32
  let c0_i32_909 : BitVec 32 := 0#32
  ![v794.toNat, 0, 0]
def k0_off7 (k0_t1 : Fin k0_t1_loop.trips) : Fin 2 → Nat :=
  let c0_i32_91 : BitVec 32 := 0#32
  let c1_i32_92 : BitVec 32 := 1#32
  let arg27 : BitVec 32 := Scf.iv c0_i32_91 c1_i32_92 k0_t1
  let c96_i32_905 : BitVec 32 := 96#32
  let v793 : BitVec 32 := Scalar.muli arg27 c96_i32_905
  let c0_i32_910 : BitVec 32 := 0#32
  ![v793.toNat, 0]
def k0_off8 (k0_t1 : Fin k0_t1_loop.trips) : Fin 3 → Nat :=
  let c0_i32_91 : BitVec 32 := 0#32
  let c1_i32_92 : BitVec 32 := 1#32
  let arg27 : BitVec 32 := Scf.iv c0_i32_91 c1_i32_92 k0_t1
  let c2_i32_904 : BitVec 32 := 2#32
  let v792 : BitVec 32 := Scalar.remsi arg27 c2_i32_904
  let v801 : Index := Scalar.indexCast v792
  let c0_911 : Index := 0#32
  let c0_912 : Index := 0#32
  ![v801.toNat, 0, 0]
def k0_off9 (k0_t1 : Fin k0_t1_loop.trips) : Fin 2 → Nat :=
  let c0_i32_91 : BitVec 32 := 0#32
  let c1_i32_92 : BitVec 32 := 1#32
  let arg27 : BitVec 32 := Scf.iv c0_i32_91 c1_i32_92 k0_t1
  let c96_i32_913 : BitVec 32 := 96#32
  let v805 : BitVec 32 := Scalar.muli arg27 c96_i32_913
  let v806 : Index := Scalar.indexCast v805
  let c0_914 : Index := 0#32
  ![v806.toNat, 0]
def k0_cond1 (k0_t1 : Fin k0_t1_loop.trips) : BitVec 1 :=
  let c0_i32_91 : BitVec 32 := 0#32
  let c1_i32_92 : BitVec 32 := 1#32
  let arg27 : BitVec 32 := Scf.iv c0_i32_91 c1_i32_92 k0_t1
  let c2_i32_915 : BitVec 32 := 2#32
  let v810 : BitVec 32 := Scalar.addi arg27 c2_i32_915
  let c16_i32_916 : BitVec 32 := 16#32
  let v811 : BitVec 1 := Scalar.cmpi .slt v810 c16_i32_916
  let v812 : BitVec 32 := Scalar.extui v811
  let c0_i32_917 : BitVec 32 := 0#32
  let v813 : BitVec 1 := Scalar.cmpi .ne v812 c0_i32_917
  v813

def k0_off10 (k0_t1 : Fin k0_t1_loop.trips) : Fin 1 → Nat :=
  let c0_i32_91 : BitVec 32 := 0#32
  let c1_i32_92 : BitVec 32 := 1#32
  let arg27 : BitVec 32 := Scf.iv c0_i32_91 c1_i32_92 k0_t1
  let c2_i32_918 : BitVec 32 := 2#32
  let v814 : BitVec 32 := Scalar.addi arg27 c2_i32_918
  let c2_i32_921 : BitVec 32 := 2#32
  let v817 : BitVec 32 := Scalar.remsi v814 c2_i32_921
  ![v817.toNat]
def k0_off11 (k0_t1 : Fin k0_t1_loop.trips) : Fin 3 → Nat :=
  let c0_i32_91 : BitVec 32 := 0#32
  let c1_i32_92 : BitVec 32 := 1#32
  let arg27 : BitVec 32 := Scf.iv c0_i32_91 c1_i32_92 k0_t1
  let c2_i32_918 : BitVec 32 := 2#32
  let v814 : BitVec 32 := Scalar.addi arg27 c2_i32_918
  let c2_i32_920 : BitVec 32 := 2#32
  let v816 : BitVec 32 := Scalar.remsi v814 c2_i32_920
  let c0_i32_922 : BitVec 32 := 0#32
  let c0_i32_923 : BitVec 32 := 0#32
  ![v816.toNat, 0, 0]
def k0_off12 (k0_t1 : Fin k0_t1_loop.trips) : Fin 2 → Nat :=
  let c0_i32_91 : BitVec 32 := 0#32
  let c1_i32_92 : BitVec 32 := 1#32
  let arg27 : BitVec 32 := Scf.iv c0_i32_91 c1_i32_92 k0_t1
  let c2_i32_918 : BitVec 32 := 2#32
  let v814 : BitVec 32 := Scalar.addi arg27 c2_i32_918
  let c96_i32_919 : BitVec 32 := 96#32
  let v815 : BitVec 32 := Scalar.muli v814 c96_i32_919
  let c0_i32_924 : BitVec 32 := 0#32
  ![v815.toNat, 0]
@[reducible] def k0_t2_loop : Scf.Loop 32 :=
  let c0_i32_94 : BitVec 32 := 0#32
  let c16_i32_95 : BitVec 32 := 16#32
  let v137 : BitVec 32 := Scalar.addi c0_i32_94 c16_i32_95
  let c1_i32_96 : BitVec 32 := 1#32
  ⟨c0_i32_94, v137, c1_i32_96⟩
def k0_off13 (k0_t2 : Fin k0_t2_loop.trips) : Fin 1 → Nat :=
  let c0_i32_94 : BitVec 32 := 0#32
  let c1_i32_96 : BitVec 32 := 1#32
  let arg27 : BitVec 32 := Scf.iv c0_i32_94 c1_i32_96 k0_t2
  let c2_i32_943 : BitVec 32 := 2#32
  let v874 : BitVec 32 := Scalar.remsi arg27 c2_i32_943
  ![v874.toNat]
def k0_off14 (k0_t2 : Fin k0_t2_loop.trips) : Fin 3 → Nat :=
  let c0_i32_94 : BitVec 32 := 0#32
  let c1_i32_96 : BitVec 32 := 1#32
  let arg27 : BitVec 32 := Scf.iv c0_i32_94 c1_i32_96 k0_t2
  let c2_i32_942 : BitVec 32 := 2#32
  let v873 : BitVec 32 := Scalar.remsi arg27 c2_i32_942
  let c0_i32_944 : BitVec 32 := 0#32
  let c0_i32_945 : BitVec 32 := 0#32
  ![v873.toNat, 0, 0]
def k0_off15 (d0 : Dev nD) (k0_t2 : Fin k0_t2_loop.trips) : Fin 2 → Nat :=
  let c7_i32_912 : BitVec 32 := 7#32
  let c0_i32_94 : BitVec 32 := 0#32
  let c1_i32_96 : BitVec 32 := 1#32
  let arg27 : BitVec 32 := Scf.iv c0_i32_94 c1_i32_96 k0_t2
  let c0_i32_906 : BitVec 32 := 0#32
  let v794 : BitVec 1 := Scalar.cmpi .sgt arg27 c0_i32_906
  let v795 : BitVec 32 := Scalar.extui v794
  let c0_i32_907 : BitVec 32 := 0#32
  let v796 : BitVec 1 := Scalar.cmpi .slt arg27 c0_i32_907
  let v797 : BitVec 32 := Scalar.extui v796
  let v798 : BitVec 32 := Scalar.subi v795 v797
  let c2_i32_905 : BitVec 32 := 2#32
  let c0_i32_908 : BitVec 32 := 0#32
  let v799 : BitVec 1 := Scalar.cmpi .sgt c2_i32_905 c0_i32_908
  let v800 : BitVec 32 := Scalar.extui v799
  let c0_i32_909 : BitVec 32 := 0#32
  let v801 : BitVec 1 := Scalar.cmpi .slt c2_i32_905 c0_i32_909
  let v802 : BitVec 32 := Scalar.extui v801
  let v803 : BitVec 32 := Scalar.subi v800 v802
  let v804 : BitVec 1 := Scalar.cmpi .ne v798 v803
  let v805 : BitVec 32 := Scalar.remsi arg27 c2_i32_905
  let c0_i32_910 : BitVec 32 := 0#32
  let v806 : BitVec 1 := Scalar.cmpi .ne v805 c0_i32_910
  let v807 : BitVec 1 := Scalar.andi v804 v806
  let v793 : BitVec 32 := Scalar.divsi arg27 c2_i32_905
  let c1_i32_911 : BitVec 32 := 1#32
  let v808 : BitVec 32 := Scalar.subi v793 c1_i32_911
  let v809 : BitVec 32 := Scalar.select v807 v808 v793
  let v810 : BitVec 32 := Scalar.subi c7_i32_912 v809
  let c0_i32_914 : BitVec 32 := 0#32
  let v812 : BitVec 1 := Scalar.cmpi .sgt v810 c0_i32_914
  let v813 : BitVec 32 := Scalar.extui v812
  let c0_i32_915 : BitVec 32 := 0#32
  let v814 : BitVec 1 := Scalar.cmpi .slt v810 c0_i32_915
  let v815 : BitVec 32 := Scalar.extui v814
  let v816 : BitVec 32 := Scalar.subi v813 v815
  let c4_i32_913 : BitVec 32 := 4#32
  let c0_i32_916 : BitVec 32 := 0#32
  let v817 : BitVec 1 := Scalar.cmpi .sgt c4_i32_913 c0_i32_916
  let v818 : BitVec 32 := Scalar.extui v817
  let c0_i32_917 : BitVec 32 := 0#32
  let v819 : BitVec 1 := Scalar.cmpi .slt c4_i32_913 c0_i32_917
  let v820 : BitVec 32 := Scalar.extui v819
  let v821 : BitVec 32 := Scalar.subi v818 v820
  let v822 : BitVec 1 := Scalar.cmpi .ne v816 v821
  let v823 : BitVec 32 := Scalar.remsi v810 c4_i32_913
  let c0_i32_918 : BitVec 32 := 0#32
  let v824 : BitVec 1 := Scalar.cmpi .ne v823 c0_i32_918
  let v825 : BitVec 1 := Scalar.andi v822 v824
  let v811 : BitVec 32 := Scalar.divsi v810 c4_i32_913
  let c1_i32_919 : BitVec 32 := 1#32
  let v826 : BitVec 32 := Scalar.subi v811 c1_i32_919
  let v827 : BitVec 32 := Scalar.select v825 v826 v811
  let c4_i32_920 : BitVec 32 := 4#32
  let v828 : BitVec 32 := Scalar.remsi v810 c4_i32_920
  let c0_i32_922 : BitVec 32 := 0#32
  let v830 : BitVec 1 := Scalar.cmpi .sgt v828 c0_i32_922
  let v831 : BitVec 32 := Scalar.extui v830
  let c0_i32_923 : BitVec 32 := 0#32
  let v832 : BitVec 1 := Scalar.cmpi .slt v828 c0_i32_923
  let v833 : BitVec 32 := Scalar.extui v832
  let v834 : BitVec 32 := Scalar.subi v831 v833
  let c2_i32_921 : BitVec 32 := 2#32
  let c0_i32_924 : BitVec 32 := 0#32
  let v835 : BitVec 1 := Scalar.cmpi .sgt c2_i32_921 c0_i32_924
  let v836 : BitVec 32 := Scalar.extui v835
  let c0_i32_925 : BitVec 32 := 0#32
  let v837 : BitVec 1 := Scalar.cmpi .slt c2_i32_921 c0_i32_925
  let v838 : BitVec 32 := Scalar.extui v837
  let v839 : BitVec 32 := Scalar.subi v836 v838
  let v840 : BitVec 1 := Scalar.cmpi .ne v834 v839
  let v841 : BitVec 32 := Scalar.remsi v828 c2_i32_921
  let c0_i32_926 : BitVec 32 := 0#32
  let v842 : BitVec 1 := Scalar.cmpi .ne v841 c0_i32_926
  let v843 : BitVec 1 := Scalar.andi v840 v842
  let v829 : BitVec 32 := Scalar.divsi v828 c2_i32_921
  let c1_i32_927 : BitVec 32 := 1#32
  let v844 : BitVec 32 := Scalar.subi v829 c1_i32_927
  let v845 : BitVec 32 := Scalar.select v843 v844 v829
  let c2_i32_928 : BitVec 32 := 2#32
  let v846 : BitVec 32 := Scalar.remsi v810 c2_i32_928
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_929 : BitVec 32 := 4#32
  let v847 : BitVec 32 := Scalar.addi v2 c4_i32_929
  let c8_i32_930 : BitVec 32 := 8#32
  let v848 : BitVec 32 := Scalar.remsi v847 c8_i32_930
  let v849 : BitVec 32 := Scalar.muli v846 v848
  let c1_i32_931 : BitVec 32 := 1#32
  let v850 : BitVec 32 := Scalar.subi c1_i32_931 v846
  let v851 : BitVec 32 := Scalar.muli v850 v2
  let v852 : BitVec 32 := Scalar.addi v849 v851
  let c4_i32_932 : BitVec 32 := 4#32
  let v853 : BitVec 32 := Scalar.remsi v852 c4_i32_932
  let v854 : BitVec 32 := Scalar.subi v852 v853
  let c3_i32_933 : BitVec 32 := 3#32
  let v855 : BitVec 32 := Scalar.addi v854 c3_i32_933
  let v856 : BitVec 32 := Scalar.subi v855 v853
  let v857 : BitVec 32 := Scalar.muli v845 v856
  let c1_i32_934 : BitVec 32 := 1#32
  let v858 : BitVec 32 := Scalar.subi c1_i32_934 v845
  let v859 : BitVec 32 := Scalar.muli v858 v852
  let v860 : BitVec 32 := Scalar.addi v857 v859
  let c1_i32_935 : BitVec 32 := 1#32
  let v861 : BitVec 32 := Scalar.addi v860 c1_i32_935
  let c2_i32_937 : BitVec 32 := 2#32
  let c2_i32_936 : BitVec 32 := 2#32
  let v862 : BitVec 32 := Scalar.remsi v860 c2_i32_936
  let v863 : BitVec 32 := Scalar.muli c2_i32_937 v862
  let v864 : BitVec 32 := Scalar.subi v861 v863
  let v865 : BitVec 32 := Scalar.muli v827 v864
  let c1_i32_938 : BitVec 32 := 1#32
  let v866 : BitVec 32 := Scalar.subi c1_i32_938 v827
  let v867 : BitVec 32 := Scalar.muli v866 v860
  let v868 : BitVec 32 := Scalar.addi v865 v867
  let c384_i32_939 : BitVec 32 := 384#32
  let v869 : BitVec 32 := Scalar.muli v868 c384_i32_939
  let c2_i32_940 : BitVec 32 := 2#32
  let v870 : BitVec 32 := Scalar.remsi arg27 c2_i32_940
  let c192_i32_941 : BitVec 32 := 192#32
  let v871 : BitVec 32 := Scalar.muli v870 c192_i32_941
  let v872 : BitVec 32 := Scalar.addi v869 v871
  let c0_i32_946 : BitVec 32 := 0#32
  ![v872.toNat, 0]
def k0_off16 (k0_t2 : Fin k0_t2_loop.trips) : Fin 3 → Nat :=
  let c0_i32_94 : BitVec 32 := 0#32
  let c1_i32_96 : BitVec 32 := 1#32
  let arg27 : BitVec 32 := Scf.iv c0_i32_94 c1_i32_96 k0_t2
  let c2_i32_904 : BitVec 32 := 2#32
  let v792 : BitVec 32 := Scalar.remsi arg27 c2_i32_904
  let v880 : Index := Scalar.indexCast v792
  let c0_947 : Index := 0#32
  let c0_948 : Index := 0#32
  ![v880.toNat, 0, 0]
def k0_off17 (d0 : Dev nD) (k0_t2 : Fin k0_t2_loop.trips) : Fin 2 → Nat :=
  let c7_i32_956 : BitVec 32 := 7#32
  let c0_i32_94 : BitVec 32 := 0#32
  let c1_i32_96 : BitVec 32 := 1#32
  let arg27 : BitVec 32 := Scf.iv c0_i32_94 c1_i32_96 k0_t2
  let c0_i32_950 : BitVec 32 := 0#32
  let v885 : BitVec 1 := Scalar.cmpi .sgt arg27 c0_i32_950
  let v886 : BitVec 32 := Scalar.extui v885
  let c0_i32_951 : BitVec 32 := 0#32
  let v887 : BitVec 1 := Scalar.cmpi .slt arg27 c0_i32_951
  let v888 : BitVec 32 := Scalar.extui v887
  let v889 : BitVec 32 := Scalar.subi v886 v888
  let c2_i32_949 : BitVec 32 := 2#32
  let c0_i32_952 : BitVec 32 := 0#32
  let v890 : BitVec 1 := Scalar.cmpi .sgt c2_i32_949 c0_i32_952
  let v891 : BitVec 32 := Scalar.extui v890
  let c0_i32_953 : BitVec 32 := 0#32
  let v892 : BitVec 1 := Scalar.cmpi .slt c2_i32_949 c0_i32_953
  let v893 : BitVec 32 := Scalar.extui v892
  let v894 : BitVec 32 := Scalar.subi v891 v893
  let v895 : BitVec 1 := Scalar.cmpi .ne v889 v894
  let v896 : BitVec 32 := Scalar.remsi arg27 c2_i32_949
  let c0_i32_954 : BitVec 32 := 0#32
  let v897 : BitVec 1 := Scalar.cmpi .ne v896 c0_i32_954
  let v898 : BitVec 1 := Scalar.andi v895 v897
  let v884 : BitVec 32 := Scalar.divsi arg27 c2_i32_949
  let c1_i32_955 : BitVec 32 := 1#32
  let v899 : BitVec 32 := Scalar.subi v884 c1_i32_955
  let v900 : BitVec 32 := Scalar.select v898 v899 v884
  let v901 : BitVec 32 := Scalar.subi c7_i32_956 v900
  let c0_i32_958 : BitVec 32 := 0#32
  let v903 : BitVec 1 := Scalar.cmpi .sgt v901 c0_i32_958
  let v904 : BitVec 32 := Scalar.extui v903
  let c0_i32_959 : BitVec 32 := 0#32
  let v905 : BitVec 1 := Scalar.cmpi .slt v901 c0_i32_959
  let v906 : BitVec 32 := Scalar.extui v905
  let v907 : BitVec 32 := Scalar.subi v904 v906
  let c4_i32_957 : BitVec 32 := 4#32
  let c0_i32_960 : BitVec 32 := 0#32
  let v908 : BitVec 1 := Scalar.cmpi .sgt c4_i32_957 c0_i32_960
  let v909 : BitVec 32 := Scalar.extui v908
  let c0_i32_961 : BitVec 32 := 0#32
  let v910 : BitVec 1 := Scalar.cmpi .slt c4_i32_957 c0_i32_961
  let v911 : BitVec 32 := Scalar.extui v910
  let v912 : BitVec 32 := Scalar.subi v909 v911
  let v913 : BitVec 1 := Scalar.cmpi .ne v907 v912
  let v914 : BitVec 32 := Scalar.remsi v901 c4_i32_957
  let c0_i32_962 : BitVec 32 := 0#32
  let v915 : BitVec 1 := Scalar.cmpi .ne v914 c0_i32_962
  let v916 : BitVec 1 := Scalar.andi v913 v915
  let v902 : BitVec 32 := Scalar.divsi v901 c4_i32_957
  let c1_i32_963 : BitVec 32 := 1#32
  let v917 : BitVec 32 := Scalar.subi v902 c1_i32_963
  let v918 : BitVec 32 := Scalar.select v916 v917 v902
  let c4_i32_964 : BitVec 32 := 4#32
  let v919 : BitVec 32 := Scalar.remsi v901 c4_i32_964
  let c0_i32_966 : BitVec 32 := 0#32
  let v921 : BitVec 1 := Scalar.cmpi .sgt v919 c0_i32_966
  let v922 : BitVec 32 := Scalar.extui v921
  let c0_i32_967 : BitVec 32 := 0#32
  let v923 : BitVec 1 := Scalar.cmpi .slt v919 c0_i32_967
  let v924 : BitVec 32 := Scalar.extui v923
  let v925 : BitVec 32 := Scalar.subi v922 v924
  let c2_i32_965 : BitVec 32 := 2#32
  let c0_i32_968 : BitVec 32 := 0#32
  let v926 : BitVec 1 := Scalar.cmpi .sgt c2_i32_965 c0_i32_968
  let v927 : BitVec 32 := Scalar.extui v926
  let c0_i32_969 : BitVec 32 := 0#32
  let v928 : BitVec 1 := Scalar.cmpi .slt c2_i32_965 c0_i32_969
  let v929 : BitVec 32 := Scalar.extui v928
  let v930 : BitVec 32 := Scalar.subi v927 v929
  let v931 : BitVec 1 := Scalar.cmpi .ne v925 v930
  let v932 : BitVec 32 := Scalar.remsi v919 c2_i32_965
  let c0_i32_970 : BitVec 32 := 0#32
  let v933 : BitVec 1 := Scalar.cmpi .ne v932 c0_i32_970
  let v934 : BitVec 1 := Scalar.andi v931 v933
  let v920 : BitVec 32 := Scalar.divsi v919 c2_i32_965
  let c1_i32_971 : BitVec 32 := 1#32
  let v935 : BitVec 32 := Scalar.subi v920 c1_i32_971
  let v936 : BitVec 32 := Scalar.select v934 v935 v920
  let c2_i32_972 : BitVec 32 := 2#32
  let v937 : BitVec 32 := Scalar.remsi v901 c2_i32_972
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_973 : BitVec 32 := 4#32
  let v938 : BitVec 32 := Scalar.addi v2 c4_i32_973
  let c8_i32_974 : BitVec 32 := 8#32
  let v939 : BitVec 32 := Scalar.remsi v938 c8_i32_974
  let v940 : BitVec 32 := Scalar.muli v937 v939
  let c1_i32_975 : BitVec 32 := 1#32
  let v941 : BitVec 32 := Scalar.subi c1_i32_975 v937
  let v942 : BitVec 32 := Scalar.muli v941 v2
  let v943 : BitVec 32 := Scalar.addi v940 v942
  let c4_i32_976 : BitVec 32 := 4#32
  let v944 : BitVec 32 := Scalar.remsi v943 c4_i32_976
  let v945 : BitVec 32 := Scalar.subi v943 v944
  let c3_i32_977 : BitVec 32 := 3#32
  let v946 : BitVec 32 := Scalar.addi v945 c3_i32_977
  let v947 : BitVec 32 := Scalar.subi v946 v944
  let v948 : BitVec 32 := Scalar.muli v936 v947
  let c1_i32_978 : BitVec 32 := 1#32
  let v949 : BitVec 32 := Scalar.subi c1_i32_978 v936
  let v950 : BitVec 32 := Scalar.muli v949 v943
  let v951 : BitVec 32 := Scalar.addi v948 v950
  let c1_i32_979 : BitVec 32 := 1#32
  let v952 : BitVec 32 := Scalar.addi v951 c1_i32_979
  let c2_i32_981 : BitVec 32 := 2#32
  let c2_i32_980 : BitVec 32 := 2#32
  let v953 : BitVec 32 := Scalar.remsi v951 c2_i32_980
  let v954 : BitVec 32 := Scalar.muli c2_i32_981 v953
  let v955 : BitVec 32 := Scalar.subi v952 v954
  let v956 : BitVec 32 := Scalar.muli v918 v955
  let c1_i32_982 : BitVec 32 := 1#32
  let v957 : BitVec 32 := Scalar.subi c1_i32_982 v918
  let v958 : BitVec 32 := Scalar.muli v957 v951
  let v959 : BitVec 32 := Scalar.addi v956 v958
  let c384_i32_983 : BitVec 32 := 384#32
  let v960 : BitVec 32 := Scalar.muli v959 c384_i32_983
  let c2_i32_984 : BitVec 32 := 2#32
  let v961 : BitVec 32 := Scalar.remsi arg27 c2_i32_984
  let c192_i32_985 : BitVec 32 := 192#32
  let v962 : BitVec 32 := Scalar.muli v961 c192_i32_985
  let v963 : BitVec 32 := Scalar.addi v960 v962
  let v964 : Index := Scalar.indexCast v963
  let c0_986 : Index := 0#32
  ![v964.toNat, 0]
def k0_cond2 (k0_t2 : Fin k0_t2_loop.trips) : BitVec 1 :=
  let c0_i32_94 : BitVec 32 := 0#32
  let c1_i32_96 : BitVec 32 := 1#32
  let arg27 : BitVec 32 := Scf.iv c0_i32_94 c1_i32_96 k0_t2
  let c2_i32_987 : BitVec 32 := 2#32
  let v968 : BitVec 32 := Scalar.addi arg27 c2_i32_987
  let c16_i32_988 : BitVec 32 := 16#32
  let v969 : BitVec 1 := Scalar.cmpi .slt v968 c16_i32_988
  let v970 : BitVec 32 := Scalar.extui v969
  let c0_i32_989 : BitVec 32 := 0#32
  let v971 : BitVec 1 := Scalar.cmpi .ne v970 c0_i32_989
  v971

def k0_off18 (k0_t2 : Fin k0_t2_loop.trips) : Fin 1 → Nat :=
  let c0_i32_94 : BitVec 32 := 0#32
  let c1_i32_96 : BitVec 32 := 1#32
  let arg27 : BitVec 32 := Scf.iv c0_i32_94 c1_i32_96 k0_t2
  let c2_i32_999 : BitVec 32 := 2#32
  let v993 : BitVec 32 := Scalar.addi arg27 c2_i32_999
  let c2_i32_1038 : BitVec 32 := 2#32
  let v1075 : BitVec 32 := Scalar.remsi v993 c2_i32_1038
  ![v1075.toNat]
def k0_off19 (k0_t2 : Fin k0_t2_loop.trips) : Fin 3 → Nat :=
  let c0_i32_94 : BitVec 32 := 0#32
  let c1_i32_96 : BitVec 32 := 1#32
  let arg27 : BitVec 32 := Scf.iv c0_i32_94 c1_i32_96 k0_t2
  let c2_i32_999 : BitVec 32 := 2#32
  let v993 : BitVec 32 := Scalar.addi arg27 c2_i32_999
  let c2_i32_1037 : BitVec 32 := 2#32
  let v1074 : BitVec 32 := Scalar.remsi v993 c2_i32_1037
  let c0_i32_1039 : BitVec 32 := 0#32
  let c0_i32_1040 : BitVec 32 := 0#32
  ![v1074.toNat, 0, 0]
def k0_off20 (d0 : Dev nD) (k0_t2 : Fin k0_t2_loop.trips) : Fin 2 → Nat :=
  let c7_i32_1007 : BitVec 32 := 7#32
  let c0_i32_94 : BitVec 32 := 0#32
  let c1_i32_96 : BitVec 32 := 1#32
  let arg27 : BitVec 32 := Scf.iv c0_i32_94 c1_i32_96 k0_t2
  let c2_i32_999 : BitVec 32 := 2#32
  let v993 : BitVec 32 := Scalar.addi arg27 c2_i32_999
  let c0_i32_1001 : BitVec 32 := 0#32
  let v995 : BitVec 1 := Scalar.cmpi .sgt v993 c0_i32_1001
  let v996 : BitVec 32 := Scalar.extui v995
  let c0_i32_1002 : BitVec 32 := 0#32
  let v997 : BitVec 1 := Scalar.cmpi .slt v993 c0_i32_1002
  let v998 : BitVec 32 := Scalar.extui v997
  let v999 : BitVec 32 := Scalar.subi v996 v998
  let c2_i32_1000 : BitVec 32 := 2#32
  let c0_i32_1003 : BitVec 32 := 0#32
  let v1000 : BitVec 1 := Scalar.cmpi .sgt c2_i32_1000 c0_i32_1003
  let v1001 : BitVec 32 := Scalar.extui v1000
  let c0_i32_1004 : BitVec 32 := 0#32
  let v1002 : BitVec 1 := Scalar.cmpi .slt c2_i32_1000 c0_i32_1004
  let v1003 : BitVec 32 := Scalar.extui v1002
  let v1004 : BitVec 32 := Scalar.subi v1001 v1003
  let v1005 : BitVec 1 := Scalar.cmpi .ne v999 v1004
  let v1006 : BitVec 32 := Scalar.remsi v993 c2_i32_1000
  let c0_i32_1005 : BitVec 32 := 0#32
  let v1007 : BitVec 1 := Scalar.cmpi .ne v1006 c0_i32_1005
  let v1008 : BitVec 1 := Scalar.andi v1005 v1007
  let v994 : BitVec 32 := Scalar.divsi v993 c2_i32_1000
  let c1_i32_1006 : BitVec 32 := 1#32
  let v1009 : BitVec 32 := Scalar.subi v994 c1_i32_1006
  let v1010 : BitVec 32 := Scalar.select v1008 v1009 v994
  let v1011 : BitVec 32 := Scalar.subi c7_i32_1007 v1010
  let c0_i32_1009 : BitVec 32 := 0#32
  let v1013 : BitVec 1 := Scalar.cmpi .sgt v1011 c0_i32_1009
  let v1014 : BitVec 32 := Scalar.extui v1013
  let c0_i32_1010 : BitVec 32 := 0#32
  let v1015 : BitVec 1 := Scalar.cmpi .slt v1011 c0_i32_1010
  let v1016 : BitVec 32 := Scalar.extui v1015
  let v1017 : BitVec 32 := Scalar.subi v1014 v1016
  let c4_i32_1008 : BitVec 32 := 4#32
  let c0_i32_1011 : BitVec 32 := 0#32
  let v1018 : BitVec 1 := Scalar.cmpi .sgt c4_i32_1008 c0_i32_1011
  let v1019 : BitVec 32 := Scalar.extui v1018
  let c0_i32_1012 : BitVec 32 := 0#32
  let v1020 : BitVec 1 := Scalar.cmpi .slt c4_i32_1008 c0_i32_1012
  let v1021 : BitVec 32 := Scalar.extui v1020
  let v1022 : BitVec 32 := Scalar.subi v1019 v1021
  let v1023 : BitVec 1 := Scalar.cmpi .ne v1017 v1022
  let v1024 : BitVec 32 := Scalar.remsi v1011 c4_i32_1008
  let c0_i32_1013 : BitVec 32 := 0#32
  let v1025 : BitVec 1 := Scalar.cmpi .ne v1024 c0_i32_1013
  let v1026 : BitVec 1 := Scalar.andi v1023 v1025
  let v1012 : BitVec 32 := Scalar.divsi v1011 c4_i32_1008
  let c1_i32_1014 : BitVec 32 := 1#32
  let v1027 : BitVec 32 := Scalar.subi v1012 c1_i32_1014
  let v1028 : BitVec 32 := Scalar.select v1026 v1027 v1012
  let c4_i32_1015 : BitVec 32 := 4#32
  let v1029 : BitVec 32 := Scalar.remsi v1011 c4_i32_1015
  let c0_i32_1017 : BitVec 32 := 0#32
  let v1031 : BitVec 1 := Scalar.cmpi .sgt v1029 c0_i32_1017
  let v1032 : BitVec 32 := Scalar.extui v1031
  let c0_i32_1018 : BitVec 32 := 0#32
  let v1033 : BitVec 1 := Scalar.cmpi .slt v1029 c0_i32_1018
  let v1034 : BitVec 32 := Scalar.extui v1033
  let v1035 : BitVec 32 := Scalar.subi v1032 v1034
  let c2_i32_1016 : BitVec 32 := 2#32
  let c0_i32_1019 : BitVec 32 := 0#32
  let v1036 : BitVec 1 := Scalar.cmpi .sgt c2_i32_1016 c0_i32_1019
  let v1037 : BitVec 32 := Scalar.extui v1036
  let c0_i32_1020 : BitVec 32 := 0#32
  let v1038 : BitVec 1 := Scalar.cmpi .slt c2_i32_1016 c0_i32_1020
  let v1039 : BitVec 32 := Scalar.extui v1038
  let v1040 : BitVec 32 := Scalar.subi v1037 v1039
  let v1041 : BitVec 1 := Scalar.cmpi .ne v1035 v1040
  let v1042 : BitVec 32 := Scalar.remsi v1029 c2_i32_1016
  let c0_i32_1021 : BitVec 32 := 0#32
  let v1043 : BitVec 1 := Scalar.cmpi .ne v1042 c0_i32_1021
  let v1044 : BitVec 1 := Scalar.andi v1041 v1043
  let v1030 : BitVec 32 := Scalar.divsi v1029 c2_i32_1016
  let c1_i32_1022 : BitVec 32 := 1#32
  let v1045 : BitVec 32 := Scalar.subi v1030 c1_i32_1022
  let v1046 : BitVec 32 := Scalar.select v1044 v1045 v1030
  let c2_i32_1023 : BitVec 32 := 2#32
  let v1047 : BitVec 32 := Scalar.remsi v1011 c2_i32_1023
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1024 : BitVec 32 := 4#32
  let v1048 : BitVec 32 := Scalar.addi v2 c4_i32_1024
  let c8_i32_1025 : BitVec 32 := 8#32
  let v1049 : BitVec 32 := Scalar.remsi v1048 c8_i32_1025
  let v1050 : BitVec 32 := Scalar.muli v1047 v1049
  let c1_i32_1026 : BitVec 32 := 1#32
  let v1051 : BitVec 32 := Scalar.subi c1_i32_1026 v1047
  let v1052 : BitVec 32 := Scalar.muli v1051 v2
  let v1053 : BitVec 32 := Scalar.addi v1050 v1052
  let c4_i32_1027 : BitVec 32 := 4#32
  let v1054 : BitVec 32 := Scalar.remsi v1053 c4_i32_1027
  let v1055 : BitVec 32 := Scalar.subi v1053 v1054
  let c3_i32_1028 : BitVec 32 := 3#32
  let v1056 : BitVec 32 := Scalar.addi v1055 c3_i32_1028
  let v1057 : BitVec 32 := Scalar.subi v1056 v1054
  let v1058 : BitVec 32 := Scalar.muli v1046 v1057
  let c1_i32_1029 : BitVec 32 := 1#32
  let v1059 : BitVec 32 := Scalar.subi c1_i32_1029 v1046
  let v1060 : BitVec 32 := Scalar.muli v1059 v1053
  let v1061 : BitVec 32 := Scalar.addi v1058 v1060
  let c1_i32_1030 : BitVec 32 := 1#32
  let v1062 : BitVec 32 := Scalar.addi v1061 c1_i32_1030
  let c2_i32_1032 : BitVec 32 := 2#32
  let c2_i32_1031 : BitVec 32 := 2#32
  let v1063 : BitVec 32 := Scalar.remsi v1061 c2_i32_1031
  let v1064 : BitVec 32 := Scalar.muli c2_i32_1032 v1063
  let v1065 : BitVec 32 := Scalar.subi v1062 v1064
  let v1066 : BitVec 32 := Scalar.muli v1028 v1065
  let c1_i32_1033 : BitVec 32 := 1#32
  let v1067 : BitVec 32 := Scalar.subi c1_i32_1033 v1028
  let v1068 : BitVec 32 := Scalar.muli v1067 v1061
  let v1069 : BitVec 32 := Scalar.addi v1066 v1068
  let c384_i32_1034 : BitVec 32 := 384#32
  let v1070 : BitVec 32 := Scalar.muli v1069 c384_i32_1034
  let c2_i32_1035 : BitVec 32 := 2#32
  let v1071 : BitVec 32 := Scalar.remsi v993 c2_i32_1035
  let c192_i32_1036 : BitVec 32 := 192#32
  let v1072 : BitVec 32 := Scalar.muli v1071 c192_i32_1036
  let v1073 : BitVec 32 := Scalar.addi v1070 v1072
  let c0_i32_1041 : BitVec 32 := 0#32
  ![v1073.toNat, 0]
def k0_cond3 (k0_t2 : Fin k0_t2_loop.trips) : BitVec 1 :=
  let c0_i32_94 : BitVec 32 := 0#32
  let c1_i32_96 : BitVec 32 := 1#32
  let arg27 : BitVec 32 := Scf.iv c0_i32_94 c1_i32_96 k0_t2
  let c3_i32_990 : BitVec 32 := 3#32
  let v972 : BitVec 1 := Scalar.cmpi .eq arg27 c3_i32_990
  let v973 : BitVec 32 := Scalar.extui v972
  let c0_i32_991 : BitVec 32 := 0#32
  let v974 : BitVec 1 := Scalar.cmpi .ne v973 c0_i32_991
  v974

def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_999 : BitVec 32 := 4#32
  let v993 : BitVec 32 := Scalar.remsi v2 c4_i32_999
  let v994 : BitVec 32 := Scalar.subi v2 v993
  let c3_i32_1000 : BitVec 32 := 3#32
  let v995 : BitVec 32 := Scalar.addi v994 c3_i32_1000
  let v996 : BitVec 32 := Scalar.subi v995 v993
  let c1_i32_1001 : BitVec 32 := 1#32
  let v997 : BitVec 32 := Scalar.addi v996 c1_i32_1001
  let c2_i32_1003 : BitVec 32 := 2#32
  let c2_i32_1002 : BitVec 32 := 2#32
  let v998 : BitVec 32 := Scalar.remsi v996 c2_i32_1002
  let v999 : BitVec 32 := Scalar.muli c2_i32_1003 v998
  let v1000 : BitVec 32 := Scalar.subi v997 v999
  let c384_i32_1004 : BitVec 32 := 384#32
  let v1001 : BitVec 32 := Scalar.muli v1000 c384_i32_1004
  let v1002 : Index := Scalar.indexCast v1001
  let c0_1005 : Index := 0#32
  ![v1002.toNat, 0]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1012 : BitVec 32 := 4#32
  let v1010 : BitVec 32 := Scalar.addi v2 c4_i32_1012
  let c8_i32_1013 : BitVec 32 := 8#32
  let v1011 : BitVec 32 := Scalar.remsi v1010 c8_i32_1013
  let c4_i32_1014 : BitVec 32 := 4#32
  let v1012 : BitVec 32 := Scalar.remsi v1011 c4_i32_1014
  let v1013 : BitVec 32 := Scalar.subi v1011 v1012
  let c3_i32_1015 : BitVec 32 := 3#32
  let v1014 : BitVec 32 := Scalar.addi v1013 c3_i32_1015
  let v1015 : BitVec 32 := Scalar.subi v1014 v1012
  let c1_i32_1016 : BitVec 32 := 1#32
  let v1016 : BitVec 32 := Scalar.addi v1015 c1_i32_1016
  let c2_i32_1018 : BitVec 32 := 2#32
  let c2_i32_1017 : BitVec 32 := 2#32
  let v1017 : BitVec 32 := Scalar.remsi v1015 c2_i32_1017
  let v1018 : BitVec 32 := Scalar.muli c2_i32_1018 v1017
  let v1019 : BitVec 32 := Scalar.subi v1016 v1018
  let c384_i32_1019 : BitVec 32 := 384#32
  let v1020 : BitVec 32 := Scalar.muli v1019 c384_i32_1019
  let v1021 : Index := Scalar.indexCast v1020
  let c0_1020 : Index := 0#32
  ![v1021.toNat, 0]
def k0_dev4 (d0 : Dev nD) : Nat :=
  let c0_i32_1036 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1028 : BitVec 32 := 1#32
  let v1029 : BitVec 32 := Scalar.addi v2 c1_i32_1028
  let c2_i32_1030 : BitVec 32 := 2#32
  let c2_i32_1029 : BitVec 32 := 2#32
  let v1030 : BitVec 32 := Scalar.remsi v2 c2_i32_1029
  let v1031 : BitVec 32 := Scalar.muli c2_i32_1030 v1030
  let v1032 : BitVec 32 := Scalar.subi v1029 v1031
  let c1_i32_1035 : BitVec 32 := 1#32
  let v1033 : BitVec 32 := Scalar.muli v1032 c1_i32_1035
  let v1034 : BitVec 32 := Scalar.addi c0_i32_1036 v1033
  v1034.toNat
def k0_cond4 (k0_t2 : Fin k0_t2_loop.trips) : BitVec 1 :=
  let c0_i32_94 : BitVec 32 := 0#32
  let c1_i32_96 : BitVec 32 := 1#32
  let arg27 : BitVec 32 := Scf.iv c0_i32_94 c1_i32_96 k0_t2
  let c5_i32 : BitVec 32 := 5#32
  let v975 : BitVec 1 := Scalar.cmpi .eq arg27 c5_i32
  let v976 : BitVec 32 := Scalar.extui v975
  let c0_i32_992 : BitVec 32 := 0#32
  let v977 : BitVec 1 := Scalar.cmpi .ne v976 c0_i32_992
  v977

def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_999 : BitVec 32 := 1#32
  let v993 : BitVec 32 := Scalar.addi v2 c1_i32_999
  let c2_i32_1001 : BitVec 32 := 2#32
  let c2_i32_1000 : BitVec 32 := 2#32
  let v994 : BitVec 32 := Scalar.remsi v2 c2_i32_1000
  let v995 : BitVec 32 := Scalar.muli c2_i32_1001 v994
  let v996 : BitVec 32 := Scalar.subi v993 v995
  let c4_i32_1002 : BitVec 32 := 4#32
  let v997 : BitVec 32 := Scalar.addi v996 c4_i32_1002
  let c8_i32_1003 : BitVec 32 := 8#32
  let v998 : BitVec 32 := Scalar.remsi v997 c8_i32_1003
  let c384_i32_1004 : BitVec 32 := 384#32
  let v999 : BitVec 32 := Scalar.muli v998 c384_i32_1004
  let v1000 : Index := Scalar.indexCast v999
  let c0_1005 : Index := 0#32
  ![v1000.toNat, 0]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1011 : BitVec 32 := 4#32
  let v1008 : BitVec 32 := Scalar.remsi v2 c4_i32_1011
  let v1009 : BitVec 32 := Scalar.subi v2 v1008
  let c3_i32_1012 : BitVec 32 := 3#32
  let v1010 : BitVec 32 := Scalar.addi v1009 c3_i32_1012
  let v1011 : BitVec 32 := Scalar.subi v1010 v1008
  let c1_i32_1013 : BitVec 32 := 1#32
  let v1012 : BitVec 32 := Scalar.addi v1011 c1_i32_1013
  let c2_i32_1015 : BitVec 32 := 2#32
  let c2_i32_1014 : BitVec 32 := 2#32
  let v1013 : BitVec 32 := Scalar.remsi v1011 c2_i32_1014
  let v1014 : BitVec 32 := Scalar.muli c2_i32_1015 v1013
  let v1015 : BitVec 32 := Scalar.subi v1012 v1014
  let c4_i32_1016 : BitVec 32 := 4#32
  let v1016 : BitVec 32 := Scalar.addi v1015 c4_i32_1016
  let c8_i32_1017 : BitVec 32 := 8#32
  let v1017 : BitVec 32 := Scalar.remsi v1016 c8_i32_1017
  let c384_i32_1018 : BitVec 32 := 384#32
  let v1018 : BitVec 32 := Scalar.muli v1017 c384_i32_1018
  let v1019 : Index := Scalar.indexCast v1018
  let c0_1019 : Index := 0#32
  ![v1019.toNat, 0]
def k0_dev5 (d0 : Dev nD) : Nat :=
  let c0_i32_1034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1027 : BitVec 32 := 4#32
  let v1027 : BitVec 32 := Scalar.addi v2 c4_i32_1027
  let c8_i32_1028 : BitVec 32 := 8#32
  let v1028 : BitVec 32 := Scalar.remsi v1027 c8_i32_1028
  let c1_i32_1033 : BitVec 32 := 1#32
  let v1029 : BitVec 32 := Scalar.muli v1028 c1_i32_1033
  let v1030 : BitVec 32 := Scalar.addi c0_i32_1034 v1029
  v1030.toNat
def k0_cond5 (k0_t2 : Fin k0_t2_loop.trips) : BitVec 1 :=
  let c0_i32_94 : BitVec 32 := 0#32
  let c1_i32_96 : BitVec 32 := 1#32
  let arg27 : BitVec 32 := Scf.iv c0_i32_94 c1_i32_96 k0_t2
  let c7_i32_993 : BitVec 32 := 7#32
  let v978 : BitVec 1 := Scalar.cmpi .eq arg27 c7_i32_993
  let v979 : BitVec 32 := Scalar.extui v978
  let c0_i32_994 : BitVec 32 := 0#32
  let v980 : BitVec 1 := Scalar.cmpi .ne v979 c0_i32_994
  v980

def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_999 : BitVec 32 := 1#32
  let v993 : BitVec 32 := Scalar.addi v2 c1_i32_999
  let c2_i32_1001 : BitVec 32 := 2#32
  let c2_i32_1000 : BitVec 32 := 2#32
  let v994 : BitVec 32 := Scalar.remsi v2 c2_i32_1000
  let v995 : BitVec 32 := Scalar.muli c2_i32_1001 v994
  let v996 : BitVec 32 := Scalar.subi v993 v995
  let c384_i32_1002 : BitVec 32 := 384#32
  let v997 : BitVec 32 := Scalar.muli v996 c384_i32_1002
  let v998 : Index := Scalar.indexCast v997
  let c0_1003 : Index := 0#32
  ![v998.toNat, 0]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1010 : BitVec 32 := 4#32
  let v1006 : BitVec 32 := Scalar.addi v2 c4_i32_1010
  let c8_i32_1011 : BitVec 32 := 8#32
  let v1007 : BitVec 32 := Scalar.remsi v1006 c8_i32_1011
  let c1_i32_1012 : BitVec 32 := 1#32
  let v1008 : BitVec 32 := Scalar.addi v1007 c1_i32_1012
  let c2_i32_1014 : BitVec 32 := 2#32
  let c2_i32_1013 : BitVec 32 := 2#32
  let v1009 : BitVec 32 := Scalar.remsi v1007 c2_i32_1013
  let v1010 : BitVec 32 := Scalar.muli c2_i32_1014 v1009
  let v1011 : BitVec 32 := Scalar.subi v1008 v1010
  let c384_i32_1015 : BitVec 32 := 384#32
  let v1012 : BitVec 32 := Scalar.muli v1011 c384_i32_1015
  let v1013 : Index := Scalar.indexCast v1012
  let c0_1016 : Index := 0#32
  ![v1013.toNat, 0]
def k0_dev6 (d0 : Dev nD) : Nat :=
  let c0_i32_1032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1024 : BitVec 32 := 1#32
  let v1021 : BitVec 32 := Scalar.addi v2 c1_i32_1024
  let c2_i32_1026 : BitVec 32 := 2#32
  let c2_i32_1025 : BitVec 32 := 2#32
  let v1022 : BitVec 32 := Scalar.remsi v2 c2_i32_1025
  let v1023 : BitVec 32 := Scalar.muli c2_i32_1026 v1022
  let v1024 : BitVec 32 := Scalar.subi v1021 v1023
  let c1_i32_1031 : BitVec 32 := 1#32
  let v1025 : BitVec 32 := Scalar.muli v1024 c1_i32_1031
  let v1026 : BitVec 32 := Scalar.addi c0_i32_1032 v1025
  v1026.toNat
def k0_cond6 (k0_t2 : Fin k0_t2_loop.trips) : BitVec 1 :=
  let c0_i32_94 : BitVec 32 := 0#32
  let c1_i32_96 : BitVec 32 := 1#32
  let arg27 : BitVec 32 := Scf.iv c0_i32_94 c1_i32_96 k0_t2
  let c9_i32 : BitVec 32 := 9#32
  let v981 : BitVec 1 := Scalar.cmpi .eq arg27 c9_i32
  let v982 : BitVec 32 := Scalar.extui v981
  let c0_i32_995 : BitVec 32 := 0#32
  let v983 : BitVec 1 := Scalar.cmpi .ne v982 c0_i32_995
  v983

def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_999 : BitVec 32 := 4#32
  let v993 : BitVec 32 := Scalar.addi v2 c4_i32_999
  let c8_i32_1000 : BitVec 32 := 8#32
  let v994 : BitVec 32 := Scalar.remsi v993 c8_i32_1000
  let c4_i32_1001 : BitVec 32 := 4#32
  let v995 : BitVec 32 := Scalar.remsi v994 c4_i32_1001
  let v996 : BitVec 32 := Scalar.subi v994 v995
  let c3_i32_1002 : BitVec 32 := 3#32
  let v997 : BitVec 32 := Scalar.addi v996 c3_i32_1002
  let v998 : BitVec 32 := Scalar.subi v997 v995
  let c384_i32_1003 : BitVec 32 := 384#32
  let v999 : BitVec 32 := Scalar.muli v998 c384_i32_1003
  let v1000 : Index := Scalar.indexCast v999
  let c0_1004 : Index := 0#32
  ![v1000.toNat, 0]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1010 : BitVec 32 := 1#32
  let v1008 : BitVec 32 := Scalar.addi v2 c1_i32_1010
  let c2_i32_1012 : BitVec 32 := 2#32
  let c2_i32_1011 : BitVec 32 := 2#32
  let v1009 : BitVec 32 := Scalar.remsi v2 c2_i32_1011
  let v1010 : BitVec 32 := Scalar.muli c2_i32_1012 v1009
  let v1011 : BitVec 32 := Scalar.subi v1008 v1010
  let c4_i32_1013 : BitVec 32 := 4#32
  let v1012 : BitVec 32 := Scalar.addi v1011 c4_i32_1013
  let c8_i32_1014 : BitVec 32 := 8#32
  let v1013 : BitVec 32 := Scalar.remsi v1012 c8_i32_1014
  let c4_i32_1015 : BitVec 32 := 4#32
  let v1014 : BitVec 32 := Scalar.remsi v1013 c4_i32_1015
  let v1015 : BitVec 32 := Scalar.subi v1013 v1014
  let c3_i32_1016 : BitVec 32 := 3#32
  let v1016 : BitVec 32 := Scalar.addi v1015 c3_i32_1016
  let v1017 : BitVec 32 := Scalar.subi v1016 v1014
  let c384_i32_1017 : BitVec 32 := 384#32
  let v1018 : BitVec 32 := Scalar.muli v1017 c384_i32_1017
  let v1019 : Index := Scalar.indexCast v1018
  let c0_1018 : Index := 0#32
  ![v1019.toNat, 0]
def k0_dev7 (d0 : Dev nD) : Nat :=
  let c0_i32_1033 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1026 : BitVec 32 := 4#32
  let v1027 : BitVec 32 := Scalar.remsi v2 c4_i32_1026
  let v1028 : BitVec 32 := Scalar.subi v2 v1027
  let c3_i32_1027 : BitVec 32 := 3#32
  let v1029 : BitVec 32 := Scalar.addi v1028 c3_i32_1027
  let v1030 : BitVec 32 := Scalar.subi v1029 v1027
  let c1_i32_1032 : BitVec 32 := 1#32
  let v1031 : BitVec 32 := Scalar.muli v1030 c1_i32_1032
  let v1032 : BitVec 32 := Scalar.addi c0_i32_1033 v1031
  v1032.toNat
def k0_cond7 (k0_t2 : Fin k0_t2_loop.trips) : BitVec 1 :=
  let c0_i32_94 : BitVec 32 := 0#32
  let c1_i32_96 : BitVec 32 := 1#32
  let arg27 : BitVec 32 := Scf.iv c0_i32_94 c1_i32_96 k0_t2
  let c11_i32 : BitVec 32 := 11#32
  let v984 : BitVec 1 := Scalar.cmpi .eq arg27 c11_i32
  let v985 : BitVec 32 := Scalar.extui v984
  let c0_i32_996 : BitVec 32 := 0#32
  let v986 : BitVec 1 := Scalar.cmpi .ne v985 c0_i32_996
  v986

def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_999 : BitVec 32 := 4#32
  let v993 : BitVec 32 := Scalar.remsi v2 c4_i32_999
  let v994 : BitVec 32 := Scalar.subi v2 v993
  let c3_i32_1000 : BitVec 32 := 3#32
  let v995 : BitVec 32 := Scalar.addi v994 c3_i32_1000
  let v996 : BitVec 32 := Scalar.subi v995 v993
  let c384_i32_1001 : BitVec 32 := 384#32
  let v997 : BitVec 32 := Scalar.muli v996 c384_i32_1001
  let v998 : Index := Scalar.indexCast v997
  let c0_1002 : Index := 0#32
  ![v998.toNat, 0]
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1008 : BitVec 32 := 1#32
  let v1006 : BitVec 32 := Scalar.addi v2 c1_i32_1008
  let c2_i32_1010 : BitVec 32 := 2#32
  let c2_i32_1009 : BitVec 32 := 2#32
  let v1007 : BitVec 32 := Scalar.remsi v2 c2_i32_1009
  let v1008 : BitVec 32 := Scalar.muli c2_i32_1010 v1007
  let v1009 : BitVec 32 := Scalar.subi v1006 v1008
  let c4_i32_1011 : BitVec 32 := 4#32
  let v1010 : BitVec 32 := Scalar.remsi v1009 c4_i32_1011
  let v1011 : BitVec 32 := Scalar.subi v1009 v1010
  let c3_i32_1012 : BitVec 32 := 3#32
  let v1012 : BitVec 32 := Scalar.addi v1011 c3_i32_1012
  let v1013 : BitVec 32 := Scalar.subi v1012 v1010
  let c384_i32_1013 : BitVec 32 := 384#32
  let v1014 : BitVec 32 := Scalar.muli v1013 c384_i32_1013
  let v1015 : Index := Scalar.indexCast v1014
  let c0_1014 : Index := 0#32
  ![v1015.toNat, 0]
def k0_dev8 (d0 : Dev nD) : Nat :=
  let c0_i32_1029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1022 : BitVec 32 := 4#32
  let v1023 : BitVec 32 := Scalar.remsi v2 c4_i32_1022
  let v1024 : BitVec 32 := Scalar.subi v2 v1023
  let c3_i32_1023 : BitVec 32 := 3#32
  let v1025 : BitVec 32 := Scalar.addi v1024 c3_i32_1023
  let v1026 : BitVec 32 := Scalar.subi v1025 v1023
  let c1_i32_1028 : BitVec 32 := 1#32
  let v1027 : BitVec 32 := Scalar.muli v1026 c1_i32_1028
  let v1028 : BitVec 32 := Scalar.addi c0_i32_1029 v1027
  v1028.toNat
def k0_cond8 (k0_t2 : Fin k0_t2_loop.trips) : BitVec 1 :=
  let c0_i32_94 : BitVec 32 := 0#32
  let c1_i32_96 : BitVec 32 := 1#32
  let arg27 : BitVec 32 := Scf.iv c0_i32_94 c1_i32_96 k0_t2
  let c13_i32 : BitVec 32 := 13#32
  let v987 : BitVec 1 := Scalar.cmpi .eq arg27 c13_i32
  let v988 : BitVec 32 := Scalar.extui v987
  let c0_i32_997 : BitVec 32 := 0#32
  let v989 : BitVec 1 := Scalar.cmpi .ne v988 c0_i32_997
  v989

def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_999 : BitVec 32 := 4#32
  let v993 : BitVec 32 := Scalar.addi v2 c4_i32_999
  let c8_i32_1000 : BitVec 32 := 8#32
  let v994 : BitVec 32 := Scalar.remsi v993 c8_i32_1000
  let c384_i32_1001 : BitVec 32 := 384#32
  let v995 : BitVec 32 := Scalar.muli v994 c384_i32_1001
  let v996 : Index := Scalar.indexCast v995
  let c0_1002 : Index := 0#32
  ![v996.toNat, 0]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1008 : BitVec 32 := 4#32
  let v1004 : BitVec 32 := Scalar.remsi v2 c4_i32_1008
  let v1005 : BitVec 32 := Scalar.subi v2 v1004
  let c3_i32_1009 : BitVec 32 := 3#32
  let v1006 : BitVec 32 := Scalar.addi v1005 c3_i32_1009
  let v1007 : BitVec 32 := Scalar.subi v1006 v1004
  let c4_i32_1010 : BitVec 32 := 4#32
  let v1008 : BitVec 32 := Scalar.addi v1007 c4_i32_1010
  let c8_i32_1011 : BitVec 32 := 8#32
  let v1009 : BitVec 32 := Scalar.remsi v1008 c8_i32_1011
  let c384_i32_1012 : BitVec 32 := 384#32
  let v1010 : BitVec 32 := Scalar.muli v1009 c384_i32_1012
  let v1011 : Index := Scalar.indexCast v1010
  let c0_1013 : Index := 0#32
  ![v1011.toNat, 0]
def k0_dev9 (d0 : Dev nD) : Nat :=
  let c0_i32_1028 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1021 : BitVec 32 := 4#32
  let v1019 : BitVec 32 := Scalar.addi v2 c4_i32_1021
  let c8_i32_1022 : BitVec 32 := 8#32
  let v1020 : BitVec 32 := Scalar.remsi v1019 c8_i32_1022
  let c1_i32_1027 : BitVec 32 := 1#32
  let v1021 : BitVec 32 := Scalar.muli v1020 c1_i32_1027
  let v1022 : BitVec 32 := Scalar.addi c0_i32_1028 v1021
  v1022.toNat
def k0_cond9 (k0_t2 : Fin k0_t2_loop.trips) : BitVec 1 :=
  let c0_i32_94 : BitVec 32 := 0#32
  let c1_i32_96 : BitVec 32 := 1#32
  let arg27 : BitVec 32 := Scf.iv c0_i32_94 c1_i32_96 k0_t2
  let c15_i32 : BitVec 32 := 15#32
  let v990 : BitVec 1 := Scalar.cmpi .eq arg27 c15_i32
  let v991 : BitVec 32 := Scalar.extui v990
  let c0_i32_998 : BitVec 32 := 0#32
  let v992 : BitVec 1 := Scalar.cmpi .ne v991 c0_i32_998
  v992

def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c384_i32_999 : BitVec 32 := 384#32
  let v993 : BitVec 32 := Scalar.muli v2 c384_i32_999
  let v994 : Index := Scalar.indexCast v993
  let c0_1000 : Index := 0#32
  ![v994.toNat, 0]
def k0_dev10 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_134 : BitVec 32 := 4#32
  let v167 : BitVec 32 := Scalar.remsi v2 c4_i32_134
  let v168 : BitVec 32 := Scalar.subi v2 v167
  let c3_i32_135 : BitVec 32 := 3#32
  let v169 : BitVec 32 := Scalar.addi v168 c3_i32_135
  let v170 : BitVec 32 := Scalar.subi v169 v167
  let c1_i32_140 : BitVec 32 := 1#32
  let v171 : BitVec 32 := Scalar.muli v170 c1_i32_140
  let v172 : BitVec 32 := Scalar.addi c0_i32_141 v171
  v172.toNat
def k0_dev11 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_159 : BitVec 32 := 4#32
  let v192 : BitVec 32 := Scalar.remsi v2 c4_i32_159
  let v193 : BitVec 32 := Scalar.subi v2 v192
  let c3_i32_160 : BitVec 32 := 3#32
  let v194 : BitVec 32 := Scalar.addi v193 c3_i32_160
  let v195 : BitVec 32 := Scalar.subi v194 v192
  let c1_i32_165 : BitVec 32 := 1#32
  let v196 : BitVec 32 := Scalar.muli v195 c1_i32_165
  let v197 : BitVec 32 := Scalar.addi c0_i32_166 v196
  v197.toNat
def k0_dev12 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_210 : BitVec 32 := 1#32
  let v233 : BitVec 32 := Scalar.addi v2 c1_i32_210
  let c2_i32_212 : BitVec 32 := 2#32
  let c2_i32_211 : BitVec 32 := 2#32
  let v234 : BitVec 32 := Scalar.remsi v2 c2_i32_211
  let v235 : BitVec 32 := Scalar.muli c2_i32_212 v234
  let v236 : BitVec 32 := Scalar.subi v233 v235
  let c1_i32_217 : BitVec 32 := 1#32
  let v237 : BitVec 32 := Scalar.muli v236 c1_i32_217
  let v238 : BitVec 32 := Scalar.addi c0_i32_218 v237
  v238.toNat
def k0_dev13 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_237 : BitVec 32 := 1#32
  let v258 : BitVec 32 := Scalar.addi v2 c1_i32_237
  let c2_i32_239 : BitVec 32 := 2#32
  let c2_i32_238 : BitVec 32 := 2#32
  let v259 : BitVec 32 := Scalar.remsi v2 c2_i32_238
  let v260 : BitVec 32 := Scalar.muli c2_i32_239 v259
  let v261 : BitVec 32 := Scalar.subi v258 v260
  let c1_i32_244 : BitVec 32 := 1#32
  let v262 : BitVec 32 := Scalar.muli v261 c1_i32_244
  let v263 : BitVec 32 := Scalar.addi c0_i32_245 v262
  v263.toNat
def k0_dev14 (d0 : Dev nD) : Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_288 : BitVec 32 := 4#32
  let v301 : BitVec 32 := Scalar.addi v2 c4_i32_288
  let c8_i32_289 : BitVec 32 := 8#32
  let v302 : BitVec 32 := Scalar.remsi v301 c8_i32_289
  let c1_i32_294 : BitVec 32 := 1#32
  let v303 : BitVec 32 := Scalar.muli v302 c1_i32_294
  let v304 : BitVec 32 := Scalar.addi c0_i32_295 v303
  v304.toNat
def k0_dev15 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_314 : BitVec 32 := 4#32
  let v324 : BitVec 32 := Scalar.addi v2 c4_i32_314
  let c8_i32_315 : BitVec 32 := 8#32
  let v325 : BitVec 32 := Scalar.remsi v324 c8_i32_315
  let c1_i32_320 : BitVec 32 := 1#32
  let v326 : BitVec 32 := Scalar.muli v325 c1_i32_320
  let v327 : BitVec 32 := Scalar.addi c0_i32_321 v326
  v327.toNat
def k0_dev16 (d0 : Dev nD) : Nat :=
  let c0_i32_520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_513 : BitVec 32 := 4#32
  let v483 : BitVec 32 := Scalar.addi v2 c4_i32_513
  let c8_i32_514 : BitVec 32 := 8#32
  let v484 : BitVec 32 := Scalar.remsi v483 c8_i32_514
  let c1_i32_519 : BitVec 32 := 1#32
  let v485 : BitVec 32 := Scalar.muli v484 c1_i32_519
  let v486 : BitVec 32 := Scalar.addi c0_i32_520 v485
  v486.toNat
def k0_dev17 (d0 : Dev nD) : Nat :=
  let c0_i32_609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_601 : BitVec 32 := 1#32
  let v551 : BitVec 32 := Scalar.addi v2 c1_i32_601
  let c2_i32_603 : BitVec 32 := 2#32
  let c2_i32_602 : BitVec 32 := 2#32
  let v552 : BitVec 32 := Scalar.remsi v2 c2_i32_602
  let v553 : BitVec 32 := Scalar.muli c2_i32_603 v552
  let v554 : BitVec 32 := Scalar.subi v551 v553
  let c1_i32_608 : BitVec 32 := 1#32
  let v555 : BitVec 32 := Scalar.muli v554 c1_i32_608
  let v556 : BitVec 32 := Scalar.addi c0_i32_609 v555
  v556.toNat
def k0_dev18 (d0 : Dev nD) : Nat :=
  let c0_i32_698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_691 : BitVec 32 := 4#32
  let v621 : BitVec 32 := Scalar.remsi v2 c4_i32_691
  let v622 : BitVec 32 := Scalar.subi v2 v621
  let c3_i32_692 : BitVec 32 := 3#32
  let v623 : BitVec 32 := Scalar.addi v622 c3_i32_692
  let v624 : BitVec 32 := Scalar.subi v623 v621
  let c1_i32_697 : BitVec 32 := 1#32
  let v625 : BitVec 32 := Scalar.muli v624 c1_i32_697
  let v626 : BitVec 32 := Scalar.addi c0_i32_698 v625
  v626.toNat
def k0_dev19 (d0 : Dev nD) : Nat :=
  let c0_i32_891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_886 : BitVec 32 := 1#32
  let v776 : BitVec 32 := Scalar.addi v2 c1_i32_886
  let c2_i32_888 : BitVec 32 := 2#32
  let c2_i32_887 : BitVec 32 := 2#32
  let v777 : BitVec 32 := Scalar.remsi v2 c2_i32_887
  let v778 : BitVec 32 := Scalar.muli c2_i32_888 v777
  let v779 : BitVec 32 := Scalar.subi v776 v778
  let c1_i32_890 : BitVec 32 := 1#32
  let v780 : BitVec 32 := Scalar.muli v779 c1_i32_890
  let v781 : BitVec 32 := Scalar.addi c0_i32_891 v780
  v781.toNat
def k0_dev20 (d0 : Dev nD) : Nat :=
  let c0_i32_896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_892 : BitVec 32 := 4#32
  let v782 : BitVec 32 := Scalar.remsi v2 c4_i32_892
  let v783 : BitVec 32 := Scalar.subi v2 v782
  let c3_i32_893 : BitVec 32 := 3#32
  let v784 : BitVec 32 := Scalar.addi v783 c3_i32_893
  let v785 : BitVec 32 := Scalar.subi v784 v782
  let c1_i32_895 : BitVec 32 := 1#32
  let v786 : BitVec 32 := Scalar.muli v785 c1_i32_895
  let v787 : BitVec 32 := Scalar.addi c0_i32_896 v786
  v787.toNat
def k0_dev21 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_897 : BitVec 32 := 4#32
  let v788 : BitVec 32 := Scalar.addi v2 c4_i32_897
  let c8_i32_898 : BitVec 32 := 8#32
  let v789 : BitVec 32 := Scalar.remsi v788 c8_i32_898
  let c1_i32_900 : BitVec 32 := 1#32
  let v790 : BitVec 32 := Scalar.muli v789 c1_i32_900
  let v791 : BitVec 32 := Scalar.addi c0_i32_901 v790
  v791.toNat
-- ==== ReferenceIdeal.lean ====
abbrev S3072x12288 : Shape := ⟨2, ![3072, 12288]⟩
abbrev S12288x3072 : Shape := ⟨2, ![12288, 3072]⟩
abbrev S3072x3072 : Shape := ⟨2, ![3072, 3072]⟩

abbrev nBuf : Space → Nat
  | .hbm => 3
  | .vmem => 0
  | .smem => 0
  | _ => 0

abbrev bufTy : (tb : Table) → Fin (tcTables nBuf tb) → BufTy
  | .hbm, ⟨0, _⟩ => ⟨S3072x12288, .f32⟩
  | .hbm, ⟨1, _⟩ => ⟨S12288x3072, .f32⟩
  | .hbm, ⟨2, _⟩ => ⟨S3072x3072, .f32⟩
  | _, _ => ⟨S3072x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.RS.Mesh.lean ====
/-
  The cube of eight devices: the three neighbours of a device, the axis each exchange runs along, the row block each
  product is about, and the program's device and offset chains read as these.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

namespace Cert.RS

open Cert.KernelIdeal Cert.KernelIdeal.Gen
open Idealize.ShloMosaic

/-! ## Neighbours -/

/-- Neighbour along the first axis (`p` with its last bit flipped). -/
def fx (p : Dev nD) : Dev nD := ⟨(p.val + 1 - 2 * (p.val % 2)) % 8, Nat.mod_lt _ (by decide)⟩
/-- Neighbour along the second axis (within a group of four, counted from the other end). -/
def fy (p : Dev nD) : Dev nD := ⟨(p.val - p.val % 4 + (3 - p.val % 4)) % 8, Nat.mod_lt _ (by decide)⟩
/-- Neighbour along the third axis (the same place in the other group of four). -/
def fz (p : Dev nD) : Dev nD := ⟨(p.val + 4) % 8, Nat.mod_lt _ (by decide)⟩

/-- Neighbour along axis `a`. -/
def ax (a : Fin 3) (p : Dev nD) : Dev nD := match a with | 0 => fx p | 1 => fy p | 2 => fz p

theorem ax_ax (a : Fin 3) (p : Dev nD) : ax a (ax a p) = p := by revert a p; decide
theorem ax_comm (a b : Fin 3) (p : Dev nD) : ax a (ax b p) = ax b (ax a p) := by revert a b p; decide

/-- Going to the neighbour, as a permutation. -/
def axE (a : Fin 3) : Dev nD ≃ Dev nD := ⟨ax a, ax a, ax_ax a, ax_ax a⟩

/-- The row block device `c` keeps in slot `mi` of column third `g`. -/
def wch (g : Fin 3) (mi : Fin 4) (c : Dev nD) : Dev nD := match mi with
  | 0 => c | 1 => ax (g + 2) c | 2 => ax (g + 1) c | 3 => ax (g + 1) (ax (g + 2) c)
/-- The row block it gives away from that slot: its first neighbour's. -/
def och (g : Fin 3) (mi : Fin 4) (c : Dev nD) : Dev nD := ax g (wch g mi c)

theorem och_ax (g : Fin 3) (mi : Fin 4) (c : Dev nD) : och g mi (ax g c) = wch g mi c := by revert g mi c; decide

/-- The row block device `c` converts `i`-th. -/
def ord (c : Dev nD) (i : ℕ) : Dev nD :=
  let p := if (7 - i) % 2 = 1 then fz c else c
  let p := if (7 - i) % 4 / 2 = 1 then fy p else p
  if (7 - i) / 4 = 1 then fx p else p

/-! ## Exchanges -/

/-- An exchange: which of the five kinds, and the column third. -/
abbrev X : Type := Fin 5 × Fin 3

/-- How far an exchange's axis is from its third's first: the first two kinds run along the first, the next two
    along the second, the last along the third. -/
def stage (k : Fin 5) : Fin 3 := match k with | 0 => 0 | 1 => 0 | 2 => 1 | 3 => 1 | 4 => 2
/-- The device an exchange is with. -/
def peer (x : X) (c : Dev nD) : Dev nD := ax (x.2 + stage x.1) c
theorem peer_peer (x : X) (c : Dev nD) : peer x (peer x c) = c := ax_ax _ c
def peerE (x : X) : Dev nD ≃ Dev nD := axE (x.2 + stage x.1)

/-! ## The program's chains -/

theorem dev1_eq (c : Dev nD) : (⟨k0_dev1 c, k0_dev1_lt c⟩ : Dev nD) = ax 0 c := by revert c; decide +kernel
theorem dev2_eq (c : Dev nD) : (⟨k0_dev2 c, k0_dev2_lt c⟩ : Dev nD) = ax 1 c := by revert c; decide +kernel
theorem dev3_eq (c : Dev nD) : (⟨k0_dev3 c, k0_dev3_lt c⟩ : Dev nD) = ax 2 c := by revert c; decide +kernel
theorem dev19_eq (c : Dev nD) : (⟨k0_dev19 c, k0_dev19_lt c⟩ : Dev nD) = ax 0 c := by revert c; decide +kernel
theorem dev20_eq (c : Dev nD) : (⟨k0_dev20 c, k0_dev20_lt c⟩ : Dev nD) = ax 1 c := by revert c; decide +kernel
theorem dev21_eq (c : Dev nD) : (⟨k0_dev21 c, k0_dev21_lt c⟩ : Dev nD) = ax 2 c := by revert c; decide +kernel
theorem dev4_eq (c : Dev nD) : k0_dev4 c = (peer (0, 0) c).val := by revert c; decide +kernel
theorem dev5_eq (c : Dev nD) : k0_dev5 c = (peer (0, 2) c).val := by revert c; decide +kernel
theorem dev6_eq (c : Dev nD) : k0_dev6 c = (peer (1, 0) c).val := by revert c; decide +kernel
theorem dev7_eq (c : Dev nD) : k0_dev7 c = (peer (0, 1) c).val := by revert c; decide +kernel
theorem dev8_eq (c : Dev nD) : k0_dev8 c = (peer (1, 1) c).val := by revert c; decide +kernel
theorem dev9_eq (c : Dev nD) : k0_dev9 c = (peer (1, 2) c).val := by revert c; decide +kernel
theorem dev10_eq (c : Dev nD) : k0_dev10 c = (peer (2, 0) c).val := by revert c; decide +kernel
theorem dev11_eq (c : Dev nD) : k0_dev11 c = (peer (3, 0) c).val := by revert c; decide +kernel
theorem dev12_eq (c : Dev nD) : k0_dev12 c = (peer (2, 2) c).val := by revert c; decide +kernel
theorem dev13_eq (c : Dev nD) : k0_dev13 c = (peer (3, 2) c).val := by revert c; decide +kernel
theorem dev14_eq (c : Dev nD) : k0_dev14 c = (peer (2, 1) c).val := by revert c; decide +kernel
theorem dev15_eq (c : Dev nD) : k0_dev15 c = (peer (3, 1) c).val := by revert c; decide +kernel
theorem dev16_eq (c : Dev nD) : k0_dev16 c = (peer (4, 0) c).val := by revert c; decide +kernel
theorem dev17_eq (c : Dev nD) : k0_dev17 c = (peer (4, 1) c).val := by revert c; decide +kernel
theorem dev18_eq (c : Dev nD) : k0_dev18 c = (peer (4, 2) c).val := by revert c; decide +kernel

/-- Where a row block of 384 rows starts. -/
def rowOff (p : Dev nD) : Fin 2 → ℕ := ![384 * p.val, 0]
/-- Where half `t % 2` of the `t / 2`-th converted row block starts. -/
def halfOff (c : Dev nD) (t : ℕ) : Fin 2 → ℕ := ![384 * (ord c (t / 2)).val + 192 * (t % 2), 0]

theorem off21_eq (c : Dev nD) : k0_off21 c = rowOff (och 0 2 c) := by revert c; decide +kernel
theorem off22_eq (c : Dev nD) : k0_off22 c = rowOff (och 0 3 c) := by revert c; decide +kernel
theorem off23_eq (c : Dev nD) : k0_off23 c = rowOff (och 2 2 c) := by revert c; decide +kernel
theorem off24_eq (c : Dev nD) : k0_off24 c = rowOff (och 2 3 c) := by revert c; decide +kernel
theorem off25_eq (c : Dev nD) : k0_off25 c = rowOff (och 0 0 c) := by revert c; decide +kernel
theorem off26_eq (c : Dev nD) : k0_off26 c = rowOff (och 0 1 c) := by revert c; decide +kernel
theorem off27_eq (c : Dev nD) : k0_off27 c = rowOff (och 1 2 c) := by revert c; decide +kernel
theorem off28_eq (c : Dev nD) : k0_off28 c = rowOff (och 1 3 c) := by revert c; decide +kernel
theorem off29_eq (c : Dev nD) : k0_off29 c = rowOff (och 1 0 c) := by revert c; decide +kernel
theorem off30_eq (c : Dev nD) : k0_off30 c = rowOff (och 1 1 c) := by revert c; decide +kernel
theorem off31_eq (c : Dev nD) : k0_off31 c = rowOff (och 2 0 c) := by revert c; decide +kernel
theorem off32_eq (c : Dev nD) : k0_off32 c = rowOff (och 2 1 c) := by revert c; decide +kernel
theorem off33_eq (c : Dev nD) : k0_off33 c = rowOff c := by revert c; decide +kernel
theorem off15_eq (c : Dev nD) (t : Fin k0_t2_loop.trips) : k0_off15 c t = halfOff c t.val := by revert c t; decide +kernel
theorem off17_eq (c : Dev nD) (t : Fin k0_t2_loop.trips) : k0_off17 c t = halfOff c t.val := by revert c t; decide +kernel
theorem off20_eq (c : Dev nD) (t : Fin k0_t2_loop.trips) (h : t.val + 2 < 16) : k0_off20 c t = halfOff c (t.val + 2) := by
  revert c t; decide +kernel
theorem off4_eq (c : Dev nD) (r : Fin 2) : k0_off4 c (BitVec.ofNat 32 r.val) = halfOff c r.val := by
  revert c r; decide +kernel

theorem cond1_iff (t : Fin k0_t1_loop.trips) : k0_cond1 t = 1#1 ↔ t.val + 2 < 16 := by revert t; decide +kernel
theorem cond2_iff (t : Fin k0_t2_loop.trips) : k0_cond2 t = 1#1 ↔ t.val + 2 < 16 := by revert t; decide +kernel
theorem cond3_iff (t : Fin k0_t2_loop.trips) : k0_cond3 t = 1#1 ↔ t.val = 3 := by revert t; decide +kernel
theorem cond4_iff (t : Fin k0_t2_loop.trips) : k0_cond4 t = 1#1 ↔ t.val = 5 := by revert t; decide +kernel
theorem cond5_iff (t : Fin k0_t2_loop.trips) : k0_cond5 t = 1#1 ↔ t.val = 7 := by revert t; decide +kernel
theorem cond6_iff (t : Fin k0_t2_loop.trips) : k0_cond6 t = 1#1 ↔ t.val = 9 := by revert t; decide +kernel
theorem cond7_iff (t : Fin k0_t2_loop.trips) : k0_cond7 t = 1#1 ↔ t.val = 11 := by revert t; decide +kernel
theorem cond8_iff (t : Fin k0_t2_loop.trips) : k0_cond8 t = 1#1 ↔ t.val = 13 := by revert t; decide +kernel
theorem cond9_iff (t : Fin k0_t2_loop.trips) : k0_cond9 t = 1#1 ↔ t.val = 15 := by revert t; decide +kernel

end Cert.RS
-- ==== Proof.RS.Cells.lean ====
/-
  The resource algebra, the pieces of the buffers that travel, what they hold, and the schedule of every semaphore
  cell: one round per cell, each duty's amount and what it hands over.
-/
module

public import proofs.«01_k».proof.Proof.RS.Mesh

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F]

/-! ## The resource algebra -/

/-- The rounds of the exchange's cells (duties named by an axis), and the local copies' counters. -/
abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER (F := F)).LandsIn (upEmb : UEmb _ 𝕄) := by unfold ER; infer_instance
abbrev EC : UEmb Counters (MT nD τ sig Unit (Elt F) ℕ UU ℕ) :=
  ((UEmb.inr : UEmb Counters (UB × Counters)).trans (UEmb.inr : UEmb (UB × Counters) UU)).trans
    (uEmb (nD := nD) (sig := sig) (Ix := Unit) (Val := Elt F) (Name := ℕ) (U := UU) (Lvl := ℕ))

abbrev 𝒱₀ : Variants := Variants.none

/-! ## Contents -/

abbrev Slot (F : FTy → Type) : Type := Vec F S1x1x384x1024 .bf16
abbrev Stack (n : ℕ) : Shape := ⟨4, ![3, n, 384, 1024]⟩

/-- An array of slots: element `(g, j, r, s)` is element `(r, s)` of slot `(g, j)`. -/
def stk {n : ℕ} (v : Fin 3 → Fin n → Slot F) : (Stack n).Idx → Elt F .bf16 :=
  fun i => v (i 0) (i 1) (ix4 (0 : Fin 1) (0 : Fin 1) (i 2) (i 3))

/-- A partial product: a row block of `a` times a column third of `b`, accumulated at single precision and narrowed. -/
def prod (a : Vec F S384x1536 .bf16) (b : Vec F S1536x1024 .bf16) : Slot F := k0_pay1 a b
/-- The narrowed sum of two slots, and the sum as it is. -/
def comb (v w : Slot F) : Slot F := k0_pay34 v w
def combF (v w : Slot F) : Vec F S1x384x1024 .f32 := k0_pay55 v w

variable (m : (ℓ : Loc nD τ sig) → Buf (Elt F) ℓ) (ρ : Dev nD → PrngReg)

/-- Device `c`'s two operands, and the two narrowed. -/
def Ain (c : Dev nD) : S3072x1536.Idx → Elt F .f32 := m ((c : Thread nD τ).loc main_arg0)
def Bin (c : Dev nD) : S1536x3072.Idx → Elt F .f32 := m ((c : Thread nD τ).loc main_arg1)
def A16 (c : Dev nD) : Vec F S3072x1536 .bf16 := truncf .bf16 (Ain m c) bitsLt_bf16_f32
def B16 (c : Dev nD) : Vec F S1536x3072 .bf16 := truncf .bf16 (Bin m c) bitsLt_bf16_f32

/-- Row block `p` and column third `g` of them. -/
def rowsOf (c : Dev nD) (p : Dev nD) : Vec F S384x1536 .bf16 := fun i =>
  A16 m c (ix2 (n0 := 3072) (n1 := 1536) ⟨384 * p.val + (i 0).val, by have := p.isLt; have h : (i 0).val < 384 := (i 0).isLt; simp only [nD] at this; omega⟩ (i 1))
def colsOf (c : Dev nD) (g : Fin 3) : Vec F S1536x1024 .bf16 := fun i =>
  B16 m c (ix2 (n0 := 1536) (n1 := 3072) (i 0) ⟨1024 * g.val + (i 1).val, by have := g.isLt; have h : (i 1).val < 1024 := (i 1).isLt; omega⟩)

/-- The partial product device `c` makes for row block `p` and column third `g`. -/
def pp (c p : Dev nD) (g : Fin 3) : Slot F := prod (rowsOf m c p) (colsOf m c g)
/-- What it gives away at the first exchange, what it keeps, what it gets, and the sum. -/
def SB1 (c : Dev nD) (g : Fin 3) (j : Fin 4) : Slot F := pp m c (och g j c) g
def W0 (c : Dev nD) (g : Fin 3) (j : Fin 4) : Slot F := pp m c (wch g j c) g
def RB1 (c : Dev nD) (g : Fin 3) (j : Fin 4) : Slot F := SB1 m (ax g c) g j
def W1 (c : Dev nD) (g : Fin 3) (j : Fin 4) : Slot F := comb (W0 m c g j) (RB1 m c g j)
/-- What it gets at the second exchange, and the sums. -/
def RB2 (c : Dev nD) (g : Fin 3) (j : Fin 2) : Slot F := W1 m (ax (g + 1) c) g ⟨2 + j.val, by omega⟩
def W2 (c : Dev nD) (g : Fin 3) (j : Fin 4) : Slot F := comb (W1 m c g j) (RB2 m c g ⟨j.val % 2, by omega⟩)
/-- What it gets at the third exchange, and the column third of the result. -/
def RB3 (c : Dev nD) (g : Fin 3) (j : Fin 1) : Slot F := W2 m (ax (g + 2) c) g 1
def W3 (c : Dev nD) (g : Fin 3) : Vec F S1x384x1024 .f32 := combF (W2 m c g 0) (RB3 m c g 0)

/-! ## Pieces -/

open Classical in
/-- Slots `lo … lo + k - 1` of third `g`. -/
def reg (n : ℕ) (g : Fin 3) (lo k : ℕ) : Finset (Stack n).Idx :=
  Finset.univ.filter fun i => i 0 = g ∧ lo ≤ (i 1).val ∧ (i 1).val < lo + k

theorem mem_reg {n : ℕ} {g : Fin 3} {lo k : ℕ} {i : (Stack n).Idx} :
    i ∈ reg n g lo k ↔ i 0 = g ∧ lo ≤ (i 1).val ∧ (i 1).val < lo + k := by simp [reg]

variable (F) in
abbrev C4 (n : ℕ) : Type := (Stack n).Idx → Elt F .bf16

/-- The pieces of the send, landing and working buffers on device `c`. -/
def sbP (c : Dev nD) (g : Fin 3) (lo k : ℕ) (f : C4 F 4) : sProp 𝕄 := ((c : Thread nD τ).loc cc0_scratch4) ↦[reg 4 g lo k]{fullShare} f
def rb1P (c : Dev nD) (g : Fin 3) (lo k : ℕ) (f : C4 F 4) : sProp 𝕄 := ((c : Thread nD τ).loc cc0_scratch5) ↦[reg 4 g lo k]{fullShare} f
def wP (c : Dev nD) (g : Fin 3) (lo k : ℕ) (f : C4 F 4) : sProp 𝕄 := ((c : Thread nD τ).loc cc0_scratch6) ↦[reg 4 g lo k]{fullShare} f
def rb2P (c : Dev nD) (g : Fin 3) (lo k : ℕ) (f : C4 F 2) : sProp 𝕄 := ((c : Thread nD τ).loc cc0_scratch7) ↦[reg 2 g lo k]{fullShare} f
def rb3P (c : Dev nD) (g : Fin 3) (lo k : ℕ) (f : C4 F 1) : sProp 𝕄 := ((c : Thread nD τ).loc cc0_scratch8) ↦[reg 1 g lo k]{fullShare} f

/-- What exchange `x` lands in on device `n`, at whatever it holds. -/
def dstAny (x : X) (n : Dev nD) : sProp 𝕄 := match x.1 with
  | 0 => iprop(∃ f, rb1P n x.2 2 2 f) | 1 => iprop(∃ f, rb1P n x.2 0 2 f)
  | 2 => iprop(∃ f, rb2P n x.2 1 1 f) | 3 => iprop(∃ f, rb2P n x.2 0 1 f)
  | 4 => iprop(∃ f, rb3P n x.2 0 1 f)
/-- What it sends from on device `c`. -/
def sendPay (x : X) (c : Dev nD) : sProp 𝕄 := match x.1 with
  | 0 => sbP c x.2 2 2 (stk (SB1 m c)) | 1 => sbP c x.2 0 2 (stk (SB1 m c))
  | 2 => wP c x.2 3 1 (stk (W1 m c)) | 3 => wP c x.2 2 1 (stk (W1 m c))
  | 4 => wP c x.2 1 1 (stk (W2 m c))
/-- What has landed on device `c`. -/
def recvPay (x : X) (c : Dev nD) : sProp 𝕄 := match x.1 with
  | 0 => rb1P c x.2 2 2 (stk (RB1 m c)) | 1 => rb1P c x.2 0 2 (stk (RB1 m c))
  | 2 => rb2P c x.2 1 1 (stk (RB2 m c)) | 3 => rb2P c x.2 0 1 (stk (RB2 m c))
  | 4 => rb3P c x.2 0 1 (stk (RB3 m c))

/-- The exchange of kind `k` that runs along axis `a`. -/
def alongX (a : Fin 3) (k : Fin 5) : X := (k, a - stage k)
theorem peer_along (a : Fin 3) (k : Fin 5) (c : Dev nD) : peer (alongX a k) c = ax a c := by
  revert a k c; decide
/-- What device `c` receives with the entry signal from its neighbour along axis `a`: everywhere it will write there. -/
def barPay (c : Dev nD) (a : Fin 3) : sProp 𝕄 := bigSep Finset.univ fun k : Fin 5 => dstAny (alongX a k) (ax a c)

instance dstAny_storable (x : X) (n : Dev nD) : BI.Storable (upEmb : UEmb _ 𝕄) (dstAny (F := F) x n) := by
  unfold dstAny rb1P rb2P rb3P; split <;> infer_instance
instance sendPay_storable (x : X) (c : Dev nD) : BI.Storable (upEmb : UEmb _ 𝕄) (sendPay m x c) := by
  unfold sendPay sbP wP; split <;> infer_instance
instance recvPay_storable (x : X) (c : Dev nD) : BI.Storable (upEmb : UEmb _ 𝕄) (recvPay m x c) := by
  unfold recvPay rb1P rb2P rb3P; split <;> infer_instance
instance barPay_storable (c : Dev nD) (a : Fin 3) : BI.Storable (upEmb : UEmb _ 𝕄) (barPay (F := F) c a) := by
  unfold barPay; infer_instance

/-! ## The cells -/

/-- The entry barrier's semaphore, the exit's, and each exchange's two. -/
abbrev barS : Sem sig := (SemArray.scalar (sig.barrier 0 rfl) : Sems sig S_).sem
abbrev exitS : Sem sig := (cc0_scratch23 : Sems sig S_).sem
def sendS (x : X) : DmaSem sig := ⟨6 + 6 * x.1.val + x.2.val, by have := x.1.isLt; have := x.2.isLt; show _ < 36; omega⟩
def recvS (x : X) : DmaSem sig := ⟨9 + 6 * x.1.val + x.2.val, by have := x.1.isLt; have := x.2.isLt; show _ < 36; omega⟩

abbrev barCell (c : Dev nD) : GSem nD τ sig := ((c : Thread nD τ), .reg barS)
abbrev exitCell (c : Dev nD) : GSem nD τ sig := ((c : Thread nD τ), .reg exitS)
abbrev sendCell (x : X) (c : Dev nD) : GSem nD τ sig := ((c : Thread nD τ), .dma (sendS x))
abbrev recvCell (x : X) (c : Dev nD) : GSem nD τ sig := ((c : Thread nD τ), .dma (recvS x))

/-- The exchange a DMA semaphore belongs to, and whether it is the receiving one. -/
def xOf (q : DmaSem sig) : X := (⟨(q.val - 6) / 6, by have h : q.val < 36 := q.isLt; omega⟩, ⟨q.val % 3, by omega⟩)
def isRecv (q : DmaSem sig) : Bool := decide (3 ≤ (q.val - 6) % 6)
theorem xOf_send (x : X) : xOf (sendS x) = x := by revert x; decide
theorem xOf_recv (x : X) : xOf (recvS x) = x := by revert x; decide
theorem isRecv_send (x : X) : isRecv (sendS x) = false := by revert x; decide
theorem isRecv_recv (x : X) : isRecv (recvS x) = true := by revert x; decide
theorem six_send (x : X) : 6 ≤ (sendS x).val := by revert x; decide
theorem six_recv (x : X) : 6 ≤ (recvS x).val := by revert x; decide

/-- What a transfer of kind `k` credits. -/
def amt (k : Fin 5) : ℕ := match k with
  | 0 => cc0_scratch5.dmaCredit S2x384x1024 .bf16 | 1 => cc0_scratch5.dmaCredit S2x384x1024 .bf16
  | 2 => cc0_scratch7.dmaCredit S1x384x1024 .bf16 | 3 => cc0_scratch7.dmaCredit S1x384x1024 .bf16
  | 4 => cc0_scratch8.dmaCredit S1x384x1024 .bf16
theorem amt_pos (k : Fin 5) : 0 < amt k := by revert k; decide +kernel

/-! ## The schedule -/

def Rd : Rounds.Schedule (GSem nD τ sig) (Fin 3) 𝕄 where
  duties g r := if r = 0 ∧ g.1.2 = .tc then (match g.2 with | .reg _ => Finset.univ | .dma q => if 6 ≤ q.val then {0} else ∅) else ∅
  unitless _ := False
  amount g _ _ := match g.2 with | .reg _ => 1 | .dma q => amt (xOf q).1
  payload g _ d := match g.2 with
    | .reg s => if s = barS then barPay g.1.1 d else iprop(emp)
    | .dma q => if isRecv q then recvPay m (xOf q) g.1.1 else sendPay m (xOf q) g.1.1
  amount_pos g _ _ _ := by
    match g.2 with
    | .reg _ => exact Nat.one_pos
    | .dma q => exact amt_pos _

instance Rd_payload_storable (g : GSem nD τ sig) (r : ℕ) (d : Fin 3) :
    BI.Storable (upEmb : UEmb _ 𝕄) ((Rd (F := F) m).payload g r d) := by
  obtain ⟨t, sm⟩ := g
  cases sm with
  | reg s =>
    show BI.Storable upEmb (if s = barS then barPay t.1 d else iprop(emp))
    split <;> infer_instance
  | dma q =>
    show BI.Storable upEmb (if isRecv q = true then recvPay m (xOf q) t.1 else sendPay m (xOf q) t.1)
    split <;> infer_instance

theorem exit_ne_bar : exitS ≠ barS := by decide

section Sched
variable (c : Dev nD) (x : X)

theorem duties_bar : (Rd (F := F) m).duties (barCell c) 0 = Finset.univ := by dsimp only [Rd]; exact if_pos ⟨rfl, rfl⟩
theorem duties_exit : (Rd (F := F) m).duties (exitCell c) 0 = Finset.univ := by dsimp only [Rd]; exact if_pos ⟨rfl, rfl⟩
theorem duties_send : (Rd (F := F) m).duties (sendCell x c) 0 = {0} := by
  dsimp only [Rd]; exact (if_pos ⟨rfl, rfl⟩).trans (if_pos (six_send x))
theorem duties_recv : (Rd (F := F) m).duties (recvCell x c) 0 = {0} := by
  dsimp only [Rd]; exact (if_pos ⟨rfl, rfl⟩).trans (if_pos (six_recv x))
theorem duties_later (g : GSem nD τ sig) : ∀ r, 1 ≤ r → (Rd (F := F) m).duties g r = ∅ :=
  fun r hr => if_neg fun h => by omega

theorem amount_bar (d : Fin 3) : (Rd (F := F) m).amount (barCell c) 0 d = 1 := rfl
theorem amount_exit (d : Fin 3) : (Rd (F := F) m).amount (exitCell c) 0 d = 1 := rfl
theorem amount_send (d : Fin 3) : (Rd (F := F) m).amount (sendCell x c) 0 d = amt x.1 := by
  show amt (xOf (sendS x)).1 = _; rw [xOf_send]
theorem amount_recv (d : Fin 3) : (Rd (F := F) m).amount (recvCell x c) 0 d = amt x.1 := by
  show amt (xOf (recvS x)).1 = _; rw [xOf_recv]

theorem expect_bar : (Rd (F := F) m).expect (barCell c) 0 = 3 := by
  unfold Schedule.expect Schedule.amountOf; rw [duties_bar]; rfl
theorem expect_exit : (Rd (F := F) m).expect (exitCell c) 0 = 3 := by
  unfold Schedule.expect Schedule.amountOf; rw [duties_exit]; rfl
theorem expect_send : (Rd (F := F) m).expect (sendCell x c) 0 = amt x.1 := by
  unfold Schedule.expect Schedule.amountOf; rw [duties_send, Finset.sum_singleton, amount_send]
theorem expect_recv : (Rd (F := F) m).expect (recvCell x c) 0 = amt x.1 := by
  unfold Schedule.expect Schedule.amountOf; rw [duties_recv, Finset.sum_singleton, amount_recv]

theorem payload_bar (d : Fin 3) : (Rd (F := F) m).payload (barCell c) 0 d = barPay c d := by dsimp only [Rd]; exact if_pos rfl
theorem payload_exit (d : Fin 3) : (Rd (F := F) m).payload (exitCell c) 0 d = iprop(emp) := by dsimp only [Rd]; exact if_neg exit_ne_bar
theorem payload_send (d : Fin 3) : (Rd (F := F) m).payload (sendCell x c) 0 d = sendPay m x c := by
  show (if isRecv (sendS x) = true then _ else sendPay m (xOf (sendS x)) c) = _
  rw [isRecv_send, xOf_send]; rfl
theorem payload_recv (d : Fin 3) : (Rd (F := F) m).payload (recvCell x c) 0 d = recvPay m x c := by
  show (if isRecv (recvS x) = true then recvPay m (xOf (recvS x)) c else _) = _
  rw [isRecv_recv, xOf_recv]; rfl

theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]; rfl
theorem rest_send : bigSep ((Rd (F := F) m).duties (sendCell x c) 0 \ ∅) (fun d => (Rd (F := F) m).payload (sendCell x c) 0 d) = sendPay m x c := by
  rw [Finset.sdiff_empty, duties_send, bigSep_singleton, payload_send]
theorem rest_recv : bigSep ((Rd (F := F) m).duties (recvCell x c) 0 \ ∅) (fun d => (Rd (F := F) m).payload (recvCell x c) 0 d) = recvPay m x c := by
  rw [Finset.sdiff_empty, duties_recv, bigSep_singleton, payload_recv]
end Sched

/-! ## What a device owes, in the order it pays -/

/-- A payment: the entry signal along an axis, an exchange's landing, the exit signal along an axis. -/
inductive Debt | bar (a : Fin 3) | xf (x : X) | ex (a : Fin 3)
deriving DecidableEq

/-- The cell it goes to, from device `c`, and its amount; the cell's level. -/
def Debt.cell (c : Dev nD) : Debt → GSem nD τ sig
  | .bar a => barCell (ax a c) | .xf x => recvCell x (peer x c) | .ex a => exitCell (ax a c)
def Debt.amt : Debt → ℕ | .bar _ => 1 | .xf x => RS.amt x.1 | .ex _ => 1
def Debt.lev : Debt → ℕ | .bar _ => 1 | .xf x => 2 + (stage x.1).val | .ex _ => 5

def debts (c : Dev nD) : List Debt → CellTallies nD τ sig Unit
  | [] => 0
  | d :: l => debts c l + tallyAt (d.cell c) () d.amt

/-- Every payment, first to last. -/
def allDebts : List Debt := [.bar 0, .bar 1, .bar 2,
  .xf (0, 0), .xf (0, 2), .xf (1, 0), .xf (0, 1), .xf (1, 1), .xf (1, 2),
  .xf (2, 0), .xf (3, 0), .xf (2, 2), .xf (3, 2), .xf (2, 1), .xf (3, 1),
  .xf (4, 0), .xf (4, 1), .xf (4, 2), .ex 0, .ex 1, .ex 2]

def L (g : GSem nD τ sig) : Finset Unit := if g.1.2 = .tc then {()} else ∅
/-- Levels: local copies and sends 0, the entry barrier 1, the three exchanges' landings 2, 3, 4, the exit 5. -/
def lv (g : GSem nD τ sig) (_ : Unit) : ℕ := match g.2 with
  | .reg s => if s = barS then 1 else 5
  | .dma q => if 6 ≤ q.val ∧ isRecv q then 2 + (stage (xOf q).1).val else 0

theorem L_tc (c : Dev nD) (sm : SemLoc sig) : L ((c : Thread nD τ), sm) = {()} := if_pos rfl

theorem lv_debt (c : Dev nD) (d : Debt) : lv (d.cell c) () = d.lev := by
  cases d with
  | bar a => dsimp only [lv, Debt.cell]; exact if_pos rfl
  | xf x =>
    show (if 6 ≤ (recvS x).val ∧ isRecv (recvS x) = true then 2 + (stage (xOf (recvS x)).1).val else 0) = _
    rw [if_pos ⟨six_recv x, isRecv_recv x⟩, xOf_recv]; rfl
  | ex a => dsimp only [lv, Debt.cell]; exact if_neg exit_ne_bar
theorem L_debt (c : Dev nD) (d : Debt) : L (d.cell c) = {()} := by cases d <;> exact if_pos rfl

theorem debts_pos {c : Dev nD} {l : List Debt} {g : GSem nD τ sig} {u : Unit} (h : 0 < debts c l g u) :
    ∃ d ∈ l, g = d.cell c := by
  induction l with
  | nil => exact absurd h (Nat.lt_irrefl 0)
  | cons d l ih =>
    rw [debts, Pi.add_apply, Finsupp.add_apply, tallyAt_apply] at h
    by_cases hg : g = d.cell c ∧ u = ()
    · exact ⟨d, List.mem_cons_self .., hg.1⟩
    · rw [if_neg hg, Nat.add_zero] at h
      obtain ⟨d', hd, e⟩ := ih h
      exact ⟨d', List.mem_cons_of_mem _ hd, e⟩

/-- A wait at a cell of level `b` while owing only payments above `b`. -/
theorem mayWait_debts (c : Dev nD) (sm : SemLoc sig) (b : ℕ) (hb : lv ((c : Thread nD τ), sm) () = b) (l : List Debt)
    (hl : ∀ d ∈ l, b < d.lev) : (levAts L lv : sProp 𝕄) ⊢ MayWait (c : Thread nD τ) sm () (debts c l) :=
  MayOwe.of_cut (L := L) (lev := lv) b (fun p hp => by rw [Finset.mem_singleton.mp hp, L_tc]; exact Finset.mem_singleton_self _)
    (fun g u hg => by obtain ⟨d, _, rfl⟩ := debts_pos hg; rw [L_debt]; exact Finset.mem_singleton_self _)
    (fun p hp => by rw [Finset.mem_singleton.mp hp]; exact le_of_eq hb)
    (fun g u hg => by obtain ⟨d, hd, rfl⟩ := debts_pos hg; cases u; rw [lv_debt]; exact hl d hd)

theorem lv_bar (c : Dev nD) : lv (barCell c) () = 1 := by dsimp only [lv]; exact if_pos rfl
theorem lv_exit (c : Dev nD) : lv (exitCell c) () = 5 := by dsimp only [lv]; exact if_neg exit_ne_bar
theorem lv_send (x : X) (c : Dev nD) : lv (sendCell x c) () = 0 := by
  show (if 6 ≤ (sendS x).val ∧ isRecv (sendS x) = true then _ else 0) = _
  rw [isRecv_send, if_neg fun h => Bool.false_ne_true h.2]
theorem lv_recv (x : X) (c : Dev nD) : lv (recvCell x c) () = 2 + (stage x.1).val := by
  show (if 6 ≤ (recvS x).val ∧ isRecv (recvS x) = true then 2 + (stage (xOf (recvS x)).1).val else 0) = _
  rw [if_pos ⟨six_recv x, isRecv_recv x⟩, xOf_recv]
theorem lv_local (q : DmaSem sig) (hq : q.val < 6) (c : Dev nD) : lv ((c : Thread nD τ), .dma q) () = 0 := by
  show (if 6 ≤ q.val ∧ isRecv q = true then _ else 0) = _
  rw [if_neg fun h => by omega]

/-- Owing the payments `l`, whatever waits are recorded. -/
def owesE (c : Dev nD) (l : List Debt) : sProp 𝕄 := iprop(∃ W, owes (c : Thread nD τ) (debts c l) W)

/-! ## Every cell -/

/-- The cells of one device, numbered: the entry barrier, the exit, then the exchanges' DMA semaphores. -/
def csem (i : Fin 32) : SemLoc sig :=
  if i.val = 0 then .reg barS else if i.val = 1 then .reg exitS else .dma ⟨i.val + 4, by show _ < 36; omega⟩
abbrev kcell (ck : Dev nD × Fin 32) : GSem nD τ sig := ((ck.1 : Thread nD τ), csem ck.2)

theorem csem_inj : Function.Injective csem := by decide

def kSend (x : X) : Fin 32 := ⟨2 + 6 * x.1.val + x.2.val, by have := x.1.isLt; have := x.2.isLt; omega⟩
def kRecv (x : X) : Fin 32 := ⟨5 + 6 * x.1.val + x.2.val, by have := x.1.isLt; have := x.2.isLt; omega⟩
theorem csem_send (x : X) : csem (kSend x) = .dma (sendS x) := by revert x; decide
theorem csem_recv (x : X) : csem (kRecv x) = .dma (recvS x) := by revert x; decide

/-- Every cell's invariant, under the names `K`, and that it has reached its round; the levels. -/
def Ctx (K : Dev nD × Fin 32 → ℕ) : sProp 𝕄 :=
  iprop((bigSep Finset.univ fun ck : Dev nD × Fin 32 => iprop(cellInv ER (Rd m) (K ck) (kcell ck) ∗ reached ER (kcell ck) 0)) ∗ levAts L lv)

instance Ctx_persistent (K : Dev nD × Fin 32 → ℕ) : BI.Persistent (Ctx m K) := by unfold Ctx; infer_instance

theorem Ctx_cell (K : Dev nD × Fin 32 → ℕ) (c : Dev nD) (i : Fin 32) {g : GSem nD τ sig} (hg : kcell (c, i) = g) :
    Ctx m K ⊢ iprop(cellInv ER (Rd m) (K (c, i)) g ∗ reached ER g 0) := by
  subst hg
  exact (BI.sep_and.trans and_elimL).trans (bigSep_elim (i := (c, i)) (Finset.mem_univ _))
theorem Ctx_lev (K : Dev nD × Fin 32 → ℕ) : Ctx m K ⊢ levAts L lv := by
  unfold Ctx
  iintro ⟨-, H⟩
  iexact H

theorem kcell_bar (c : Dev nD) : kcell (c, 0) = barCell c := rfl
theorem kcell_exit (c : Dev nD) : kcell (c, 1) = exitCell c := rfl
theorem kcell_send (x : X) (c : Dev nD) : kcell (c, kSend x) = sendCell x c := by rw [kcell, csem_send]
theorem kcell_recv (x : X) (c : Dev nD) : kcell (c, kRecv x) = recvCell x c := by rw [kcell, csem_recv]

end Cert.RS
-- ==== Proof.RS.Slots.lean ====
/-
  The slots of the four-axis buffers: what a rectangle of whole slots covers, reading and writing one slot, and what a
  transfer of a run of slots leaves where it lands.
-/
module

public import proofs.«01_k».proof.Proof.RS.Cells

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

/-- Slots of any size of array, read one at a time. -/
def rdSlot {n : ℕ} (f : (Stack n).Idx → Elt F .bf16) (g : Fin 3) (j : Fin n) : Slot F :=
  fun x => f (ix4 (n0 := 3) (n1 := n) (n2 := 384) (n3 := 1024) g j (x 2) (x 3))

theorem rdSlot_stk {n : ℕ} (v : Fin 3 → Fin n → Slot F) (g : Fin 3) (j : Fin n) : rdSlot (stk v) g j = v g j := by
  funext x
  show v g j (ix4 0 0 (x 2) (x 3)) = v g j x
  congr 1
  funext a
  match a with
  | ⟨0, _⟩ => exact Fin.ext (by have h : (x 0).val < 1 := (x 0).isLt; show 0 = (x 0).val; omega)
  | ⟨1, _⟩ => exact Fin.ext (by have h : (x 1).val < 1 := (x 1).isLt; show 0 = (x 1).val; omega)
  | ⟨2, _⟩ => rfl
  | ⟨3, _⟩ => rfl

/-! ## A rectangle of whole slots -/

theorem rect_reg {n : ℕ} {g : Fin 3} {lo k : ℕ} {off : Fin 4 → ℕ} (ho : off = ![g.val, lo, 0, 0])
    (inb : ∀ a, off a + (![1, k, 384, 1024] : Fin 4 → ℕ) a ≤ (Stack n).size a) :
    (Rect.unit (s := Stack n) off ![1, k, 384, 1024] inb).set = reg n g lo k := by
  subst ho
  ext i
  rw [Rect.mem_set_unit, mem_reg]
  constructor
  · intro h
    have h0 := h 0; have h1 := h 1
    refine ⟨Fin.ext ?_, h1.1, h1.2⟩
    change g.val ≤ (i 0).val ∧ (i 0).val < g.val + 1 at h0
    omega
  · rintro ⟨h0, h1, h2⟩ a
    have hi2 : (i 2).val < 384 := (i 2).isLt
    have hi3 : (i 3).val < 1024 := (i 3).isLt
    match a with
    | ⟨0, _⟩ => show g.val ≤ (i 0).val ∧ (i 0).val < g.val + 1; rw [h0]; omega
    | ⟨1, _⟩ => exact ⟨h1, h2⟩
    | ⟨2, _⟩ => show 0 ≤ (i 2).val ∧ (i 2).val < 0 + 384; omega
    | ⟨3, _⟩ => show 0 ≤ (i 3).val ∧ (i 3).val < 0 + 1024; omega

theorem emb_slot {n : ℕ} {g : Fin 3} {j : Fin n} {off : Fin 4 → ℕ} (ho : off = ![g.val, j.val, 0, 0])
    (inb : ∀ a, off a + S1x1x384x1024.size a ≤ (Stack n).size a) (x : S1x1x384x1024.Idx) :
    (Rect.unit (s := Stack n) off S1x1x384x1024.size inb).emb x = ix4 (n0 := 3) (n1 := n) (n2 := 384) (n3 := 1024) g j (x 2) (x 3) := by
  subst ho
  have h0 : (x 0).val < 1 := (x 0).isLt
  have h1 : (x 1).val < 1 := (x 1).isLt
  funext a
  match a with
  | ⟨0, _⟩ => exact Fin.ext (by show g.val + 1 * (x 0).val = g.val; omega)
  | ⟨1, _⟩ => exact Fin.ext (by show j.val + 1 * (x 1).val = j.val; omega)
  | ⟨2, _⟩ => exact Fin.ext (by show 0 + 1 * (x 2).val = (x 2).val; omega)
  | ⟨3, _⟩ => exact Fin.ext (by show 0 + 1 * (x 3).val = (x 3).val; omega)

theorem stk_slot {n : ℕ} (v : Fin 3 → Fin n → Slot F) {g : Fin 3} {j : Fin n} {off : Fin 4 → ℕ} (ho : off = ![g.val, j.val, 0, 0])
    (inb : ∀ a, off a + S1x1x384x1024.size a ≤ (Stack n).size a) (x : S1x1x384x1024.Idx) :
    stk v ((Rect.unit (s := Stack n) off S1x1x384x1024.size inb).emb x) = v g j x := by
  rw [emb_slot ho inb x]
  exact congrFun (rdSlot_stk v g j) x

/-- A run of `k` slots seen without its leading axis. -/
theorem emb_run {n k : ℕ} {g : Fin 3} {lo : ℕ} {off : Fin 4 → ℕ} (ho : off = ![g.val, lo, 0, 0])
    (inb : ∀ a, off a + (![1, k, 384, 1024] : Fin 4 → ℕ) a ≤ (Stack n).size a)
    (h : (⟨3, ![k, 384, 1024]⟩ : Shape).numel = (⟨4, ![1, k, 384, 1024]⟩ : Shape).numel) (x : (⟨3, ![k, 384, 1024]⟩ : Shape).Idx) :
    ((Rect.unit (s := Stack n) off ![1, k, 384, 1024] inb).emb (Shape.reshapeEquiv h x) 0).val = g.val
    ∧ ((Rect.unit (s := Stack n) off ![1, k, 384, 1024] inb).emb (Shape.reshapeEquiv h x) 1).val = lo + (x 0).val
    ∧ ((Rect.unit (s := Stack n) off ![1, k, 384, 1024] inb).emb (Shape.reshapeEquiv h x) 2).val = (x 1).val
    ∧ ((Rect.unit (s := Stack n) off ![1, k, 384, 1024] inb).emb (Shape.reshapeEquiv h x) 3).val = (x 2).val := by
  subst ho
  obtain ⟨a, b, c, rfl⟩ : ∃ (a : Fin k) (b : Fin 384) (c : Fin 1024), x = ix3 a b c := ⟨x 0, x 1, x 2, eq_ix3 x⟩
  rw [reshapeEquiv_ix3_1abc]
  refine ⟨?_, ?_, ?_, ?_⟩
  · show g.val + 1 * 0 = g.val; omega
  · show lo + 1 * a.val = lo + a.val; omega
  · show 0 + 1 * b.val = b.val; omega
  · show 0 + 1 * c.val = c.val; omega

/-- What a run of slots of an array carries over to a run of slots of another. -/
theorem stk_run {n n' k : ℕ} {v : Fin 3 → Fin n → Slot F} {v' : Fin 3 → Fin n' → Slot F} {g : Fin 3} {lo lo' : ℕ}
    {off off' : Fin 4 → ℕ} (ho : off = ![g.val, lo, 0, 0]) (ho' : off' = ![g.val, lo', 0, 0])
    (inb : ∀ a, off a + (![1, k, 384, 1024] : Fin 4 → ℕ) a ≤ (Stack n).size a)
    (inb' : ∀ a, off' a + (![1, k, 384, 1024] : Fin 4 → ℕ) a ≤ (Stack n').size a)
    (h : (⟨3, ![k, 384, 1024]⟩ : Shape).numel = (⟨4, ![1, k, 384, 1024]⟩ : Shape).numel)
    (hv : ∀ (j : Fin n) (j' : Fin n') (d : ℕ), j.val = lo + d → j'.val = lo' + d → v g j = v' g j')
    (x : (⟨3, ![k, 384, 1024]⟩ : Shape).Idx) :
    stk v ((Rect.unit (s := Stack n) off ![1, k, 384, 1024] inb).emb (Shape.reshapeEquiv h x))
      = stk v' ((Rect.unit (s := Stack n') off' ![1, k, 384, 1024] inb').emb (Shape.reshapeEquiv h x)) := by
  obtain ⟨a0, a1, a2, a3⟩ := emb_run ho inb h x
  obtain ⟨b0, b1, b2, b3⟩ := emb_run ho' inb' h x
  unfold stk
  have e0 : (Rect.unit (s := Stack n) off ![1, k, 384, 1024] inb).emb (Shape.reshapeEquiv h x) 0 = g := Fin.ext a0
  have f0 : (Rect.unit (s := Stack n') off' ![1, k, 384, 1024] inb').emb (Shape.reshapeEquiv h x) 0 = g := Fin.ext b0
  rw [e0, f0, hv _ _ _ a1 b1]
  congr 1
  funext a
  match a with
  | ⟨0, _⟩ => rfl
  | ⟨1, _⟩ => rfl
  | ⟨2, _⟩ => exact Fin.ext (a2.trans b2.symm)
  | ⟨3, _⟩ => exact Fin.ext (a3.trans b3.symm)

/-! ## Splitting and joining runs -/

theorem reg_add {n : ℕ} (g : Fin 3) (lo a b : ℕ) : reg n g lo (a + b) = reg n g lo a ∪ reg n g (lo + a) b := by
  ext i; simp only [Finset.mem_union, mem_reg]
  constructor
  · rintro ⟨h, h1, h2⟩
    by_cases hh : (i 1).val < lo + a
    · exact .inl ⟨h, h1, hh⟩
    · exact .inr ⟨h, by omega, by omega⟩
  · rintro (⟨h, h1, h2⟩ | ⟨h, h1, h2⟩) <;> exact ⟨h, by omega, by omega⟩
theorem reg_disj {n : ℕ} (g : Fin 3) (lo a b : ℕ) : Disjoint (reg n g lo a) (reg n g (lo + a) b) := by
  rw [Finset.disjoint_left]; intro i hi hj
  rw [mem_reg] at hi hj; omega

/-! ## Writing -/

/-- Writing through a view leaves, on what it covers, any contents that read there as what was written. -/
theorem write_on {κ : Kind} {sp : Space} {s : Shape} {e : EltTy} (v : View sig κ sp s e) (f f' : v.ty.Contents (Elt F))
    (w : s.Idx → Elt F e) (h : v.read (Elt F) f' = w) : ∀ i ∈ v.set, f' i = v.write (Elt F) f w Finset.univ i := by
  intro i hi
  obtain ⟨x, -, rfl⟩ := Finset.mem_map.mp hi
  rw [View.write_emb_of_mem _ _ (Finset.mem_univ x), ← h, View.read_apply, cast_cast, cast_eq]

end Cert.RS
-- ==== Proof.RS.Steps.lean ====
/-
  One lemma per kind of operation of the kernel, over the whole buffers: reading and writing a slot, the five kinds of
  exchange, waiting on either end of one, and the entry and exit signals.
-/
module

public import proofs.«01_k».proof.Proof.RS.Slots

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]

local notation "𝕄" => MT nD τ sig Unit (Elt F) ℕ UU ℕ

/-- A run of a device's program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Slot
variable {c : Dev nD} {α : Type} {Q : α → sProp (MT nD τ sig Unit (Elt F) ℕ UU ℕ)} {g : Fin 3} {off : Fin 4 → ℕ}

theorem slot_sub {n : ℕ} {j : Fin n} {lo k : ℕ} (ho : off = ![g.val, j.val, 0, 0]) (hlo : lo ≤ j.val ∧ j.val < lo + k)
    (inb : ∀ a, off a + S1x1x384x1024.size a ≤ (Stack n).size a) :
    (Rect.unit (s := Stack n) off S1x1x384x1024.size inb).set ⊆ reg n g lo k := by
  refine (rect_reg (k := 1) ho inb).le.trans fun i hi => ?_
  rw [mem_reg] at hi ⊢
  obtain ⟨h0, h1, h2⟩ := hi
  exact ⟨h0, hlo.1.trans h1, by omega⟩

/-- Reading one slot. -/
theorem ld_w {j : Fin 4} {lo k : ℕ} (ho : off = ![g.val, j.val, 0, 0]) (hlo : lo ≤ j.val ∧ j.val < lo + k)
    (v : Fin 3 → Fin 4 → Slot F) {inb hl kk} :
    wP c g lo k (stk v) ⊢ iprop((wP c g lo k (stk v) -∗ WP c (kk (v g j)) Q)
      -∗ WP c (.op (.load (Memref.whole cc0_scratch6) (Rect.unit (s := S3x4x384x1024) off S1x1x384x1024.size inb).toLoadRect hl) kk) Q) := by
  have h := wp_load_rect (defs := defs₀ (F := F)) (Γ := .empty) 𝒱₀ (c : Thread nD τ) none Set.univ (m := Memref.whole cc0_scratch6)
    (r := Rect.unit (s := S3x4x384x1024) off S1x1x384x1024.size inb) (hl := hl) (k := kk) (Q := Q) (S := reg 4 g lo k) (q := fullShare)
    (f := stk v) (by
      show ((View.whole cc0_scratch6).slice _).set ⊆ _
      rw [View.set_slice_whole]; exact slot_sub ho hlo inb)
  have e : ((Memref.whole cc0_scratch6).access (Rect.unit (s := S3x4x384x1024) off S1x1x384x1024.size inb)).read (Elt F) (stk v) = v g j :=
    funext fun x => stk_slot v ho inb x
  rw [e] at h
  exact h

theorem ld_rb1 {j : Fin 4} {lo k : ℕ} (ho : off = ![g.val, j.val, 0, 0]) (hlo : lo ≤ j.val ∧ j.val < lo + k)
    (v : Fin 3 → Fin 4 → Slot F) {inb hl kk} :
    rb1P c g lo k (stk v) ⊢ iprop((rb1P c g lo k (stk v) -∗ WP c (kk (v g j)) Q)
      -∗ WP c (.op (.load (Memref.whole cc0_scratch5) (Rect.unit (s := S3x4x384x1024) off S1x1x384x1024.size inb).toLoadRect hl) kk) Q) := by
  have h := wp_load_rect (defs := defs₀ (F := F)) (Γ := .empty) 𝒱₀ (c : Thread nD τ) none Set.univ (m := Memref.whole cc0_scratch5)
    (r := Rect.unit (s := S3x4x384x1024) off S1x1x384x1024.size inb) (hl := hl) (k := kk) (Q := Q) (S := reg 4 g lo k) (q := fullShare)
    (f := stk v) (by
      show ((View.whole cc0_scratch5).slice _).set ⊆ _
      rw [View.set_slice_whole]; exact slot_sub ho hlo inb)
  have e : ((Memref.whole cc0_scratch5).access (Rect.unit (s := S3x4x384x1024) off S1x1x384x1024.size inb)).read (Elt F) (stk v) = v g j :=
    funext fun x => stk_slot v ho inb x
  rw [e] at h
  exact h

theorem ld_rb2 {j : Fin 2} {lo k : ℕ} (ho : off = ![g.val, j.val, 0, 0]) (hlo : lo ≤ j.val ∧ j.val < lo + k)
    (v : Fin 3 → Fin 2 → Slot F) {inb hl kk} :
    rb2P c g lo k (stk v) ⊢ iprop((rb2P c g lo k (stk v) -∗ WP c (kk (v g j)) Q)
      -∗ WP c (.op (.load (Memref.whole cc0_scratch7) (Rect.unit (s := S3x2x384x1024) off S1x1x384x1024.size inb).toLoadRect hl) kk) Q) := by
  have h := wp_load_rect (defs := defs₀ (F := F)) (Γ := .empty) 𝒱₀ (c : Thread nD τ) none Set.univ (m := Memref.whole cc0_scratch7)
    (r := Rect.unit (s := S3x2x384x1024) off S1x1x384x1024.size inb) (hl := hl) (k := kk) (Q := Q) (S := reg 2 g lo k) (q := fullShare)
    (f := stk v) (by
      show ((View.whole cc0_scratch7).slice _).set ⊆ _
      rw [View.set_slice_whole]; exact slot_sub ho hlo inb)
  have e : ((Memref.whole cc0_scratch7).access (Rect.unit (s := S3x2x384x1024) off S1x1x384x1024.size inb)).read (Elt F) (stk v) = v g j :=
    funext fun x => stk_slot v ho inb x
  rw [e] at h
  exact h

theorem ld_rb3 {j : Fin 1} {lo k : ℕ} (ho : off = ![g.val, j.val, 0, 0]) (hlo : lo ≤ j.val ∧ j.val < lo + k)
    (v : Fin 3 → Fin 1 → Slot F) {inb hl kk} :
    rb3P c g lo k (stk v) ⊢ iprop((rb3P c g lo k (stk v) -∗ WP c (kk (v g j)) Q)
      -∗ WP c (.op (.load (Memref.whole cc0_scratch8) (Rect.unit (s := S3x1x384x1024) off S1x1x384x1024.size inb).toLoadRect hl) kk) Q) := by
  have h := wp_load_rect (defs := defs₀ (F := F)) (Γ := .empty) 𝒱₀ (c : Thread nD τ) none Set.univ (m := Memref.whole cc0_scratch8)
    (r := Rect.unit (s := S3x1x384x1024) off S1x1x384x1024.size inb) (hl := hl) (k := kk) (Q := Q) (S := reg 1 g lo k) (q := fullShare)
    (f := stk v) (by
      show ((View.whole cc0_scratch8).slice _).set ⊆ _
      rw [View.set_slice_whole]; exact slot_sub ho hlo inb)
  have e : ((Memref.whole cc0_scratch8).access (Rect.unit (s := S3x1x384x1024) off S1x1x384x1024.size inb)).read (Elt F) (stk v) = v g j :=
    funext fun x => stk_slot v ho inb x
  rw [e] at h
  exact h

/-- Reading a slot for a value nothing uses. -/
theorem ld_w_any {j : Fin 4} {lo k : ℕ} (ho : off = ![g.val, j.val, 0, 0]) (hlo : lo ≤ j.val ∧ j.val < lo + k)
    {f : C4 F 4} {inb hl kk} :
    wP c g lo k f ⊢ iprop((∀ v : Slot F, wP c g lo k f -∗ WP c (kk v) Q)
      -∗ WP c (.op (.load (Memref.whole cc0_scratch6) (Rect.unit (s := S3x4x384x1024) off S1x1x384x1024.size inb).toLoadRect hl) kk) Q) := by
  have h := wp_load_rect (defs := defs₀ (F := F)) (Γ := .empty) 𝒱₀ (c : Thread nD τ) none Set.univ (m := Memref.whole cc0_scratch6)
    (r := Rect.unit (s := S3x4x384x1024) off S1x1x384x1024.size inb) (hl := hl) (k := kk) (Q := Q) (S := reg 4 g lo k) (q := fullShare)
    (f := f) (by
      show ((View.whole cc0_scratch6).slice _).set ⊆ _
      rw [View.set_slice_whole]; exact slot_sub ho hlo inb)
  exact h.trans (wand_mono_left (forall_elim _))

theorem ld_sb_any {j : Fin 4} {lo k : ℕ} (ho : off = ![g.val, j.val, 0, 0]) (hlo : lo ≤ j.val ∧ j.val < lo + k)
    {f : C4 F 4} {inb hl kk} :
    sbP c g lo k f ⊢ iprop((∀ v : Slot F, sbP c g lo k f -∗ WP c (kk v) Q)
      -∗ WP c (.op (.load (Memref.whole cc0_scratch4) (Rect.unit (s := S3x4x384x1024) off S1x1x384x1024.size inb).toLoadRect hl) kk) Q) := by
  have h := wp_load_rect (defs := defs₀ (F := F)) (Γ := .empty) 𝒱₀ (c : Thread nD τ) none Set.univ (m := Memref.whole cc0_scratch4)
    (r := Rect.unit (s := S3x4x384x1024) off S1x1x384x1024.size inb) (hl := hl) (k := kk) (Q := Q) (S := reg 4 g lo k) (q := fullShare)
    (f := f) (by
      show ((View.whole cc0_scratch4).slice _).set ⊆ _
      rw [View.set_slice_whole]; exact slot_sub ho hlo inb)
  exact h.trans (wand_mono_left (forall_elim _))

/-- Writing one slot. -/
theorem st_w {j : Fin 4} (ho : off = ![g.val, j.val, 0, 0]) (v : Fin 3 → Fin 4 → Slot F) {f : C4 F 4} {inb hx hm kk} {u : Slot F}
    (hu : u = v g j) :
    wP c g j.val 1 f ⊢ iprop((wP c g j.val 1 (stk v) -∗ WP c (kk ⟨⟩) Q)
      -∗ WP c (.op (.store (Memref.whole cc0_scratch6) (Rect.unit (s := S3x4x384x1024) off S1x1x384x1024.size inb) u Finset.univ hx hm) kk) Q) := by
  subst hu
  have h := wp_store (defs := defs₀ (F := F)) (Γ := .empty) 𝒱₀ (c : Thread nD τ) none Set.univ (m := Memref.whole cc0_scratch6)
    (r := Rect.unit (s := S3x4x384x1024) off S1x1x384x1024.size inb) (w := v g j) (Mk := Finset.univ) (hx := hx) (hm := hm) (k := kk) (Q := Q)
    (S := reg 4 g j.val 1) (f := f) (by
      rw [View.setOn_univ]
      show ((View.whole cc0_scratch6).slice _).set ⊆ _
      rw [View.set_slice_whole]; exact slot_sub ho ⟨le_rfl, Nat.lt_succ_self _⟩ inb)
  refine h.trans (wand_mono_left (wand_mono_left (Entails.of_eq ?_)))
  refine (pointsTo_congr fun i hi => write_on ((View.whole cc0_scratch6).slice (Rect.unit (s := S3x4x384x1024) off S1x1x384x1024.size inb))
    f (stk v) (v g j) (funext fun x => stk_slot v ho inb x) i ?_).symm
  rw [View.set_slice_whole]; exact (rect_reg (n := 4) (k := 1) ho inb).ge hi

theorem st_sb {j : Fin 4} (ho : off = ![g.val, j.val, 0, 0]) (v : Fin 3 → Fin 4 → Slot F) {f : C4 F 4} {inb hx hm kk} {u : Slot F}
    (hu : u = v g j) :
    sbP c g j.val 1 f ⊢ iprop((sbP c g j.val 1 (stk v) -∗ WP c (kk ⟨⟩) Q)
      -∗ WP c (.op (.store (Memref.whole cc0_scratch4) (Rect.unit (s := S3x4x384x1024) off S1x1x384x1024.size inb) u Finset.univ hx hm) kk) Q) := by
  subst hu
  have h := wp_store (defs := defs₀ (F := F)) (Γ := .empty) 𝒱₀ (c : Thread nD τ) none Set.univ (m := Memref.whole cc0_scratch4)
    (r := Rect.unit (s := S3x4x384x1024) off S1x1x384x1024.size inb) (w := v g j) (Mk := Finset.univ) (hx := hx) (hm := hm) (k := kk) (Q := Q)
    (S := reg 4 g j.val 1) (f := f) (by
      rw [View.setOn_univ]
      show ((View.whole cc0_scratch4).slice _).set ⊆ _
      rw [View.set_slice_whole]; exact slot_sub ho ⟨le_rfl, Nat.lt_succ_self _⟩ inb)
  refine h.trans (wand_mono_left (wand_mono_left (Entails.of_eq ?_)))
  refine (pointsTo_congr fun i hi => write_on ((View.whole cc0_scratch4).slice (Rect.unit (s := S3x4x384x1024) off S1x1x384x1024.size inb))
    f (stk v) (v g j) (funext fun x => stk_slot v ho inb x) i ?_).symm
  rw [View.set_slice_whole]; exact (rect_reg (n := 4) (k := 1) ho inb).ge hi

/-- Two neighbouring slots of the send buffer are a run of two. -/
theorem sb_join {lo : ℕ} (f : C4 F 4) : iprop(sbP c g lo 1 f ∗ sbP c g (lo + 1) 1 f) ⊢ sbP c g lo 2 f := by
  unfold sbP
  rw [show (2 : ℕ) = 1 + 1 from rfl, reg_add]
  exact (pointsTo_union (reg_disj g lo 1 1)).2

end Slot

end Cert.RS
-- ==== Proof.RS.Xfer.lean ====
/-
  The exchanges: sending, waiting for a transfer to have left, waiting for one to have landed; the entry and exit
  signals.
-/
module

public import proofs.«01_k».proof.Proof.RS.Steps

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]

local notation "𝕄" => MT nD τ sig Unit (Elt F) ℕ UU ℕ

variable (m : (ℓ : Loc nD τ sig) → Buf (Elt F) ℓ)

/-! ## An exchange's ghost state, before it starts, in flight, gone, and done -/

def credR (x : X) (c : Dev nD) : sProp 𝕄 := cred (tallyAt (recvCell x c) () (amt x.1))
def Tok (x : X) (c : Dev nD) : sProp 𝕄 := iprop(dutyTok ER (sendCell x c) 0 0 ∗ dutyTok ER (recvCell x (peer x c)) 0 0)
def Ex0 (x : X) (c : Dev nD) : sProp 𝕄 :=
  iprop(Tok x c ∗ atPos ER (sendCell x c) 0 ∅ 0 ∗ atPos ER (recvCell x c) 0 ∅ 0 ∗ credR x c ∗ dstAny x (peer x c))
def Ex1 (x : X) (c : Dev nD) : sProp 𝕄 :=
  iprop(cred (tallyAt (sendCell x c) () (amt x.1)) ∗ atPos ER (sendCell x c) 0 ∅ 0 ∗ atPos ER (recvCell x c) 0 ∅ 0 ∗ credR x c)
def Ex2 (x : X) (c : Dev nD) : sProp 𝕄 :=
  iprop(atPos ER (sendCell x c) 1 ∅ 0 ∗ atPos ER (recvCell x c) 0 ∅ 0 ∗ credR x c)
def Ex3 (x : X) (c : Dev nD) : sProp 𝕄 :=
  iprop(atPos ER (sendCell x c) 1 ∅ 0 ∗ atPos ER (recvCell x c) 1 ∅ 0)

variable {c : Dev nD} {K : Dev nD × Fin 32 → ℕ} {α : Type} {Q : α → sProp (MT nD τ sig Unit (Elt F) ℕ UU ℕ)}

/-- Starting exchange `x`, whatever the views, given what the source and the landing are made of. -/
theorem send_core (x : X) (l : List Debt) {n : Dev nD} (hn : n = peer x c) {s : Shape} {src : Memref sig .tc .vmem s .bf16}
    {dst : Memref sig (Dev.tc n : Thread nD τ).2.kind .vmem s .bf16} {sS sR : DmaSem sig} (hs : sS = sendS x) (hr : sR = recvS x)
    {hsc : dst.view.ref.isScScratch = false} {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α}
    (fs : Buf (Elt F) (src.view.loc (c : Thread nD τ)))
    (hN : dst.view.amount (.dma sR) = amt x.1)
    (hp₁ : sendPay m x c = (src.view.loc (c : Thread nD τ) ↦[src.view.set]{fullShare} fs))
    (hd : dstAny (F := F) x n ⊢ iprop(∃ fd, dst.view.loc (n : Thread nD τ) ↦[dst.view.set]{fullShare} fd))
    (hp₂ : ∀ fd : Buf (Elt F) (dst.view.loc (n : Thread nD τ)),
      (dst.view.loc (n : Thread nD τ) ↦[dst.view.set]{fullShare} (dst.view.write (Elt F) fd (src.view.read (Elt F) fs) Finset.univ))
        ⊢ recvPay m x n) :
    Ctx m K ⊢ iprop(Ex0 x c -∗ sendPay m x c -∗ owesE c (.xf x :: l) -∗ (Ex1 x c -∗ owesE c l -∗ WP c (k ⟨⟩) Q)
      -∗ WP c (.op (.enqueueDma src (.remote (Dev.tc n : Thread nD τ) dst (.dma sS) hsc) (.dma sR) hsrc hdst hsem) k) Q) := by
  subst hn; subst hs; subst hr
  iintro #HC HE Hs HO Hk
  ihave HSi := (Ctx_cell m K c (kSend x) (kcell_send x c)) $$ HC
  icases HSi with ⟨#HI1, #HR1⟩
  ihave HRi := (Ctx_cell m K (peer x c) (kRecv x) (kcell_recv x (peer x c))) $$ HC
  icases HRi with ⟨#HI2, #HR2⟩
  unfold Ex0 Ex1 owesE Tok
  icases HE with ⟨⟨Ht1, Ht2⟩, Hp1, Hp2, Hc, Hd⟩
  icases HO with ⟨%W, HO⟩
  ihave Hd' := hd $$ Hd
  icases Hd' with ⟨%fd, Hd⟩
  ihave Hs' := (Entails.of_eq hp₁) $$ Hs
  iapply (Rounds.wp_send_pointsTo (defs := defs₀ (F := F)) 𝒱₀ ER (Rd m) (c : Thread nD τ) none (κ₁ := K (c, kSend x)) (κ₂ := K (peer x c, kRecv x))
    (r₁ := 0) (r₂ := 0) (d₁ := 0) (d₂ := 0) (fd := fd) (fs := fs) (q := fullShare)
    (by rw [duties_send]; exact Finset.mem_singleton_self _) (by rw [duties_recv]; exact Finset.mem_singleton_self _)
    () () (amt x.1) hN (amount_send m c x 0) (amount_recv m (peer x c) x 0) (debts c l) rfl (W := W)
    (by rw [payload_send, hp₁])
    (by rw [payload_recv]; exact hp₂ fd)) $$ [Hs' Hd HO Ht1 Ht2]
  · isplitr; · iexact HI1
    isplitr; · iexact HI2
    isplitl [Hs']; · iexact Hs'
    isplitl [Hd]; · iexact Hd
    isplitl [HO]; · iexact HO
    isplitl [Ht1]; · iexact Ht1
    isplitr; · iexact HR1
    isplitl [Ht2]; · iexact Ht2
    iexact HR2
  iintro ⟨HcS, HO⟩
  iapply Hk $$ [HcS Hp1 Hp2 Hc] [HO]
  · isplitl [HcS]; · iexact HcS
    isplitl [Hp1]; · iexact Hp1
    isplitl [Hp2]; · iexact Hp2
    iexact Hc
  · iexists W; iexact HO

/-- Waiting until exchange `x` has left: its source back. -/
theorem wait_send (x : X) (l : List Debt) (hl : ∀ d ∈ l, 0 < d.lev) {sS : DmaSem sig} (hs : sS = sendS x)
    {sp sp' : Space} {s s' : Shape} {e e' : EltTy} {u : Memref sig .tc sp s e} {d : Memref sig .tc sp' s' e'}
    {hu hd} {k : PUnit → Prog (TpuEff nD τ sig (Elt F) Λ₀ .tc) α} (hN : d.view.dmaCredit = amt x.1) :
    Ctx m K ⊢ iprop(Ex1 x c -∗ owesE c l -∗ (Ex2 x c -∗ sendPay m x c -∗ owesE c l -∗ WP c (k ⟨⟩) Q)
      -∗ WP c (.op (.waitDma2 sS u d hu hd) k) Q) := by
  subst hs
  iintro #HC HE HO Hk
  ihave HSi := (Ctx_cell m K c (kSend x) (kcell_send x c)) $$ HC
  icases HSi with ⟨#HI1, #HR1⟩
  ihave #Hlev := (Ctx_lev m K) $$ HC
  unfold Ex1 Ex2 owesE
  icases HE with ⟨HcS, Hp1, Hp2, Hc⟩
  icases HO with ⟨%W, HO⟩
  iapply (Rounds.wp_wait_rest_token (defs := defs₀ (F := F)) 𝒱₀ ER (Rd m) (c : Thread nD τ) none (κ := K (c, kSend x))
      (wpE_waitDma2_eq 𝒱₀ (c : Thread nD τ) none Set.univ) (Set.mem_univ _) () (O := debts c l) (W := W) (R := 0) (m := 0) (T := ∅)
      (by rw [Nat.zero_add, expect_send]; exact hN)) $$ [HcS HO Hp1]
  · isplitr; · iexact HI1
    isplitl [HcS]; · rw [hN]; iexact HcS
    isplitl [HO]; · iexact HO
    isplitr; · iapply (mayWait_debts c _ 0 (lv_send x c) l hl); iexact Hlev
    iexact Hp1
  iintro ⟨HO, Hp1, -, Hpay⟩
  ihave Hpay := (Entails.of_eq (rest_send m c x)) $$ Hpay
  iapply Hk $$ [Hp1 Hp2 Hc] Hpay [HO]
  · isplitl [Hp1]; · iexact Hp1
    isplitl [Hp2]; · iexact Hp2
    iexact Hc
  · iexists _; iexact HO

/-- Waiting until what exchange `x` brings has landed. -/
theorem wait_recv (x : X) (l : List Debt) (hl : ∀ d ∈ l, 2 + (stage x.1).val < d.lev) {sR : DmaSem sig} (hs : sR = recvS x)
    {sp sp' : Space} {s s' : Shape} {e e' : EltTy} {u : Memref sig .tc sp s e} {d : Memref sig .tc sp' s' e'}
    {hu hd} {k : PUnit → Prog (TpuEff nD τ sig (Elt F) Λ₀ .tc) α} (hN : d.view.dmaCredit = amt x.1) :
    Ctx m K ⊢ iprop(Ex2 x c -∗ owesE c l -∗ (Ex3 x c -∗ recvPay m x c -∗ owesE c l -∗ WP c (k ⟨⟩) Q)
      -∗ WP c (.op (.waitDma2 sR u d hu hd) k) Q) := by
  subst hs
  iintro #HC HE HO Hk
  ihave HSi := (Ctx_cell m K c (kRecv x) (kcell_recv x c)) $$ HC
  icases HSi with ⟨#HI1, #HR1⟩
  ihave #Hlev := (Ctx_lev m K) $$ HC
  unfold Ex2 Ex3 owesE credR
  icases HE with ⟨Hp1, Hp2, Hc⟩
  icases HO with ⟨%W, HO⟩
  iapply (Rounds.wp_wait_rest_token (defs := defs₀ (F := F)) 𝒱₀ ER (Rd m) (c : Thread nD τ) none (κ := K (c, kRecv x))
      (wpE_waitDma2_eq 𝒱₀ (c : Thread nD τ) none Set.univ) (Set.mem_univ _) () (O := debts c l) (W := W) (R := 0) (m := 0) (T := ∅)
      (by rw [Nat.zero_add, expect_recv]; exact hN)) $$ [Hc HO Hp2]
  · isplitr; · iexact HI1
    isplitl [Hc]; · rw [hN]; iexact Hc
    isplitl [HO]; · iexact HO
    isplitr; · iapply (mayWait_debts c _ _ (lv_recv x c) l hl); iexact Hlev
    iexact Hp2
  iintro ⟨HO, Hp2, -, Hpay⟩
  ihave Hpay := (Entails.of_eq (rest_recv m c x)) $$ Hpay
  iapply Hk $$ [Hp1 Hp2] Hpay [HO]
  · isplitl [Hp1]; · iexact Hp1
    iexact Hp2
  · iexists _; iexact HO

/-! ## The entry and exit signals -/

/-- What device `c` gives its neighbour along axis `a` with its entry signal: its own landing buffers that neighbour writes. -/
def giveBar (c : Dev nD) (a : Fin 3) : sProp 𝕄 := bigSep Finset.univ fun k : Fin 5 => dstAny (alongX a k) c

theorem sig_bar (a : Fin 3) (l : List Debt) {n : Dev nD} (hn : n = ax a c) {k : PUnit → Prog (TpuEff nD τ sig (Elt F) Λ₀ .tc) α} :
    Ctx m K ⊢ iprop(dutyTok ER (barCell (ax a c)) 0 a -∗ giveBar c a -∗ owesE c (.bar a :: l) -∗ (owesE c l -∗ WP c (k ⟨⟩) Q)
      -∗ WP c (.op (.semSignal (Dev.tc n : Thread nD τ) barS 1) k) Q) := by
  subst hn
  iintro #HC Ht Hg HO Hk
  ihave HSi := (Ctx_cell m K (ax a c) 0 (kcell_bar (ax a c))) $$ HC
  icases HSi with ⟨#HI1, #HR1⟩
  unfold owesE
  icases HO with ⟨%W, HO⟩
  iapply (Rounds.wp_signal (defs := defs₀ (F := F)) 𝒱₀ ER (Rd m) (c : Thread nD τ) none (dst := (ax a c : Thread nD τ)) (κ := K (ax a c, 0))
      (d := a) (by rw [duties_bar]; exact Finset.mem_univ _) (amount_bar m (ax a c) a) () (debts c l) rfl) $$ [HO Ht Hg]
  · isplitr; · iexact HI1
    isplitl [HO]; · iexact HO
    isplitl [Ht]; · iexact Ht
    isplitl [Hg]
    · rw [payload_bar]; unfold barPay giveBar; rw [ax_ax]; iexact Hg
    iexact HR1
  iintro HO
  iapply Hk
  iexists W; iexact HO

theorem wait_bar (l : List Debt) (hl : ∀ d ∈ l, 1 < d.lev) {k : PUnit → Prog (TpuEff nD τ sig (Elt F) Λ₀ .tc) α} :
    Ctx m K ⊢ iprop(cred (tallyAt (barCell c) () 3) -∗ atPos ER (barCell c) 0 ∅ 0 -∗ owesE c l
      -∗ (atPos ER (barCell c) 1 ∅ 0 -∗ (barPay c 0 ∗ barPay c 1 ∗ barPay c 2) -∗ owesE c l -∗ WP c (k ⟨⟩) Q)
      -∗ WP c (.op (.semWait barS 3) k) Q) := by
  iintro #HC Hc Hp HO Hk
  ihave HSi := (Ctx_cell m K c 0 (kcell_bar c)) $$ HC
  icases HSi with ⟨#HI1, #HR1⟩
  ihave #Hlev := (Ctx_lev m K) $$ HC
  unfold owesE
  icases HO with ⟨%W, HO⟩
  iapply (Rounds.wp_wait_rest_token (defs := defs₀ (F := F)) 𝒱₀ ER (Rd m) (c : Thread nD τ) none (κ := K (c, 0))
      (wpE_semWait_eq 𝒱₀ (c : Thread nD τ) none Set.univ) (Set.mem_univ _) () (O := debts c l) (W := W) (R := 0) (m := 0) (T := ∅)
      (by rw [Nat.zero_add, expect_bar])) $$ [Hc HO Hp]
  · isplitr; · iexact HI1
    isplitl [Hc]; · iexact Hc
    isplitl [HO]; · iexact HO
    isplitr; · iapply (mayWait_debts c _ _ (lv_bar c) l hl); iexact Hlev
    iexact Hp
  iintro ⟨HO, Hp, -, Hpay⟩
  ihave Hpay := (Entails.of_eq (rest_bar m c)) $$ Hpay
  iapply Hk $$ Hp Hpay [HO]
  iexists _; iexact HO

theorem sig_exit (a : Fin 3) (l : List Debt) {n : Dev nD} (hn : n = ax a c) {k : PUnit → Prog (TpuEff nD τ sig (Elt F) Λ₀ .tc) α} :
    Ctx m K ⊢ iprop(dutyTok ER (exitCell (ax a c)) 0 a -∗ owesE c (.ex a :: l) -∗ (owesE c l -∗ WP c (k ⟨⟩) Q)
      -∗ WP c (.op (.semSignal (Dev.tc n : Thread nD τ) exitS 1) k) Q) := by
  subst hn
  iintro #HC Ht HO Hk
  ihave HSi := (Ctx_cell m K (ax a c) 1 (kcell_exit (ax a c))) $$ HC
  icases HSi with ⟨#HI1, #HR1⟩
  unfold owesE
  icases HO with ⟨%W, HO⟩
  iapply (Rounds.wp_signal (defs := defs₀ (F := F)) 𝒱₀ ER (Rd m) (c : Thread nD τ) none (dst := (ax a c : Thread nD τ)) (κ := K (ax a c, 1))
      (d := a) (by rw [duties_exit]; exact Finset.mem_univ _) (amount_exit m (ax a c) a) () (debts c l) rfl) $$ [HO Ht]
  · isplitr; · iexact HI1
    isplitl [HO]; · iexact HO
    isplitl [Ht]; · iexact Ht
    isplitr
    · rw [payload_exit]; iempintro
    iexact HR1
  iintro HO
  iapply Hk
  iexists W; iexact HO

theorem wait_exit {k : PUnit → Prog (TpuEff nD τ sig (Elt F) Λ₀ .tc) α} :
    Ctx m K ⊢ iprop(cred (tallyAt (exitCell c) () 3) -∗ atPos ER (exitCell c) 0 ∅ 0 -∗ owesE c []
      -∗ (atPos ER (exitCell c) 1 ∅ 0 -∗ owesE c [] -∗ WP c (k ⟨⟩) Q)
      -∗ WP c (.op (.semWait exitS 3) k) Q) := by
  iintro #HC Hc Hp HO Hk
  ihave HSi := (Ctx_cell m K c 1 (kcell_exit c)) $$ HC
  icases HSi with ⟨#HI1, #HR1⟩
  ihave #Hlev := (Ctx_lev m K) $$ HC
  unfold owesE
  icases HO with ⟨%W, HO⟩
  iapply (Rounds.wp_wait_rest_token (defs := defs₀ (F := F)) 𝒱₀ ER (Rd m) (c : Thread nD τ) none (κ := K (c, 1))
      (wpE_semWait_eq 𝒱₀ (c : Thread nD τ) none Set.univ) (Set.mem_univ _) () (O := debts c []) (W := W) (R := 0) (m := 0) (T := ∅)
      (by rw [Nat.zero_add, expect_exit])) $$ [Hc HO Hp]
  · isplitr; · iexact HI1
    isplitl [Hc]; · iexact Hc
    isplitl [HO]; · iexact HO
    isplitr; · iapply (mayWait_debts c _ _ (lv_exit c) [] (fun _ h => absurd h (List.not_mem_nil))); iexact Hlev
    iexact Hp
  iintro ⟨HO, Hp, -, -⟩
  iapply Hk $$ Hp [HO]
  iexists _; iexact HO

end Cert.RS
-- ==== Proof.RS.Sends.lean ====
/-
  The three kinds of transfer the kernel starts: from the send buffer into the first landing buffer, from the working
  buffer into the second and into the third.
-/
module

public import proofs.«01_k».proof.Proof.RS.Xfer

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]

local notation "𝕄" => MT nD τ sig Unit (Elt F) ℕ UU ℕ

variable (m : (ℓ : Loc nD τ sig) → Buf (Elt F) ℓ)

/-- A run of slots without its leading axis: what it covers. -/
theorem run1_set {b : Ref sig .tc} {r : Rect b.ty.shape} {s : Shape} (h : s.numel = r.shape.numel) :
    (((View.whole b).slice r).reshape s h).set = r.set := by
  rw [View.set_reshape, View.set_slice_whole]

theorem amt_a : amt 0 = cc0_scratch5.dmaCredit S2x384x1024 .bf16 := by unfold amt; rfl
theorem amt_b : amt 1 = cc0_scratch5.dmaCredit S2x384x1024 .bf16 := by unfold amt; rfl
theorem amt_c : amt 2 = cc0_scratch7.dmaCredit S1x384x1024 .bf16 := by unfold amt; rfl
theorem amt_d : amt 3 = cc0_scratch7.dmaCredit S1x384x1024 .bf16 := by unfold amt; rfl
theorem amt_e : amt 4 = cc0_scratch8.dmaCredit S1x384x1024 .bf16 := by unfold amt; rfl

variable {c : Dev nD} {K : Dev nD × Fin 32 → ℕ} {α : Type} {Q : α → sProp (MT nD τ sig Unit (Elt F) ℕ UU ℕ)}
  {k : PUnit → Prog (TpuEff nD τ sig (Elt F) Λ₀ .tc) α} {n : Dev nD} {off : Fin 4 → ℕ} {sS sR : DmaSem sig}

theorem RB1_peer (k : Fin 5) (hk : stage k = 0) (g : Fin 3) (c : Dev nD) : RB1 m (peer (k, g) c) g = SB1 m c g := by
  funext j; unfold RB1 peer; rw [hk, add_zero, ax_ax]
theorem RB2_peer (k : Fin 5) (hk : stage k = 1) (g : Fin 3) (c : Dev nD) (j : Fin 2) :
    RB2 m (peer (k, g) c) g j = W1 m c g ⟨2 + j.val, by omega⟩ := by
  unfold RB2 peer; rw [hk, ax_ax]
theorem RB3_peer (k : Fin 5) (hk : stage k = 2) (g : Fin 3) (c : Dev nD) (j : Fin 1) :
    RB3 m (peer (k, g) c) g j = W2 m c g 1 := by
  unfold RB3 peer; rw [hk, ax_ax]

theorem send1 (k5 : Fin 5) (lo : ℕ) (hk : (k5 = 0 ∧ lo = 2) ∨ (k5 = 1 ∧ lo = 0)) (g : Fin 3) (l : List Debt)
    (hn : n = peer (k5, g) c) (ho : off = ![g.val, lo, 0, 0]) (hs : sS = sendS (k5, g)) (hr : sR = recvS (k5, g))
    {inb inb' hst hst' sq sq' hsc hsrc hdst hsem} :
    Ctx m K ⊢ iprop(Ex0 (k5, g) c -∗ sbP c g lo 2 (stk (SB1 m c)) -∗ owesE c (.xf (k5, g) :: l)
      -∗ (Ex1 (k5, g) c -∗ owesE c l -∗ WP c (k ⟨⟩) Q)
      -∗ WP c (.op (.enqueueDma
          (((Memref.whole cc0_scratch4).slice (Rect.unit (s := S3x4x384x1024) off S1x2x384x1024.size inb) hst).squeeze S2x384x1024 sq)
          (.remote (Dev.tc n : Thread nD τ)
            (((Memref.whole cc0_scratch5).slice (Rect.unit (s := S3x4x384x1024) off S1x2x384x1024.size inb') hst').squeeze S2x384x1024 sq')
            (.dma sS) hsc) (.dma sR) hsrc hdst hsem) k) Q) := by
  have h0 : stage k5 = 0 := by rcases hk with ⟨rfl, -⟩ | ⟨rfl, -⟩ <;> rfl
  have es : sendPay m (k5, g) c = sbP c g lo 2 (stk (SB1 m c)) := by rcases hk with ⟨rfl, rfl⟩ | ⟨rfl, rfl⟩ <;> rfl
  have ed : (dstAny (k5, g) n : sProp 𝕄) = iprop(∃ f, rb1P n g lo 2 f) := by rcases hk with ⟨rfl, rfl⟩ | ⟨rfl, rfl⟩ <;> rfl
  have er : recvPay m (k5, g) n = rb1P n g lo 2 (stk (RB1 m n)) := by rcases hk with ⟨rfl, rfl⟩ | ⟨rfl, rfl⟩ <;> rfl
  have hset := run1_set (b := cc0_scratch5) (r := Rect.unit (s := S3x4x384x1024) off S1x2x384x1024.size inb') sq'.numel_eq
  have hset' := run1_set (b := cc0_scratch4) (r := Rect.unit (s := S3x4x384x1024) off S1x2x384x1024.size inb) sq.numel_eq
  rw [rect_reg (n := 4) (k := 2) ho] at hset hset'
  have hv : (((Memref.whole cc0_scratch5).slice (Rect.unit (s := S3x4x384x1024) off S1x2x384x1024.size inb') hst').squeeze S2x384x1024 sq').view.read (Elt F) (stk (RB1 m n))
      = (((Memref.whole cc0_scratch4).slice (Rect.unit (s := S3x4x384x1024) off S1x2x384x1024.size inb) hst).squeeze S2x384x1024 sq).view.read (Elt F) (stk (SB1 m c)) := by
    subst hn
    exact funext fun x => (stk_run (v := SB1 m c) (v' := RB1 m (peer (k5, g) c)) ho ho inb inb' sq.numel_eq (fun j j' d hj hj' => by
      rw [RB1_peer m k5 h0, show j = j' from Fin.ext (hj.trans hj'.symm)]) x).symm
  rw [← es]
  refine send_core m (k5, g) l hn hs hr (stk (SB1 m c)) ?_ ?_ ?_ ?_
  · rcases hk with ⟨rfl, -⟩ | ⟨rfl, -⟩
    · exact amt_a.symm
    · exact amt_b.symm
  · rw [es]; unfold sbP; rw [← hset']
  · rw [ed]; unfold rb1P; rw [← hset]; exact BI.Entails.refl _
  · intro fd
    have hw := write_on _ fd _ _ hv
    rw [er]; unfold rb1P; rw [← hset]
    exact Entails.of_eq (pointsTo_congr fun i hi => (hw i hi).symm)

theorem send2 (k5 : Fin 5) (lo lo' : ℕ) (hk : (k5 = 2 ∧ lo = 3 ∧ lo' = 1) ∨ (k5 = 3 ∧ lo = 2 ∧ lo' = 0)) (g : Fin 3) (l : List Debt)
    {off' : Fin 4 → ℕ} (hn : n = peer (k5, g) c) (ho : off = ![g.val, lo, 0, 0]) (ho' : off' = ![g.val, lo', 0, 0])
    (hs : sS = sendS (k5, g)) (hr : sR = recvS (k5, g)) {inb inb' hst hst' sq sq' hsc hsrc hdst hsem} :
    Ctx m K ⊢ iprop(Ex0 (k5, g) c -∗ wP c g lo 1 (stk (W1 m c)) -∗ owesE c (.xf (k5, g) :: l)
      -∗ (Ex1 (k5, g) c -∗ owesE c l -∗ WP c (k ⟨⟩) Q)
      -∗ WP c (.op (.enqueueDma
          (((Memref.whole cc0_scratch6).slice (Rect.unit (s := S3x4x384x1024) off S1x1x384x1024.size inb) hst).squeeze S1x384x1024 sq)
          (.remote (Dev.tc n : Thread nD τ)
            (((Memref.whole cc0_scratch7).slice (Rect.unit (s := S3x2x384x1024) off' S1x1x384x1024.size inb') hst').squeeze S1x384x1024 sq')
            (.dma sS) hsc) (.dma sR) hsrc hdst hsem) k) Q) := by
  have h0 : stage k5 = 1 := by rcases hk with ⟨rfl, -⟩ | ⟨rfl, -⟩ <;> rfl
  have es : sendPay m (k5, g) c = wP c g lo 1 (stk (W1 m c)) := by rcases hk with ⟨rfl, rfl, -⟩ | ⟨rfl, rfl, -⟩ <;> rfl
  have ed : (dstAny (k5, g) n : sProp 𝕄) = iprop(∃ f, rb2P n g lo' 1 f) := by rcases hk with ⟨rfl, -, rfl⟩ | ⟨rfl, -, rfl⟩ <;> rfl
  have er : recvPay m (k5, g) n = rb2P n g lo' 1 (stk (RB2 m n)) := by rcases hk with ⟨rfl, -, rfl⟩ | ⟨rfl, -, rfl⟩ <;> rfl
  have hl : lo = 2 + lo' := by rcases hk with ⟨-, rfl, rfl⟩ | ⟨-, rfl, rfl⟩ <;> rfl
  have hset := run1_set (b := cc0_scratch7) (r := Rect.unit (s := S3x2x384x1024) off' S1x1x384x1024.size inb') sq'.numel_eq
  have hset' := run1_set (b := cc0_scratch6) (r := Rect.unit (s := S3x4x384x1024) off S1x1x384x1024.size inb) sq.numel_eq
  rw [rect_reg (n := 2) (k := 1) ho'] at hset
  rw [rect_reg (n := 4) (k := 1) ho] at hset'
  have hv : (((Memref.whole cc0_scratch7).slice (Rect.unit (s := S3x2x384x1024) off' S1x1x384x1024.size inb') hst').squeeze S1x384x1024 sq').view.read (Elt F) (stk (RB2 m n))
      = (((Memref.whole cc0_scratch6).slice (Rect.unit (s := S3x4x384x1024) off S1x1x384x1024.size inb) hst).squeeze S1x384x1024 sq).view.read (Elt F) (stk (W1 m c)) := by
    subst hn
    exact funext fun x => (stk_run (v := W1 m c) (v' := RB2 m (peer (k5, g) c)) ho ho' inb inb' sq.numel_eq (fun j j' d hj hj' => by
      rw [RB2_peer m k5 h0]
      exact congrArg (W1 m c g) (Fin.ext (show j.val = 2 + j'.val by omega))) x).symm
  rw [← es]
  refine send_core m (k5, g) l hn hs hr (stk (W1 m c)) ?_ ?_ ?_ ?_
  · rcases hk with ⟨rfl, -⟩ | ⟨rfl, -⟩
    · exact amt_c.symm
    · exact amt_d.symm
  · rw [es]; unfold wP; rw [← hset']
  · rw [ed]; unfold rb2P; rw [← hset]; exact BI.Entails.refl _
  · intro fd
    have hw := write_on _ fd _ _ hv
    rw [er]; unfold rb2P; rw [← hset]
    exact Entails.of_eq (pointsTo_congr fun i hi => (hw i hi).symm)

theorem send3 (g : Fin 3) (l : List Debt) {off' : Fin 4 → ℕ} (hn : n = peer (4, g) c) (ho : off = ![g.val, 1, 0, 0])
    (ho' : off' = ![g.val, 0, 0, 0]) (hs : sS = sendS (4, g)) (hr : sR = recvS (4, g)) {inb inb' hst hst' sq sq' hsc hsrc hdst hsem} :
    Ctx m K ⊢ iprop(Ex0 (4, g) c -∗ wP c g 1 1 (stk (W2 m c)) -∗ owesE c (.xf (4, g) :: l)
      -∗ (Ex1 (4, g) c -∗ owesE c l -∗ WP c (k ⟨⟩) Q)
      -∗ WP c (.op (.enqueueDma
          (((Memref.whole cc0_scratch6).slice (Rect.unit (s := S3x4x384x1024) off S1x1x384x1024.size inb) hst).squeeze S1x384x1024 sq)
          (.remote (Dev.tc n : Thread nD τ)
            (((Memref.whole cc0_scratch8).slice (Rect.unit (s := S3x1x384x1024) off' S1x1x384x1024.size inb') hst').squeeze S1x384x1024 sq')
            (.dma sS) hsc) (.dma sR) hsrc hdst hsem) k) Q) := by
  have hset := run1_set (b := cc0_scratch8) (r := Rect.unit (s := S3x1x384x1024) off' S1x1x384x1024.size inb') sq'.numel_eq
  have hset' := run1_set (b := cc0_scratch6) (r := Rect.unit (s := S3x4x384x1024) off S1x1x384x1024.size inb) sq.numel_eq
  rw [rect_reg (n := 1) (k := 1) ho'] at hset
  rw [rect_reg (n := 4) (k := 1) ho] at hset'
  have hv : (((Memref.whole cc0_scratch8).slice (Rect.unit (s := S3x1x384x1024) off' S1x1x384x1024.size inb') hst').squeeze S1x384x1024 sq').view.read (Elt F) (stk (RB3 m n))
      = (((Memref.whole cc0_scratch6).slice (Rect.unit (s := S3x4x384x1024) off S1x1x384x1024.size inb) hst).squeeze S1x384x1024 sq).view.read (Elt F) (stk (W2 m c)) := by
    subst hn
    exact funext fun x => (stk_run (v := W2 m c) (v' := RB3 m (peer (4, g) c)) ho ho' inb inb' sq.numel_eq (fun j j' d hj hj' => by
      rw [RB3_peer m 4 rfl]
      exact congrArg (W2 m c g) (Fin.ext (show j.val = 1 by omega))) x).symm
  refine send_core m (4, g) l hn hs hr (stk (W2 m c)) amt_e.symm ?_ ?_ ?_
  · unfold sendPay wP; rw [← hset']
  · unfold dstAny rb3P; rw [← hset]; exact BI.Entails.refl _
  · intro fd
    have hw := write_on _ fd _ _ hv
    unfold recvPay rb3P; rw [← hset]
    exact Entails.of_eq (pointsTo_congr fun i hi => (hw i hi).symm)

end Cert.RS
-- ==== Proof.RS.Tiles.lean ====
/-
  The two-dimensional arrays and the staging buffers: which elements a tile covers, and what a staged tile reads.
-/
module

public import proofs.«01_k».proof.Proof.RS.Sends

@[expose] public section

noncomputable section

namespace Cert.RS

open Cert.KernelIdeal Cert.KernelIdeal.Gen
open Idealize.ShloMosaic
open Idealize.ShloMosaic.TcCoe
open Idealize.ShloMosaic.ValueIdx

/-- A matrix, and two staged pieces of one. -/
abbrev Mat (R C : ℕ) : Shape := ⟨2, ![R, C]⟩
abbrev Two (n C : ℕ) : Shape := ⟨3, ![2, n, C]⟩

section Geometry
variable {R C n k r0 c0 : ℕ}

/-- The elements of a matrix in rows `r0 … r0 + n` and columns `c0 … c0 + k`. -/
def box (R C r0 n c0 k : ℕ) : Finset (Mat R C).Idx :=
  Finset.univ.filter fun i => (r0 ≤ (i 0).val ∧ (i 0).val < r0 + n) ∧ c0 ≤ (i 1).val ∧ (i 1).val < c0 + k
theorem mem_box {i : (Mat R C).Idx} :
    i ∈ box R C r0 n c0 k ↔ (r0 ≤ (i 0).val ∧ (i 0).val < r0 + n) ∧ c0 ≤ (i 1).val ∧ (i 1).val < c0 + k := by
  unfold box; rw [Finset.mem_filter]; exact ⟨fun h => h.2, fun h => ⟨Finset.mem_univ _, h⟩⟩

theorem rect_box {off : Fin 2 → ℕ} (ho : off = ![r0, c0]) (inb : ∀ a, off a + (![n, k] : Fin 2 → ℕ) a ≤ (Mat R C).size a) :
    (Rect.unit (s := Mat R C) off ![n, k] inb).set = box R C r0 n c0 k := by
  subst ho
  ext i
  rw [Rect.mem_set_unit, mem_box]
  constructor
  · intro h; exact ⟨h 0, h 1⟩
  · intro h a
    match a with
    | ⟨0, _⟩ => exact h.1
    | ⟨1, _⟩ => exact h.2

theorem emb_box {off : Fin 2 → ℕ} (ho : off = ![r0, c0]) (inb : ∀ a, off a + (![n, k] : Fin 2 → ℕ) a ≤ (Mat R C).size a)
    (x : (Mat n k).Idx) :
    ((Rect.unit (s := Mat R C) off ![n, k] inb).emb x 0).val = r0 + (x 0).val
    ∧ ((Rect.unit (s := Mat R C) off ![n, k] inb).emb x 1).val = c0 + (x 1).val := by
  subst ho
  refine ⟨?_, ?_⟩
  · show r0 + 1 * (x 0).val = _; omega
  · show c0 + 1 * (x 1).val = _; omega

/-- Staged piece `s`. -/
def plane (n C s : ℕ) : Finset (Two n C).Idx := Finset.univ.filter fun i => (i 0).val = s
theorem mem_plane {s : ℕ} {i : (Two n C).Idx} : i ∈ plane n C s ↔ (i 0).val = s := by
  unfold plane; rw [Finset.mem_filter]; exact ⟨fun h => h.2, fun h => ⟨Finset.mem_univ _, h⟩⟩

theorem rect_plane {s : ℕ} {off : Fin 3 → ℕ} (ho : off = ![s, 0, 0]) (inb : ∀ a, off a + (![1, n, C] : Fin 3 → ℕ) a ≤ (Two n C).size a) :
    (Rect.unit (s := Two n C) off ![1, n, C] inb).set = plane n C s := by
  subst ho
  ext i
  rw [Rect.mem_set_unit, mem_plane]
  constructor
  · intro h
    have h0 := h 0
    change s ≤ (i 0).val ∧ (i 0).val < s + 1 at h0
    omega
  · intro h a
    match a with
    | ⟨0, _⟩ => change s ≤ (i 0).val ∧ (i 0).val < s + 1; omega
    | ⟨1, _⟩ => exact ⟨Nat.zero_le _, by have := (i 1).isLt; change (i 1).val < 0 + n; change (i 1).val < n at this; omega⟩
    | ⟨2, _⟩ => exact ⟨Nat.zero_le _, by have := (i 2).isLt; change (i 2).val < 0 + C; change (i 2).val < C at this; omega⟩

theorem emb_plane {s : ℕ} {off : Fin 3 → ℕ} (ho : off = ![s, 0, 0]) (inb : ∀ a, off a + (![1, n, C] : Fin 3 → ℕ) a ≤ (Two n C).size a)
    (x : (⟨3, ![1, n, C]⟩ : Shape).Idx) :
    ((Rect.unit (s := Two n C) off ![1, n, C] inb).emb x 1).val = (x 1).val
    ∧ ((Rect.unit (s := Two n C) off ![1, n, C] inb).emb x 2).val = (x 2).val := by
  subst ho
  refine ⟨?_, ?_⟩
  · show 0 + 1 * (x 1).val = _; omega
  · show 0 + 1 * (x 2).val = _; omega

theorem emb_flat {s : ℕ} {off : Fin 3 → ℕ} (ho : off = ![s, 0, 0]) (inb : ∀ a, off a + (![1, n, C] : Fin 3 → ℕ) a ≤ (Two n C).size a)
    (h : (Mat n C).numel = (⟨3, ![1, n, C]⟩ : Shape).numel) (x : (Mat n C).Idx) :
    ((Rect.unit (s := Two n C) off ![1, n, C] inb).emb (Shape.reshapeEquiv h x) 1).val = (x 0).val
    ∧ ((Rect.unit (s := Two n C) off ![1, n, C] inb).emb (Shape.reshapeEquiv h x) 2).val = (x 1).val := by
  obtain ⟨a, b, rfl⟩ : ∃ (a : Fin n) (b : Fin C), x = ix2 a b := ⟨x 0, x 1, eq_ix2 x⟩
  rw [reshapeEquiv_ix2_1ab]
  exact emb_plane ho inb _

theorem idx2 {i : (Mat R C).Idx} {a : Fin R} {b : Fin C} (h0 : (i 0).val = a.val) (h1 : (i 1).val = b.val) : i = ix2 a b := by
  rw [eq_ix2 i]; exact congrArg₂ ix2 (Fin.ext h0) (Fin.ext h1)

/-- Piece of a matrix from row `r0` on, as a staging buffer holds it. -/
def tile {α : Type} (f : (Mat R C).Idx → α) (r0 n : ℕ) (h : r0 + n ≤ R) : (Two n C).Idx → α := fun i =>
  f (ix2 (n0 := R) (n1 := C) ⟨r0 + (i 1).val, by have h1 : (i 1).val < n := (i 1).isLt; omega⟩ (i 2))
/-- The same piece, as a value of its own. -/
def rowsBlk {α : Type} (f : (Mat R C).Idx → α) (r0 n : ℕ) (h : r0 + n ≤ R) : (Mat n C).Idx → α := fun i =>
  f (ix2 (n0 := R) (n1 := C) ⟨r0 + (i 0).val, by have h1 : (i 0).val < n := (i 0).isLt; omega⟩ (i 1))

/-- The staged piece read as a matrix is what the matrix reads on its rows. -/
theorem tile_read {α : Type} (f : (Mat R C).Idx → α) (h : r0 + n ≤ R) {s : ℕ} {off : Fin 3 → ℕ} {off' : Fin 2 → ℕ}
    (ho : off = ![s, 0, 0]) (inb : ∀ a, off a + (![1, n, C] : Fin 3 → ℕ) a ≤ (Two n C).size a)
    (ho' : off' = ![r0, 0]) (inb' : ∀ a, off' a + (![n, C] : Fin 2 → ℕ) a ≤ (Mat R C).size a)
    (hq : (Mat n C).numel = (⟨3, ![1, n, C]⟩ : Shape).numel) (x : (Mat n C).Idx) :
    tile f r0 n h ((Rect.unit (s := Two n C) off ![1, n, C] inb).emb (Shape.reshapeEquiv hq x))
      = f ((Rect.unit (s := Mat R C) off' ![n, C] inb').emb x) := by
  obtain ⟨a1, a2⟩ := emb_flat ho inb hq x
  obtain ⟨b0, b1⟩ := emb_box ho' inb' x
  unfold tile
  refine congrArg f (idx2 ?_ ?_).symm
  · rw [b0]; show r0 + (x 0).val = r0 + _; rw [a1]
  · rw [b1, Nat.zero_add]; exact a2.symm

/-- Rows `r0 …` of a matrix, cast elementwise from the staged piece. -/
theorem tile_cast {α β : Type} (f : (Mat R C).Idx → α) (g : α → β) (h : r0 + n ≤ R) {s : ℕ} {off : Fin 3 → ℕ}
    (ho : off = ![s, 0, 0]) (inb : ∀ a, off a + (![1, n, C] : Fin 3 → ℕ) a ≤ (Two n C).size a)
    (hq : (Mat n C).numel = (⟨3, ![1, n, C]⟩ : Shape).numel) (x : (Mat n C).Idx) :
    g (tile f r0 n h ((Rect.unit (s := Two n C) off ![1, n, C] inb).emb (Shape.reshapeEquiv hq x)))
      = rowsBlk (fun i => g (f i)) r0 n h x := by
  obtain ⟨a1, a2⟩ := emb_flat ho inb hq x
  unfold tile rowsBlk
  refine congrArg (fun y => g (f y)) (idx2 ?_ ?_)
  · show r0 + _ = r0 + (x 0).val; rw [a1]
  · exact a2

theorem rowsBlk_read {α : Type} (f : (Mat R C).Idx → α) (h : r0 + n ≤ R) {off' : Fin 2 → ℕ}
    (ho' : off' = ![r0, 0]) (inb' : ∀ a, off' a + (![n, C] : Fin 2 → ℕ) a ≤ (Mat R C).size a) (x : (Mat n C).Idx) :
    f ((Rect.unit (s := Mat R C) off' ![n, C] inb').emb x) = rowsBlk f r0 n h x := by
  obtain ⟨b0, b1⟩ := emb_box ho' inb' x
  unfold rowsBlk
  exact congrArg f (idx2 b0 (by rw [b1, Nat.zero_add]))

end Geometry

/-- The staging semaphores: of the rows (0), of the columns (1), of the results (2). -/
def locS (b : Fin 3) (t : ℕ) : DmaSem sig := ⟨2 * b.val + t % 2, by have := b.isLt; show _ < 36; omega⟩
theorem locS_lt (b : Fin 3) (t : ℕ) : (locS b t).val < 6 := by have := b.isLt; show 2 * b.val + t % 2 < 6; omega
theorem locS_add (b : Fin 3) (t : ℕ) : locS b (t + 2) = locS b t := Fin.ext (by show 2 * b.val + (t + 2) % 2 = 2 * b.val + t % 2; omega)

theorem semA_eq {t : ℕ} {off : Fin 1 → ℕ} (ho : off = ![t % 2]) {inb} :
    ((cc0_scratch10.slice (Rect.unit (s := S2) off S1.size inb)).squeeze S_ squeezes_S1_S_).sem = locS 0 t := by
  rcases Nat.mod_two_eq_zero_or_one t with h | h <;> rw [h] at ho <;> subst ho <;>
    exact Fin.ext (by rw [show (locS 0 t).val = 2 * 0 + t % 2 from rfl, h]; revert inb; decide)
theorem semB_eq {t : ℕ} {off : Fin 1 → ℕ} (ho : off = ![t % 2]) {inb} :
    ((cc0_scratch11.slice (Rect.unit (s := S2) off S1.size inb)).squeeze S_ squeezes_S1_S_).sem = locS 1 t := by
  rcases Nat.mod_two_eq_zero_or_one t with h | h <;> rw [h] at ho <;> subst ho <;>
    exact Fin.ext (by rw [show (locS 1 t).val = 2 * 1 + t % 2 from rfl, h]; revert inb; decide)

/-- Where tile `t` of the rows starts, and of the columns' operand. -/
def rowA (c : Dev nD) (t : ℕ) : ℕ := 384 * (ord c (t / 2)).val + 192 * (t % 2)
theorem rowA_le (c : Dev nD) (t : ℕ) : rowA c t + 192 ≤ 3072 := by
  have h : (ord c (t / 2)).val < 8 := (ord c (t / 2)).isLt
  unfold rowA; omega
theorem halfOff_row (c : Dev nD) (t : ℕ) : halfOff c t = ![rowA c t, 0] := rfl
def rowB (t : ℕ) : ℕ := 96 * (t % 16)
theorem rowB_le (t : ℕ) : rowB t + 96 ≤ 1536 := by unfold rowB; omega
theorem rowB_of {t : ℕ} (h : t < 16) : rowB t = 96 * t := by unfold rowB; rw [Nat.mod_eq_of_lt h]

end Cert.RS
-- ==== Proof.RS.Mats.lean ====
/-
  Staging the operands: starting the copy of a tile, waiting for it, and moving it into the half-precision copy; reading
  blocks of that copy.
-/
module

public import proofs.«01_k».proof.Proof.RS.Tiles

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- The half of a source's share that the staging of tile `t` uses. -/
def half (t : ℕ) : PosShare TreeShare := if t % 2 = 0 then fullShare.left else fullShare.right
theorem half_add (t : ℕ) : half (t + 2) = half t := by unfold half; rw [Nat.add_mod_right]

section Core
variable {c : Dev nD} {α : Type} {Q : α → sProp (MT nD τ sig Unit (Elt F) ℕ UU ℕ)} {k : PUnit → Prog (TpuEff nD τ sig (Elt F) Λ₀ .tc) α}

/-- Starting a copy within the device, whatever the views, given what its two ends are made of. -/
theorem local_core {P D E : sProp (MT nD τ sig Unit (Elt F) ℕ UU ℕ)} {sp sp' : Space} {s : Shape} {e : EltTy} {src : Memref sig .tc sp s e}
    {dst : Memref sig (c : Thread nD τ).2.kind sp' s e} {sm : DmaSem sig} {hsrc : src.view.WordExact} {hdst : dst.view.WordExact}
    {hsem : DmaTarget.Typed (nD := nD) sp (.dma sm) (.here dst)} (q : PosShare TreeShare) (fs : Buf (Elt F) (src.view.loc (c : Thread nD τ)))
    (N : ℕ) (hN : dst.view.amount (.dma sm) = N) (hN0 : 0 < N)
    (hp : P = (src.view.loc (c : Thread nD τ) ↦[src.view.set]{q} fs))
    (hd : E ⊢ iprop(∃ fd, dst.view.loc (c : Thread nD τ) ↦[dst.view.set]{fullShare} fd))
    (hD : ∀ fd : Buf (Elt F) (dst.view.loc (c : Thread nD τ)),
      (dst.view.loc (c : Thread nD τ) ↦[dst.view.set]{fullShare} (dst.view.write (Elt F) fd (src.view.read (Elt F) fs) Finset.univ)) ⊢ D) :
    iprop(P ∗ E ∗ semVal ((c : Thread nD τ), .dma sm) 0)
      ⊢ iprop((Flight (EC (F := F)) (c : Thread nD τ) (.dma sm) () N iprop(D ∗ P) -∗ WP c (k ⟨⟩) Q)
        -∗ WP c (.op (.enqueueDma src (.here dst) (.dma sm) hsrc hdst hsem) k) Q) := by
  subst hp
  iintro ⟨Hs, HE, Hv⟩ Hk
  ihave HE := hd $$ HE
  icases HE with ⟨%fd, HE⟩
  iapply (wp_dmaLocal EC 𝒱₀ (c : Thread nD τ) none (defs := defs₀ (F := F)) (src := src) (dst := dst) (q := q) (fs := fs) (fd := fd)
    (Sd := dst.view.set) () N hN hN0 (Finset.Subset.refl _)) $$ [Hv HE Hs]
  · isplitl [Hs]; · iexact Hs
    isplitl [HE]; · iexact HE
    iexact Hv
  iintro HF
  iapply Hk
  iapply (Flight_mono EC (c : Thread nD τ) (sep_mono_left (hD fd))) $$ HF

end Core

/-! ## The rows -/

/-- The source, a staged tile, and the half-precision copy. -/
def srcA (c : Dev nD) (t : ℕ) (S : Finset (Mat 3072 1536).Idx) : sProp 𝕄 :=
  ((c : Thread nD τ).loc main_arg0) ↦[S]{half t} (Ain m c)
def stA (c : Dev nD) (t : ℕ) (f : (Two 192 1536).Idx → Elt F .f32) : sProp 𝕄 :=
  ((c : Thread nD τ).loc cc0_scratch2) ↦[plane 192 1536 (t % 2)]{fullShare} f
def winA (c : Dev nD) (t : ℕ) : Finset (Mat 3072 1536).Idx := box 3072 1536 (rowA c t) 192 0 1536
def tileA (c : Dev nD) (t : ℕ) : (Two 192 1536).Idx → Elt F .f32 := tile (Ain m c) (rowA c t) 192 (rowA_le c t)
def amtA : ℕ := cc0_scratch2.dmaCredit S192x1536 .f32
theorem amtA_eq : amtA = cc0_scratch2.dmaCredit S192x1536 .f32 := by unfold amtA; rfl
theorem amtA_pos : 0 < amtA := by decide +kernel

/-- The slot of tile `t`: free, in flight, and loaded. -/
def FreeA (c : Dev nD) (t : ℕ) : sProp 𝕄 :=
  iprop(semVal ((c : Thread nD τ), .dma (locS 0 t)) 0 ∗ (∃ f, stA (F := F) c t f) ∗ srcA m c t Finset.univ)
def FlightA (c : Dev nD) (t : ℕ) : sProp 𝕄 :=
  iprop(Flight (EC (F := F)) (c : Thread nD τ) (.dma (locS 0 t)) () amtA iprop(stA c t (tileA m c t) ∗ srcA m c t (winA c t))
    ∗ srcA m c t (Finset.univ \ winA c t))

def LoadedA (c : Dev nD) (t : ℕ) : sProp 𝕄 :=
  iprop(semVal ((c : Thread nD τ), .dma (locS 0 t)) 0 ∗ stA c t (tileA m c t) ∗ srcA m c t Finset.univ)
theorem LoadedA_free (c : Dev nD) (t : ℕ) : LoadedA m c t ⊢ FreeA m c t := by
  unfold LoadedA FreeA
  iintro ⟨Hv, Hs, Ha⟩
  isplitl [Hv]; · iexact Hv
  isplitl [Hs]; · iexists _; iexact Hs
  iexact Ha

theorem FreeA_add (c : Dev nD) (t : ℕ) : FreeA m c (t + 2) = FreeA m c t := by
  unfold FreeA srcA stA; rw [locS_add, half_add, Nat.add_mod_right]

section Rows
variable {c : Dev nD} {K : Dev nD × Fin 32 → ℕ} {α : Type} {Q : α → sProp (MT nD τ sig Unit (Elt F) ℕ UU ℕ)} {t : ℕ}
  {off off' : Fin 2 → ℕ} {off3 : Fin 3 → ℕ} {k : PUnit → Prog (TpuEff nD τ sig (Elt F) Λ₀ .tc) α} {sm : DmaSem sig}

theorem startA (ho : off = ![rowA c t, 0]) (ho' : off3 = ![t % 2, 0, 0]) (hs : sm = locS 0 t)
    {inb inb' hst hst' sq hsrc hdst hsem} :
    FreeA m c t ⊢ iprop((FlightA m c t -∗ WP c (k ⟨⟩) Q)
      -∗ WP c (.op (.enqueueDma ((Memref.whole main_arg0).slice (Rect.unit (s := S3072x1536) off S192x1536.size inb) hst)
          (.here (((Memref.whole cc0_scratch2).slice (Rect.unit (s := S2x192x1536) off3 S1x192x1536.size inb') hst').squeeze S192x1536 sq))
          (.dma sm) hsrc hdst hsem) k) Q) := by
  subst hs
  have hset := run1_set (b := cc0_scratch2) (r := Rect.unit (s := S2x192x1536) off3 S1x192x1536.size inb') sq.numel_eq
  rw [rect_plane (n := 192) (C := 1536) ho'] at hset
  have hwin : ((View.whole main_arg0).slice (Rect.unit (s := S3072x1536) off S192x1536.size inb)).set = winA c t := by
    rw [View.set_slice_whole]; exact rect_box ho inb
  have hv : (((Memref.whole cc0_scratch2).slice (Rect.unit (s := S2x192x1536) off3 S1x192x1536.size inb') hst').squeeze S192x1536 sq).view.read (Elt F) (tileA m c t)
      = ((Memref.whole main_arg0).slice (Rect.unit (s := S3072x1536) off S192x1536.size inb) hst).view.read (Elt F) (Ain m c) :=
    funext fun x => tile_read (Ain m c) (rowA_le c t) ho' inb' ho inb sq.numel_eq x
  unfold FreeA FlightA
  iintro ⟨Hv, Hst, Hsrc⟩ Hk
  ihave Hsrc := (show srcA m c t Finset.univ ⊢ iprop(srcA m c t (winA c t) ∗ srcA m c t (Finset.univ \ winA c t)) from
    (pointsTo_split_subset (Finset.subset_univ (winA c t))).1) $$ Hsrc
  icases Hsrc with ⟨Hwin, Hrest⟩
  have h := local_core (F := F) (c := c) (k := k) (Q := Q) (hsrc := hsrc) (hdst := hdst) (hsem := hsem) (P := srcA m c t (winA c t)) (D := stA c t (tileA m c t)) (E := iprop(∃ f, stA (F := F) c t f))
    (half t) (Ain m c) amtA amtA_eq.symm amtA_pos (by unfold srcA; rw [← hwin])
    (by unfold stA; rw [← hset]; exact BI.Entails.refl _)
    (fun fd => by
      have hw := write_on _ fd _ _ hv
      unfold stA; rw [← hset]
      exact Entails.of_eq (pointsTo_congr fun i hi => (hw i hi).symm))
  iapply h $$ [Hv Hst Hwin]
  · isplitl [Hwin]; · iexact Hwin
    isplitl [Hst]; · iexact Hst
    iexact Hv
  iintro HF
  iapply Hk
  isplitl [HF]; · iexact HF
  iexact Hrest

theorem waitA (l : List Debt) (hl : ∀ d ∈ l, 0 < d.lev) (hs : sm = locS 0 t) {sp sp' : Space} {s s' : Shape} {e e' : EltTy}
    {u : Memref sig .tc sp s e} {d : Memref sig .tc sp' s' e'} {hu hd} (hN : d.view.dmaCredit = amtA) :
    Ctx m K ⊢ iprop(FlightA m c t -∗ owesE c l -∗ (LoadedA m c t -∗ owesE c l -∗ WP c (k ⟨⟩) Q)
      -∗ WP c (.op (.waitDma2 sm u d hu hd) k) Q) := by
  subst hs
  unfold FlightA LoadedA owesE
  iintro #HC ⟨HF, Hrest⟩ ⟨%W, HO⟩ Hk
  ihave #Hlev := (Ctx_lev m K) $$ HC
  iapply (wp_waitLocalO EC 𝒱₀ (c : Thread nD τ) none (defs := defs₀ (F := F)) (srcw := u) (dstw := d) (hsrc := hu) (hdst := hd) () hN
    (O := debts c l) (W := W)) $$ [HF HO]
  · isplitl [HF]; · iexact HF
    isplitl [HO]; · iexact HO
    iapply (mayWait_debts c _ 0 (lv_local _ (locS_lt 0 t) c) l hl); iexact Hlev
  iintro ⟨⟨Hst, Hwin⟩, Hv, HO⟩
  iapply Hk $$ [Hv Hst Hwin Hrest] [HO]
  · isplitl [Hv]; · iexact Hv
    isplitl [Hst]; · iexact Hst
    unfold srcA
    iapply (pointsTo_split_subset (Finset.subset_univ (winA c t))).2
    isplitl [Hwin]; · iexact Hwin
    iexact Hrest
  · iexists _; iexact HO

/-- Reading the staged tile: after the cast it is the half-precision rows. -/
theorem ldStA (ho : off3 = ![t % 2, 0, 0]) {inb hl} {kk : Vec F S1x192x1536 .f32 → Prog (TpuEff nD τ sig (Elt F) Λ₀ .tc) α} :
    LoadedA m c t ⊢ iprop((∀ v, ⌜k0_pay23 (k0_pay22 v) = rowsBlk (A16 m c) (rowA c t) 192 (rowA_le c t)⌝ -∗ LoadedA m c t -∗ WP c (kk v) Q)
      -∗ WP c (.op (.load (Memref.whole cc0_scratch2) (Rect.unit (s := S2x192x1536) off3 S1x192x1536.size inb).toLoadRect hl) kk) Q) := by
  unfold LoadedA
  iintro ⟨Hv, Hst, Hs⟩ Hk
  have h := (wp_load_rect (defs := defs₀ (F := F)) (Γ := .empty) 𝒱₀ (c : Thread nD τ) none Set.univ (m := Memref.whole cc0_scratch2)
    (r := Rect.unit (s := S2x192x1536) off3 S1x192x1536.size inb) (hl := hl) (k := kk) (Q := Q) (S := plane 192 1536 (t % 2)) (q := fullShare)
    (f := tileA m c t) (by
      show ((View.whole cc0_scratch2).slice _).set ⊆ _
      rw [View.set_slice_whole]; exact (rect_plane ho inb).le))
  have hv : k0_pay23 (k0_pay22 (((Memref.whole cc0_scratch2).access (Rect.unit (s := S2x192x1536) off3 S1x192x1536.size inb)).read (Elt F) (tileA m c t)))
      = rowsBlk (A16 m c) (rowA c t) 192 (rowA_le c t) := by
    unfold k0_pay23
    refine funext fun x => (congrArg (k0_pay22 _) (Shape.reshapeEquiv_self _ x)).trans ?_
    exact tile_cast (Ain m c) (fun y => FloatOps.truncf .bf16 bitsLt_bf16_f32 y) (rowA_le c t) ho inb
      shapeCasts_S1x192x1536_S192x1536 x
  have h' : stA c t (tileA m c t) ⊢ iprop((stA c t (tileA m c t) -∗ WP c (kk _) Q) -∗ WP c _ Q) := h
  iapply h' $$ Hst
  iintro Hst
  iapply Hk $$ [] [Hv Hst Hs]
  · ipureintro; exact hv
  · isplitl [Hv]; · iexact Hv
    isplitl [Hst]; · iexact Hst
    iexact Hs

/-- The half-precision rows hold the first `n` tiles. -/
def FillA (c : Dev nD) (n : ℕ) : sProp 𝕄 :=
  iprop(∃ f : (Mat 3072 1536).Idx → Elt F .bf16, ⌜∀ j < n, ∀ i ∈ winA c j, f i = A16 m c i⌝ ∗ ((c : Thread nD τ).loc cc0_scratch0) ↦[Finset.univ]{fullShare} f)

theorem ldA_any {n : ℕ} {r : Rect S3072x1536} {hl} {kk : Vec F r.shape .bf16 → Prog (TpuEff nD τ sig (Elt F) Λ₀ .tc) α} :
    FillA m c n ⊢ iprop((∀ v, FillA m c n -∗ WP c (kk v) Q) -∗ WP c (.op (.load (Memref.whole cc0_scratch0) r.toLoadRect hl) kk) Q) := by
  unfold FillA
  iintro ⟨%f, %hf, Ha⟩ Hk
  iapply (wp_load_rect (defs := defs₀ (F := F)) (Γ := .empty) 𝒱₀ (c : Thread nD τ) none Set.univ (m := Memref.whole cc0_scratch0)
    (r := r) (hl := hl) (k := kk) (Q := Q) (S := Finset.univ) (q := fullShare) (f := f) (Finset.subset_univ _)) $$ Ha
  iintro Ha
  iapply Hk
  iexists f; isplitr; · ipureintro; exact hf
  iexact Ha

theorem stA16 (ho : off = ![rowA c t, 0]) {u : Vec F S192x1536 .bf16} (hu : u = rowsBlk (A16 m c) (rowA c t) 192 (rowA_le c t)) {inb hx hm} :
    FillA m c t ⊢ iprop((FillA m c (t + 1) -∗ WP c (k ⟨⟩) Q)
      -∗ WP c (.op (.store (Memref.whole cc0_scratch0) (Rect.unit (s := S3072x1536) off S192x1536.size inb) u Finset.univ hx hm) k) Q) := by
  unfold FillA
  iintro ⟨%f, %hf, Ha⟩ Hk
  iapply (wp_store (defs := defs₀ (F := F)) (Γ := .empty) 𝒱₀ (c : Thread nD τ) none Set.univ (m := Memref.whole cc0_scratch0)
    (r := Rect.unit (s := S3072x1536) off S192x1536.size inb) (w := u) (Mk := Finset.univ) (hx := hx) (hm := hm) (k := k) (Q := Q)
    (S := Finset.univ) (f := f) (Finset.subset_univ _)) $$ Ha
  iintro Ha
  iapply Hk
  iexists _
  isplitr
  rotate_left
  · iexact Ha
  ipureintro
  have hset : ((View.whole cc0_scratch0).slice (Rect.unit (s := S3072x1536) off S192x1536.size inb)).set = winA c t := by
    rw [View.set_slice_whole]; exact rect_box ho inb
  have hw := write_on ((View.whole cc0_scratch0).slice (Rect.unit (s := S3072x1536) off S192x1536.size inb)) f (A16 m c) u (by
    rw [hu]; funext x; exact rowsBlk_read (A16 m c) (rowA_le c t) ho inb x)
  intro j hj i hi
  by_cases hit : i ∈ winA c t
  · exact (hw i (hset.ge hit)).symm
  · have hjt : j < t := by
      rcases Nat.lt_succ_iff_lt_or_eq.mp hj with h | h
      · exact h
      · exact absurd (h ▸ hi) hit
    refine Eq.trans (View.write_of_not_mem _ _ _ ?_) (hf j hjt i hi)
    intro hmem; exact hit (hset.le (by rwa [View.setOn_univ] at hmem))

/-- Reading a row block whose two tiles are there. -/
theorem ld_rows {n : ℕ} {p : Dev nD} (ho : off = rowOff p) (i : ℕ) (hi : 2 * i + 2 ≤ n) (hp : ord c i = p) {inb hl}
    {kk : Vec F S384x1536 .bf16 → Prog (TpuEff nD τ sig (Elt F) Λ₀ .tc) α} :
    FillA m c n ⊢ iprop((FillA m c n -∗ WP c (kk (rowsOf m c p)) Q)
      -∗ WP c (.op (.load (Memref.whole cc0_scratch0) (Rect.unit (s := S3072x1536) off S384x1536.size inb).toLoadRect hl) kk) Q) := by
  unfold FillA
  iintro ⟨%f, %hf, Ha⟩ Hk
  have hv : ((Memref.whole cc0_scratch0).access (Rect.unit (s := S3072x1536) off S384x1536.size inb)).read (Elt F) f = rowsOf m c p := by
    funext x
    obtain ⟨b0, b1⟩ := emb_box (show off = ![384 * p.val, 0] from ho) inb x
    have hx : (x 0).val < 384 := (x 0).isLt
    have hx1 : (x 1).val < 1536 := (x 1).isLt
    have key : ∀ y : (Mat 3072 1536).Idx, (y 0).val = 384 * p.val + (x 0).val → (y 1).val = 0 + (x 1).val → f y = A16 m c y := by
      intro y b0 b1
      by_cases h : (x 0).val < 192
      · refine hf (2 * i) (by omega) _ (mem_box.mpr ?_)
        have e : rowA c (2 * i) = 384 * p.val := by
          unfold rowA; rw [show 2 * i / 2 = i from by omega, show 2 * i % 2 = 0 from by omega, hp]; omega
        rw [b0, b1, e]; omega
      · refine hf (2 * i + 1) (by omega) _ (mem_box.mpr ?_)
        have e : rowA c (2 * i + 1) = 384 * p.val + 192 := by
          unfold rowA; rw [show (2 * i + 1) / 2 = i from by omega, show (2 * i + 1) % 2 = 1 from by omega, hp]
        rw [b0, b1, e]; omega
    exact (key _ b0 b1).trans (congrArg (A16 m c) (idx2 b0 (by rw [b1, Nat.zero_add])))
  have h := wp_load_rect (defs := defs₀ (F := F)) (Γ := .empty) 𝒱₀ (c : Thread nD τ) none Set.univ (m := Memref.whole cc0_scratch0)
    (r := Rect.unit (s := S3072x1536) off S384x1536.size inb) (hl := hl) (k := kk) (Q := Q) (S := Finset.univ) (q := fullShare) (f := f)
    (Finset.subset_univ _)
  rw [hv] at h
  iapply h $$ Ha
  iintro Ha
  iapply Hk
  iexists f; isplitr; · ipureintro; exact hf
  iexact Ha

end Rows

end Cert.RS
-- ==== Proof.RS.MatsB.lean ====
/-
  Staging the columns' operand: as for the rows, over its own buffers; reading column thirds once it is all there.
-/
module

public import proofs.«01_k».proof.Proof.RS.Mats

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The columns' operand -/

/-- The source, a staged tile, and the half-precision copy. -/
def srcB (c : Dev nD) (t : ℕ) (S : Finset (Mat 1536 3072).Idx) : sProp 𝕄 :=
  ((c : Thread nD τ).loc main_arg1) ↦[S]{half t} (Bin m c)
def stB (c : Dev nD) (t : ℕ) (f : (Two 96 3072).Idx → Elt F .f32) : sProp 𝕄 :=
  ((c : Thread nD τ).loc cc0_scratch3) ↦[plane 96 3072 (t % 2)]{fullShare} f
def winB (t : ℕ) : Finset (Mat 1536 3072).Idx := box 1536 3072 (rowB t) 96 0 3072
def tileB (c : Dev nD) (t : ℕ) : (Two 96 3072).Idx → Elt F .f32 := tile (Bin m c) (rowB t) 96 (rowB_le t)
def amtB : ℕ := cc0_scratch3.dmaCredit S96x3072 .f32
theorem amtB_eq : amtB = cc0_scratch3.dmaCredit S96x3072 .f32 := by unfold amtB; rfl
theorem amtB_pos : 0 < amtB := by decide +kernel

/-- The slot of tile `t`: free, in flight, and loaded. -/
def FreeB (c : Dev nD) (t : ℕ) : sProp 𝕄 :=
  iprop(semVal ((c : Thread nD τ), .dma (locS 1 t)) 0 ∗ (∃ f, stB (F := F) c t f) ∗ srcB m c t Finset.univ)
def FlightB (c : Dev nD) (t : ℕ) : sProp 𝕄 :=
  iprop(Flight (EC (F := F)) (c : Thread nD τ) (.dma (locS 1 t)) () amtB iprop(stB c t (tileB m c t) ∗ srcB m c t (winB t))
    ∗ srcB m c t (Finset.univ \ winB t))

def LoadedB (c : Dev nD) (t : ℕ) : sProp 𝕄 :=
  iprop(semVal ((c : Thread nD τ), .dma (locS 1 t)) 0 ∗ stB c t (tileB m c t) ∗ srcB m c t Finset.univ)
theorem LoadedB_free (c : Dev nD) (t : ℕ) : LoadedB m c t ⊢ FreeB m c t := by
  unfold LoadedB FreeB
  iintro ⟨Hv, Hs, Ha⟩
  isplitl [Hv]; · iexact Hv
  isplitl [Hs]; · iexists _; iexact Hs
  iexact Ha

theorem FreeB_add (c : Dev nD) (t : ℕ) : FreeB m c (t + 2) = FreeB m c t := by
  unfold FreeB srcB stB; rw [locS_add, half_add, Nat.add_mod_right]

section Cols
variable {c : Dev nD} {K : Dev nD × Fin 32 → ℕ} {α : Type} {Q : α → sProp (MT nD τ sig Unit (Elt F) ℕ UU ℕ)} {t : ℕ}
  {off off' : Fin 2 → ℕ} {off3 : Fin 3 → ℕ} {k : PUnit → Prog (TpuEff nD τ sig (Elt F) Λ₀ .tc) α} {sm : DmaSem sig}

theorem startB (ho : off = ![rowB t, 0]) (ho' : off3 = ![t % 2, 0, 0]) (hs : sm = locS 1 t)
    {inb inb' hst hst' sq hsrc hdst hsem} :
    FreeB m c t ⊢ iprop((FlightB m c t -∗ WP c (k ⟨⟩) Q)
      -∗ WP c (.op (.enqueueDma ((Memref.whole main_arg1).slice (Rect.unit (s := S1536x3072) off S96x3072.size inb) hst)
          (.here (((Memref.whole cc0_scratch3).slice (Rect.unit (s := S2x96x3072) off3 S1x96x3072.size inb') hst').squeeze S96x3072 sq))
          (.dma sm) hsrc hdst hsem) k) Q) := by
  subst hs
  have hset := run1_set (b := cc0_scratch3) (r := Rect.unit (s := S2x96x3072) off3 S1x96x3072.size inb') sq.numel_eq
  rw [rect_plane (n := 96) (C := 3072) ho'] at hset
  have hwin : ((View.whole main_arg1).slice (Rect.unit (s := S1536x3072) off S96x3072.size inb)).set = winB t := by
    rw [View.set_slice_whole]; exact rect_box ho inb
  have hv : (((Memref.whole cc0_scratch3).slice (Rect.unit (s := S2x96x3072) off3 S1x96x3072.size inb') hst').squeeze S96x3072 sq).view.read (Elt F) (tileB m c t)
      = ((Memref.whole main_arg1).slice (Rect.unit (s := S1536x3072) off S96x3072.size inb) hst).view.read (Elt F) (Bin m c) :=
    funext fun x => tile_read (Bin m c) (rowB_le t) ho' inb' ho inb sq.numel_eq x
  unfold FreeB FlightB
  iintro ⟨Hv, Hst, Hsrc⟩ Hk
  ihave Hsrc := (show srcB m c t Finset.univ ⊢ iprop(srcB m c t (winB t) ∗ srcB m c t (Finset.univ \ winB t)) from
    (pointsTo_split_subset (Finset.subset_univ (winB t))).1) $$ Hsrc
  icases Hsrc with ⟨Hwin, Hrest⟩
  have h := local_core (F := F) (c := c) (k := k) (Q := Q) (hsrc := hsrc) (hdst := hdst) (hsem := hsem) (P := srcB m c t (winB t)) (D := stB c t (tileB m c t)) (E := iprop(∃ f, stB (F := F) c t f))
    (half t) (Bin m c) amtB amtB_eq.symm amtB_pos (by unfold srcB; rw [← hwin])
    (by unfold stB; rw [← hset]; exact BI.Entails.refl _)
    (fun fd => by
      have hw := write_on _ fd _ _ hv
      unfold stB; rw [← hset]
      exact Entails.of_eq (pointsTo_congr fun i hi => (hw i hi).symm))
  iapply h $$ [Hv Hst Hwin]
  · isplitl [Hwin]; · iexact Hwin
    isplitl [Hst]; · iexact Hst
    iexact Hv
  iintro HF
  iapply Hk
  isplitl [HF]; · iexact HF
  iexact Hrest

theorem waitB (l : List Debt) (hl : ∀ d ∈ l, 0 < d.lev) (hs : sm = locS 1 t) {sp sp' : Space} {s s' : Shape} {e e' : EltTy}
    {u : Memref sig .tc sp s e} {d : Memref sig .tc sp' s' e'} {hu hd} (hN : d.view.dmaCredit = amtB) :
    Ctx m K ⊢ iprop(FlightB m c t -∗ owesE c l -∗ (LoadedB m c t -∗ owesE c l -∗ WP c (k ⟨⟩) Q)
      -∗ WP c (.op (.waitDma2 sm u d hu hd) k) Q) := by
  subst hs
  unfold FlightB LoadedB owesE
  iintro #HC ⟨HF, Hrest⟩ ⟨%W, HO⟩ Hk
  ihave #Hlev := (Ctx_lev m K) $$ HC
  iapply (wp_waitLocalO EC 𝒱₀ (c : Thread nD τ) none (defs := defs₀ (F := F)) (srcw := u) (dstw := d) (hsrc := hu) (hdst := hd) () hN
    (O := debts c l) (W := W)) $$ [HF HO]
  · isplitl [HF]; · iexact HF
    isplitl [HO]; · iexact HO
    iapply (mayWait_debts c _ 0 (lv_local _ (locS_lt 1 t) c) l hl); iexact Hlev
  iintro ⟨⟨Hst, Hwin⟩, Hv, HO⟩
  iapply Hk $$ [Hv Hst Hwin Hrest] [HO]
  · isplitl [Hv]; · iexact Hv
    isplitl [Hst]; · iexact Hst
    unfold srcB
    iapply (pointsTo_split_subset (Finset.subset_univ (winB t))).2
    isplitl [Hwin]; · iexact Hwin
    iexact Hrest
  · iexists _; iexact HO

/-- Reading the staged tile: after the cast it is the half-precision copy. -/
theorem ldStB (ho : off3 = ![t % 2, 0, 0]) {inb hl} {kk : Vec F S1x96x3072 .f32 → Prog (TpuEff nD τ sig (Elt F) Λ₀ .tc) α} :
    LoadedB m c t ⊢ iprop((∀ v, ⌜k0_pay29 v = rowsBlk (B16 m c) (rowB t) 96 (rowB_le t)⌝ -∗ LoadedB m c t -∗ WP c (kk v) Q)
      -∗ WP c (.op (.load (Memref.whole cc0_scratch3) (Rect.unit (s := S2x96x3072) off3 S1x96x3072.size inb).toLoadRect hl) kk) Q) := by
  unfold LoadedB
  iintro ⟨Hv, Hst, Hs⟩ Hk
  have h := (wp_load_rect (defs := defs₀ (F := F)) (Γ := .empty) 𝒱₀ (c : Thread nD τ) none Set.univ (m := Memref.whole cc0_scratch3)
    (r := Rect.unit (s := S2x96x3072) off3 S1x96x3072.size inb) (hl := hl) (k := kk) (Q := Q) (S := plane 96 3072 (t % 2)) (q := fullShare)
    (f := tileB m c t) (by
      show ((View.whole cc0_scratch3).slice _).set ⊆ _
      rw [View.set_slice_whole]; exact (rect_plane ho inb).le))
  have hv : k0_pay29 (((Memref.whole cc0_scratch3).access (Rect.unit (s := S2x96x3072) off3 S1x96x3072.size inb)).read (Elt F) (tileB m c t))
      = rowsBlk (B16 m c) (rowB t) 96 (rowB_le t) := by
    unfold k0_pay29
    refine funext fun x => (congrArg (truncf .bf16 (shapeCast S96x3072 _ shapeCasts_S1x96x3072_S96x3072) bitsLt_bf16_f32) (Shape.reshapeEquiv_self _ x)).trans ?_
    exact tile_cast (Bin m c) (fun y => FloatOps.truncf .bf16 bitsLt_bf16_f32 y) (rowB_le t) ho inb
      shapeCasts_S1x96x3072_S96x3072 x
  have h' : stB c t (tileB m c t) ⊢ iprop((stB c t (tileB m c t) -∗ WP c (kk _) Q) -∗ WP c _ Q) := h
  iapply h' $$ Hst
  iintro Hst
  iapply Hk $$ [] [Hv Hst Hs]
  · ipureintro; exact hv
  · isplitl [Hv]; · iexact Hv
    isplitl [Hst]; · iexact Hst
    iexact Hs

/-- The half-precision copy hold the first `n` tiles. -/
def FillB (c : Dev nD) (n : ℕ) : sProp 𝕄 :=
  iprop(∃ f : (Mat 1536 3072).Idx → Elt F .bf16, ⌜∀ j < n, ∀ i ∈ winB j, f i = B16 m c i⌝ ∗ ((c : Thread nD τ).loc cc0_scratch1) ↦[Finset.univ]{fullShare} f)

theorem ldB_any {n : ℕ} {r : Rect S1536x3072} {hl} {kk : Vec F r.shape .bf16 → Prog (TpuEff nD τ sig (Elt F) Λ₀ .tc) α} :
    FillB m c n ⊢ iprop((∀ v, FillB m c n -∗ WP c (kk v) Q) -∗ WP c (.op (.load (Memref.whole cc0_scratch1) r.toLoadRect hl) kk) Q) := by
  unfold FillB
  iintro ⟨%f, %hf, Ha⟩ Hk
  iapply (wp_load_rect (defs := defs₀ (F := F)) (Γ := .empty) 𝒱₀ (c : Thread nD τ) none Set.univ (m := Memref.whole cc0_scratch1)
    (r := r) (hl := hl) (k := kk) (Q := Q) (S := Finset.univ) (q := fullShare) (f := f) (Finset.subset_univ _)) $$ Ha
  iintro Ha
  iapply Hk
  iexists f; isplitr; · ipureintro; exact hf
  iexact Ha

theorem stB16 (ho : off = ![rowB t, 0]) {u : Vec F S96x3072 .bf16} (hu : u = rowsBlk (B16 m c) (rowB t) 96 (rowB_le t)) {inb hx hm} :
    FillB m c t ⊢ iprop((FillB m c (t + 1) -∗ WP c (k ⟨⟩) Q)
      -∗ WP c (.op (.store (Memref.whole cc0_scratch1) (Rect.unit (s := S1536x3072) off S96x3072.size inb) u Finset.univ hx hm) k) Q) := by
  unfold FillB
  iintro ⟨%f, %hf, Ha⟩ Hk
  iapply (wp_store (defs := defs₀ (F := F)) (Γ := .empty) 𝒱₀ (c : Thread nD τ) none Set.univ (m := Memref.whole cc0_scratch1)
    (r := Rect.unit (s := S1536x3072) off S96x3072.size inb) (w := u) (Mk := Finset.univ) (hx := hx) (hm := hm) (k := k) (Q := Q)
    (S := Finset.univ) (f := f) (Finset.subset_univ _)) $$ Ha
  iintro Ha
  iapply Hk
  iexists _
  isplitr
  rotate_left
  · iexact Ha
  ipureintro
  have hset : ((View.whole cc0_scratch1).slice (Rect.unit (s := S1536x3072) off S96x3072.size inb)).set = winB t := by
    rw [View.set_slice_whole]; exact rect_box ho inb
  have hw := write_on ((View.whole cc0_scratch1).slice (Rect.unit (s := S1536x3072) off S96x3072.size inb)) f (B16 m c) u (by
    rw [hu]; funext x; exact rowsBlk_read (B16 m c) (rowB_le t) ho inb x)
  intro j hj i hi
  by_cases hit : i ∈ winB t
  · exact (hw i (hset.ge hit)).symm
  · have hjt : j < t := by
      rcases Nat.lt_succ_iff_lt_or_eq.mp hj with h | h
      · exact h
      · exact absurd (h ▸ hi) hit
    refine Eq.trans (View.write_of_not_mem _ _ _ ?_) (hf j hjt i hi)
    intro hmem; exact hit (hset.le (by rwa [View.setOn_univ] at hmem))

/-- Reading a column third once every tile is there. -/
theorem ld_cols {g : Fin 3} (ho : off = ![0, 1024 * g.val]) {inb hl} {kk : Vec F S1536x1024 .bf16 → Prog (TpuEff nD τ sig (Elt F) Λ₀ .tc) α} :
    FillB m c 16 ⊢ iprop((FillB m c 16 -∗ WP c (kk (colsOf m c g)) Q)
      -∗ WP c (.op (.load (Memref.whole cc0_scratch1) (Rect.unit (s := S1536x3072) off S1536x1024.size inb).toLoadRect hl) kk) Q) := by
  unfold FillB
  iintro ⟨%f, %hf, Ha⟩ Hk
  have hv : ((Memref.whole cc0_scratch1).access (Rect.unit (s := S1536x3072) off S1536x1024.size inb)).read (Elt F) f = colsOf m c g := by
    funext x
    obtain ⟨b0, b1⟩ := emb_box ho inb x
    have key : ∀ y : (Mat 1536 3072).Idx, f y = B16 m c y := by
      intro y
      have h0 : (y 0).val < 1536 := (y 0).isLt
      have h1 : (y 1).val < 3072 := (y 1).isLt
      refine hf ((y 0).val / 96) (by omega) _ (mem_box.mpr ?_)
      rw [rowB_of (by omega)]
      omega
    exact (key _).trans (congrArg (B16 m c) (idx2 (b0.trans (Nat.zero_add _)) b1))
  have h := wp_load_rect (defs := defs₀ (F := F)) (Γ := .empty) 𝒱₀ (c : Thread nD τ) none Set.univ (m := Memref.whole cc0_scratch1)
    (r := Rect.unit (s := S1536x3072) off S1536x1024.size inb) (hl := hl) (k := kk) (Q := Q) (S := Finset.univ) (q := fullShare) (f := f)
    (Finset.subset_univ _)
  rw [hv] at h
  iapply h $$ Ha
  iintro Ha
  iapply Hk
  iexists f; isplitr; · ipureintro; exact hf
  iexact Ha

end Cols

end Cert.RS
-- ==== Proof.RS.LoopB.lean ====
/-
  The parts of the kernel on its own buffers, and the loop that stages the columns' operand.
-/
module

public import proofs.«01_k».proof.Proof.RS.MatsB

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- A piece of the kernel on the kernel's own buffers and semaphores. -/
abbrev At {β : Type 1} (p : (arg0 : Memref sig .tc .hbm S3072x1536 .f32) → (harg0 : arg0.IsWhole) → (arg1 : Memref sig .tc .hbm S1536x3072 .f32) → (harg1 : arg1.IsWhole) → (arg2 : Memref sig .tc .hbm S384x3072 .f32) → (harg2 : arg2.IsWhole) → (arg3 : Memref sig .tc .vmem S3072x1536 .bf16) → (harg3 : arg3.IsWhole) → (arg4 : Memref sig .tc .vmem S1536x3072 .bf16) → (harg4 : arg4.IsWhole) → (arg5 : Memref sig .tc .vmem S2x192x1536 .f32) → (harg5 : arg5.IsWhole) → (arg6 : Memref sig .tc .vmem S2x96x3072 .f32) → (harg6 : arg6.IsWhole) → (arg7 : Memref sig .tc .vmem S3x4x384x1024 .bf16) → (harg7 : arg7.IsWhole) → (arg8 : Memref sig .tc .vmem S3x4x384x1024 .bf16) → (harg8 : arg8.IsWhole) → (arg9 : Memref sig .tc .vmem S3x4x384x1024 .bf16) → (harg9 : arg9.IsWhole) → (arg10 : Memref sig .tc .vmem S3x2x384x1024 .bf16) → (harg10 : arg10.IsWhole) → (arg11 : Memref sig .tc .vmem S3x1x384x1024 .bf16) → (harg11 : arg11.IsWhole) → (arg12 : Memref sig .tc .vmem S2x384x1024 .f32) → (harg12 : arg12.IsWhole) → (arg13 : DmaSems sig S2) → (arg14 : DmaSems sig S2) → (arg15 : DmaSems sig S2) → (arg16 : DmaSems sig S3) → (arg17 : DmaSems sig S3) → (arg18 : DmaSems sig S3) → (arg19 : DmaSems sig S3) → (arg20 : DmaSems sig S3) → (arg21 : DmaSems sig S3) → (arg22 : DmaSems sig S3) → (arg23 : DmaSems sig S3) → (arg24 : DmaSems sig S3) → (arg25 : DmaSems sig S3) → (arg26 : Sems sig S_) → β) : β :=
  p (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23

theorem wp_done {c : Dev nD} {β : Type} {a : β} {Q : β → sProp (MT nD τ sig Unit (Elt F) ℕ UU ℕ)} : Q a ⊢ WP c (Prog.ret a) Q := by
  unfold WP
  rw [wp_ret]
  iintro H
  imodintro
  iexact H

section Loop
variable {c : Dev nD} {K : Dev nD × Fin 32 → ℕ}

def SlotB (c : Dev nD) (t : ℕ) : sProp 𝕄 := if t < 16 then FlightB m c t else FreeB m c t
theorem SlotB_in {c : Dev nD} {t : ℕ} (h : t < 16) : SlotB m c t = FlightB m c t := if_pos h
theorem SlotB_out {c : Dev nD} {t : ℕ} (h : ¬ t < 16) : SlotB m c t = FreeB m c t := if_neg h

/-- Before trip `t`: tile `t` and the next are on their way, the earlier ones have been cast. -/
def invB (c : Dev nD) (K : Dev nD × Fin 32 → ℕ) (l : List Debt) (t : ℕ) : sProp 𝕄 :=
  iprop(Ctx m K ∗ SlotB m c t ∗ SlotB m c (t + 1) ∗ FillB m c t ∗ owesE c l)

theorem stepB (l : List Debt) (hl : ∀ d ∈ l, 0 < d.lev) (d0 : Dev nD) (v2 : BitVec 32) (t : Fin k0_t1_loop.trips) (acc : Unit) :
    invB m c K l t.val ⊢ WP c (At (k0_t1_body (F := F)) d0 v2 t acc) (fun _ => invB m c K l (t.val + 1)) := by
  have ht : t.val < 16 := t.isLt
  unfold At k0_t1_body invB
  simp only [Prog.lift, Prog.bind_op, Prog.bind_ret, Prog.pure_eq_ret]
  rw [SlotB_in m ht]
  iintro ⟨#HC, HF, HN, Ha, HO⟩
  iapply (waitB m l hl (semB_eq (k0_off5_eq t)) amtB_eq.symm) $$ HC HF HO
  iintro HL HO
  iapply (ldStB m (k0_off8_eq t)) $$ HL
  iintro %v %hv HL
  iapply (ldB_any m) $$ Ha
  iintro %v' Ha
  iapply (stB16 m ((k0_off9_eq t).trans (by rw [rowB_of ht])) hv) $$ Ha
  iintro Ha
  ihave HL := ((LoadedB_free m c t.val).trans (Entails.of_eq (FreeB_add m c t.val).symm)) $$ HL
  by_cases h : k0_cond1 t = 1#1
  · have h2 : t.val + 2 < 16 := (cond1_iff t).mp h
    rw [dif_pos h]
    iapply (startB m ((k0_off12_eq t).trans (by rw [rowB_of h2]; rfl)) (k0_off11_eq t) (semB_eq (k0_off10_eq t))) $$ HL
    iintro HL
    iapply wp_done
    isplitr; · iexact HC
    isplitl [HN]; · iexact HN
    isplitl [HL]; · rw [SlotB_in m h2]; iexact HL
    isplitl [Ha]; · iexact Ha
    iexact HO
  · have h2 : ¬ t.val + 2 < 16 := fun hh => h ((cond1_iff t).mpr hh)
    rw [dif_neg h]
    iapply wp_done
    isplitr; · iexact HC
    isplitl [HN]; · iexact HN
    isplitl [HL]; · rw [SlotB_out m h2]; iexact HL
    isplitl [Ha]; · iexact Ha
    iexact HO

end Loop

end Cert.RS
-- ==== Proof.RS.Acts.lean ====
/-
  The products a device forms while it converts its rows, and the first exchange's sends: the parts of the kernel's
  second loop, one rule each.
-/
module

public import proofs.«01_k».proof.Proof.RS.LoopB

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

section Facts

/-! ## Where things are -/

def oi (g : Fin 3) (j : Fin 4) : ℕ := (![![3, 2, 1, 0], ![5, 1, 4, 0], ![6, 4, 2, 0]] : Fin 3 → Fin 4 → ℕ) g j
def wi (g : Fin 3) (j : Fin 4) : ℕ := (![![7, 6, 5, 4], ![7, 3, 6, 2], ![7, 5, 3, 1]] : Fin 3 → Fin 4 → ℕ) g j

/-- The row block given away from a slot, and the one kept, by the trip that converts it. -/
theorem och_ord (g : Fin 3) (j : Fin 4) (c : Dev nD) : och g j c = ord c (oi g j) := by revert g j c; decide
theorem wch_ord (g : Fin 3) (j : Fin 4) (c : Dev nD) : wch g j c = ord c (wi g j) := by revert g j c; decide

theorem row21 (c : Dev nD) : k0_off21 c = rowOff (ord c 1) := (off21_eq c).trans (congrArg rowOff (och_ord 0 2 c))
theorem row22 (c : Dev nD) : k0_off22 c = rowOff (ord c 0) := (off22_eq c).trans (congrArg rowOff (och_ord 0 3 c))
theorem row23 (c : Dev nD) : k0_off23 c = rowOff (ord c 2) := (off23_eq c).trans (congrArg rowOff (och_ord 2 2 c))
theorem row24 (c : Dev nD) : k0_off24 c = rowOff (ord c 0) := (off24_eq c).trans (congrArg rowOff (och_ord 2 3 c))
theorem row25 (c : Dev nD) : k0_off25 c = rowOff (ord c 3) := (off25_eq c).trans (congrArg rowOff (och_ord 0 0 c))
theorem row26 (c : Dev nD) : k0_off26 c = rowOff (ord c 2) := (off26_eq c).trans (congrArg rowOff (och_ord 0 1 c))
theorem row27 (c : Dev nD) : k0_off27 c = rowOff (ord c 4) := (off27_eq c).trans (congrArg rowOff (och_ord 1 2 c))
theorem row28 (c : Dev nD) : k0_off28 c = rowOff (ord c 0) := (off28_eq c).trans (congrArg rowOff (och_ord 1 3 c))
theorem row29 (c : Dev nD) : k0_off29 c = rowOff (ord c 5) := (off29_eq c).trans (congrArg rowOff (och_ord 1 0 c))
theorem row30 (c : Dev nD) : k0_off30 c = rowOff (ord c 1) := (off30_eq c).trans (congrArg rowOff (och_ord 1 1 c))
theorem row31 (c : Dev nD) : k0_off31 c = rowOff (ord c 6) := (off31_eq c).trans (congrArg rowOff (och_ord 2 0 c))
theorem row32 (c : Dev nD) : k0_off32 c = rowOff (ord c 4) := (off32_eq c).trans (congrArg rowOff (och_ord 2 1 c))
theorem row33 (c : Dev nD) : k0_off33 c = rowOff (ord c 7) := (off33_eq c).trans (congrArg rowOff (wch_ord 0 0 c))

theorem col0 : (![0, 0] : Fin 2 → ℕ) = ![0, 1024 * (0 : Fin 3).val] := rfl
theorem col1 : (![0, 1024] : Fin 2 → ℕ) = ![0, 1024 * (1 : Fin 3).val] := rfl
theorem col2 : (![0, 2048] : Fin 2 → ℕ) = ![0, 1024 * (2 : Fin 3).val] := rfl
theorem at0 : (![0] : Fin 1 → ℕ) = ![(0 : Fin 3).val] := rfl
theorem sl00 : (![0, 0, 0, 0] : Fin 4 → ℕ) = ![(0 : Fin 3).val, (0 : Fin 4).val, 0, 0] := rfl
theorem run00 : (![0, 0, 0, 0] : Fin 4 → ℕ) = ![(0 : Fin 3).val, 0, 0, 0] := rfl
theorem sl01 : (![0, 1, 0, 0] : Fin 4 → ℕ) = ![(0 : Fin 3).val, (1 : Fin 4).val, 0, 0] := rfl
theorem run01 : (![0, 1, 0, 0] : Fin 4 → ℕ) = ![(0 : Fin 3).val, 1, 0, 0] := rfl
theorem sl02 : (![0, 2, 0, 0] : Fin 4 → ℕ) = ![(0 : Fin 3).val, (2 : Fin 4).val, 0, 0] := rfl
theorem run02 : (![0, 2, 0, 0] : Fin 4 → ℕ) = ![(0 : Fin 3).val, 2, 0, 0] := rfl
theorem sl03 : (![0, 3, 0, 0] : Fin 4 → ℕ) = ![(0 : Fin 3).val, (3 : Fin 4).val, 0, 0] := rfl
theorem run03 : (![0, 3, 0, 0] : Fin 4 → ℕ) = ![(0 : Fin 3).val, 3, 0, 0] := rfl
theorem at1 : (![1] : Fin 1 → ℕ) = ![(1 : Fin 3).val] := rfl
theorem sl10 : (![1, 0, 0, 0] : Fin 4 → ℕ) = ![(1 : Fin 3).val, (0 : Fin 4).val, 0, 0] := rfl
theorem run10 : (![1, 0, 0, 0] : Fin 4 → ℕ) = ![(1 : Fin 3).val, 0, 0, 0] := rfl
theorem sl11 : (![1, 1, 0, 0] : Fin 4 → ℕ) = ![(1 : Fin 3).val, (1 : Fin 4).val, 0, 0] := rfl
theorem run11 : (![1, 1, 0, 0] : Fin 4 → ℕ) = ![(1 : Fin 3).val, 1, 0, 0] := rfl
theorem sl12 : (![1, 2, 0, 0] : Fin 4 → ℕ) = ![(1 : Fin 3).val, (2 : Fin 4).val, 0, 0] := rfl
theorem run12 : (![1, 2, 0, 0] : Fin 4 → ℕ) = ![(1 : Fin 3).val, 2, 0, 0] := rfl
theorem sl13 : (![1, 3, 0, 0] : Fin 4 → ℕ) = ![(1 : Fin 3).val, (3 : Fin 4).val, 0, 0] := rfl
theorem run13 : (![1, 3, 0, 0] : Fin 4 → ℕ) = ![(1 : Fin 3).val, 3, 0, 0] := rfl
theorem at2 : (![2] : Fin 1 → ℕ) = ![(2 : Fin 3).val] := rfl
theorem sl20 : (![2, 0, 0, 0] : Fin 4 → ℕ) = ![(2 : Fin 3).val, (0 : Fin 4).val, 0, 0] := rfl
theorem run20 : (![2, 0, 0, 0] : Fin 4 → ℕ) = ![(2 : Fin 3).val, 0, 0, 0] := rfl
theorem sl21 : (![2, 1, 0, 0] : Fin 4 → ℕ) = ![(2 : Fin 3).val, (1 : Fin 4).val, 0, 0] := rfl
theorem run21 : (![2, 1, 0, 0] : Fin 4 → ℕ) = ![(2 : Fin 3).val, 1, 0, 0] := rfl
theorem sl22 : (![2, 2, 0, 0] : Fin 4 → ℕ) = ![(2 : Fin 3).val, (2 : Fin 4).val, 0, 0] := rfl
theorem run22 : (![2, 2, 0, 0] : Fin 4 → ℕ) = ![(2 : Fin 3).val, 2, 0, 0] := rfl
theorem sl23 : (![2, 3, 0, 0] : Fin 4 → ℕ) = ![(2 : Fin 3).val, (3 : Fin 4).val, 0, 0] := rfl
theorem run23 : (![2, 3, 0, 0] : Fin 4 → ℕ) = ![(2 : Fin 3).val, 3, 0, 0] := rfl

theorem dev_of {v : ℕ} {p : Dev nD} (h : v = p.val) {lt : v < nD} : (⟨v, lt⟩ : Dev nD) = p := Fin.ext h

variable {g : Fin 3} {off : Fin 1 → ℕ}
theorem ss0 (ho : off = ![g.val]) {inb} :
    ((cc0_scratch13.slice (Rect.unit (s := S3) off S1.size inb)).squeeze S_ squeezes_S1_S_).sem = sendS (0, g) := by
  subst ho; revert inb; revert g; decide
theorem sr0 (ho : off = ![g.val]) {inb} :
    ((cc0_scratch14.slice (Rect.unit (s := S3) off S1.size inb)).squeeze S_ squeezes_S1_S_).sem = recvS (0, g) := by
  subst ho; revert inb; revert g; decide
theorem ss1 (ho : off = ![g.val]) {inb} :
    ((cc0_scratch15.slice (Rect.unit (s := S3) off S1.size inb)).squeeze S_ squeezes_S1_S_).sem = sendS (1, g) := by
  subst ho; revert inb; revert g; decide
theorem sr1 (ho : off = ![g.val]) {inb} :
    ((cc0_scratch16.slice (Rect.unit (s := S3) off S1.size inb)).squeeze S_ squeezes_S1_S_).sem = recvS (1, g) := by
  subst ho; revert inb; revert g; decide
theorem ss2 (ho : off = ![g.val]) {inb} :
    ((cc0_scratch17.slice (Rect.unit (s := S3) off S1.size inb)).squeeze S_ squeezes_S1_S_).sem = sendS (2, g) := by
  subst ho; revert inb; revert g; decide
theorem sr2 (ho : off = ![g.val]) {inb} :
    ((cc0_scratch18.slice (Rect.unit (s := S3) off S1.size inb)).squeeze S_ squeezes_S1_S_).sem = recvS (2, g) := by
  subst ho; revert inb; revert g; decide
theorem ss3 (ho : off = ![g.val]) {inb} :
    ((cc0_scratch19.slice (Rect.unit (s := S3) off S1.size inb)).squeeze S_ squeezes_S1_S_).sem = sendS (3, g) := by
  subst ho; revert inb; revert g; decide
theorem sr3 (ho : off = ![g.val]) {inb} :
    ((cc0_scratch20.slice (Rect.unit (s := S3) off S1.size inb)).squeeze S_ squeezes_S1_S_).sem = recvS (3, g) := by
  subst ho; revert inb; revert g; decide
theorem ss4 (ho : off = ![g.val]) {inb} :
    ((cc0_scratch21.slice (Rect.unit (s := S3) off S1.size inb)).squeeze S_ squeezes_S1_S_).sem = sendS (4, g) := by
  subst ho; revert inb; revert g; decide
theorem sr4 (ho : off = ![g.val]) {inb} :
    ((cc0_scratch22.slice (Rect.unit (s := S3) off S1.size inb)).squeeze S_ squeezes_S1_S_).sem = recvS (4, g) := by
  subst ho; revert inb; revert g; decide

end Facts

section Products
variable {c : Dev nD} {K : Dev nD × Fin 32 → ℕ} {α : Type} {Q : α → sProp (MT nD τ sig Unit (Elt F) ℕ UU ℕ)}

theorem wp_seq {β : Type} {p : Prog (TpuEff nD τ sig (Elt F) Λ₀ .tc) α} {k : α → Prog (TpuEff nD τ sig (Elt F) Λ₀ .tc) β}
    {R : β → sProp (MT nD τ sig Unit (Elt F) ℕ UU ℕ)} : WP c p (fun a => WP c (k a) R) ⊢ WP c (p >>= k) R := by
  unfold WP
  rw [wp_bind]

theorem wp_mid {p : Prog (TpuEff nD τ sig (Elt F) Λ₀ .tc) α} {R : α → sProp (MT nD τ sig Unit (Elt F) ℕ UU ℕ)} :
    WP c p R ⊢ iprop((∀ a, R a -∗ Q a) -∗ WP c p Q) := wp_wand _ _ _

/-- The two operands after `n` of the sixteen row tiles. -/
def Ops (c : Dev nD) (n : ℕ) : sProp 𝕄 := iprop(FillA m c n ∗ FillB m c 16)

/-- A slot of the send buffer, of the work buffer: whatever it holds, and with this device's product in it. -/
def sbAny (c : Dev nD) (g : Fin 3) (j : Fin 4) : sProp 𝕄 := iprop(∃ f, sbP c g j.val 1 f)
def wAny (c : Dev nD) (g : Fin 3) (j : Fin 4) : sProp 𝕄 := iprop(∃ f, wP c g j.val 1 f)
def sbVal (c : Dev nD) (g : Fin 3) (j : Fin 4) : sProp 𝕄 := sbP c g j.val 1 (stk (SB1 m c))
def wVal (c : Dev nD) (g : Fin 3) (j : Fin 4) : sProp 𝕄 := wP c g j.val 1 (stk (W0 m c))

/-- The product of row block `i` of the visiting order and column block `g`. -/
abbrev pr (c : Dev nD) (i : ℕ) (g : Fin 3) : Slot F := prod (rowsOf m c (ord c i)) (colsOf m c g)

theorem pr_sb (g : Fin 3) (j : Fin 4) : pr m c (oi g j) g = SB1 m c g j := by unfold pr SB1 pp; rw [och_ord]
theorem pr_w (g : Fin 3) (j : Fin 4) : pr m c (wi g j) g = W0 m c g j := by unfold pr W0 pp; rw [wch_ord]

theorem ld_ops (g : Fin 3) {i n : ℕ} {off off' : Fin 2 → ℕ} (ho : off = rowOff (ord c i)) (hi : 2 * i + 2 ≤ n) (hc : off' = ![0, 1024 * g.val]) {inb hl inb' hl'}
    {kk : Vec F S384x1536 .bf16 → Vec F S1536x1024 .bf16 → Prog (TpuEff nD τ sig (Elt F) Λ₀ .tc) α} :
    Ops m c n ⊢ iprop((Ops m c n -∗ WP c (kk (rowsOf m c (ord c i)) (colsOf m c g)) Q)
      -∗ WP c (.op (.load (Memref.whole cc0_scratch0) (Rect.unit (s := S3072x1536) off S384x1536.size inb).toLoadRect hl) fun r =>
          .op (.load (Memref.whole cc0_scratch1) (Rect.unit (s := S1536x3072) off' S1536x1024.size inb').toLoadRect hl') fun v => kk r v) Q) := by
  unfold Ops
  iintro ⟨HA, HB⟩ Hk
  iapply (ld_rows m ho i hi rfl) $$ HA
  iintro HA
  iapply (ld_cols m hc) $$ HB
  iintro HB
  iapply Hk
  isplitl [HA]; · iexact HA
  iexact HB

/-- A product formed into a slot of the send buffer. -/
theorem mk_sb (g : Fin 3) (j : Fin 4) {n : ℕ} {off off' : Fin 2 → ℕ} {os : Fin 4 → ℕ} (ho : off = rowOff (ord c (oi g j))) (hi : 2 * oi g j + 2 ≤ n) (hc : off' = ![0, 1024 * g.val])
    (hs : os = ![g.val, j.val, 0, 0]) {pay : Vec F S384x1536 .bf16 → Vec F S1536x1024 .bf16 → Slot F} (hp : ∀ r v, pay r v = prod r v) {inb hl inb' hl' inb'' hl'' hx hm}
    {k : PUnit → Prog (TpuEff nD τ sig (Elt F) Λ₀ .tc) α} :
    Ops m c n ⊢ iprop(sbAny c g j -∗ (Ops m c n -∗ sbVal m c g j -∗ WP c (k ⟨⟩) Q)
      -∗ WP c (.op (.load (Memref.whole cc0_scratch0) (Rect.unit (s := S3072x1536) off S384x1536.size inb).toLoadRect hl) fun r =>
          .op (.load (Memref.whole cc0_scratch1) (Rect.unit (s := S1536x3072) off' S1536x1024.size inb').toLoadRect hl') fun v =>
          .op (.load (Memref.whole cc0_scratch4) (Rect.unit (s := S3x4x384x1024) os S1x1x384x1024.size inb'').toLoadRect hl'') fun _ =>
          .op (.store (Memref.whole cc0_scratch4) (Rect.unit (s := S3x4x384x1024) os S1x1x384x1024.size inb'') (pay r v) Finset.univ hx hm) k) Q) := by
  unfold sbAny sbVal
  iintro HP ⟨%f, HS⟩ Hk
  iapply (ld_ops m g ho hi hc) $$ HP
  iintro HP
  iapply (ld_sb_any hs ⟨le_rfl, Nat.lt_succ_self _⟩) $$ HS
  iintro %w HS
  iapply (st_sb hs (SB1 m c) ((hp _ _).trans (pr_sb m g j))) $$ HS
  iintro HS
  iapply Hk $$ HP HS

/-- A product formed into a slot of the work buffer. -/
theorem mk_w (g : Fin 3) (j : Fin 4) {n : ℕ} {off off' : Fin 2 → ℕ} {os : Fin 4 → ℕ} (ho : off = rowOff (ord c (wi g j))) (hi : 2 * wi g j + 2 ≤ n) (hc : off' = ![0, 1024 * g.val])
    (hs : os = ![g.val, j.val, 0, 0]) {pay : Vec F S384x1536 .bf16 → Vec F S1536x1024 .bf16 → Slot F} (hp : ∀ r v, pay r v = prod r v) {inb hl inb' hl' inb'' hl'' hx hm}
    {k : PUnit → Prog (TpuEff nD τ sig (Elt F) Λ₀ .tc) α} :
    Ops m c n ⊢ iprop(wAny c g j -∗ (Ops m c n -∗ wVal m c g j -∗ WP c (k ⟨⟩) Q)
      -∗ WP c (.op (.load (Memref.whole cc0_scratch0) (Rect.unit (s := S3072x1536) off S384x1536.size inb).toLoadRect hl) fun r =>
          .op (.load (Memref.whole cc0_scratch1) (Rect.unit (s := S1536x3072) off' S1536x1024.size inb').toLoadRect hl') fun v =>
          .op (.load (Memref.whole cc0_scratch6) (Rect.unit (s := S3x4x384x1024) os S1x1x384x1024.size inb'').toLoadRect hl'') fun _ =>
          .op (.store (Memref.whole cc0_scratch6) (Rect.unit (s := S3x4x384x1024) os S1x1x384x1024.size inb'') (pay r v) Finset.univ hx hm) k) Q) := by
  unfold wAny wVal
  iintro HP ⟨%f, HS⟩ Hk
  iapply (ld_ops m g ho hi hc) $$ HP
  iintro HP
  iapply (ld_w_any hs ⟨le_rfl, Nat.lt_succ_self _⟩) $$ HS
  iintro %w HS
  iapply (st_w hs (W0 m c) ((hp _ _).trans (pr_w m g j))) $$ HS
  iintro HS
  iapply Hk $$ HP HS

end Products

end Cert.RS
-- ==== Proof.RS.ActsB.lean ====
/-
  The parts of the kernel's second loop that form products and start the first exchange, one rule each.
-/
module

public import proofs.«01_k».proof.Proof.RS.Acts

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

section Parts
variable {c : Dev nD} {K : Dev nD × Fin 32 → ℕ} {n : ℕ} (v2 : BitVec 32) (t : Fin k0_t2_loop.trips)

/-- A send's resources before it, over the two slots it sends. -/
theorem sb_pair {g : Fin 3} {lo : ℕ} {j j' : Fin 4} (hj : j.val = lo) (hj' : j'.val = lo + 1) :
    iprop(sbVal m c g j ∗ sbVal m c g j') ⊢ sbP c g lo 2 (stk (SB1 m c)) := by
  unfold sbVal; rw [hj, hj']; exact sb_join _

theorem part3 (h : k0_cond3 t = 1#1) (hn : 2 * 1 + 2 ≤ n) {Q : FVec F S384x1024 .bf16 → sProp (MT nD τ sig Unit (Elt F) ℕ UU ℕ)} :
    Ops m c n ⊢ iprop(sbAny c 0 2 -∗ (∀ v, ⌜k0_pay3 v = SB1 m c 0 3⌝ -∗ Ops m c n -∗ sbVal m c 0 2 -∗ Q v)
      -∗ WP c (At (k0_part3 (F := F)) c v2 t h) Q) := by
  unfold At
  rw [k0_part3_eq_skeleton]
  unfold k0_part3_skel
  simp only [Prog.lift, Prog.bind_op, Prog.bind_ret, Prog.pure_eq_ret]
  iintro HP HS Hk
  iapply (mk_sb m 0 2 (row21 c) hn col0 sl02 (fun _ _ => rfl)) $$ HP HS
  iintro HP HS
  iapply (ld_ops m 0 (row22 c) (by omega) col0) $$ HP
  iintro HP
  iapply wp_done
  iapply Hk $$ [] HP HS
  ipureintro
  exact pr_sb m 0 3

theorem part5 (h : k0_cond4 t = 1#1) (hn : 2 * 2 + 2 ≤ n) {Q : FVec F S384x1024 .bf16 → sProp (MT nD τ sig Unit (Elt F) ℕ UU ℕ)} :
    Ops m c n ⊢ iprop(sbAny c 2 2 -∗ (∀ v, ⌜k0_pay6 v = SB1 m c 2 3⌝ -∗ Ops m c n -∗ sbVal m c 2 2 -∗ Q v)
      -∗ WP c (At (k0_part5 (F := F)) c v2 t h) Q) := by
  unfold At
  rw [k0_part5_eq_skeleton]
  unfold k0_part5_skel
  simp only [Prog.lift, Prog.bind_op, Prog.bind_ret, Prog.pure_eq_ret]
  iintro HP HS Hk
  iapply (mk_sb m 2 2 (row23 c) hn col2 sl22 (fun _ _ => rfl)) $$ HP HS
  iintro HP HS
  iapply (ld_ops m 2 (row24 c) (by omega) col2) $$ HP
  iintro HP
  iapply wp_done
  iapply Hk $$ [] HP HS
  ipureintro
  exact pr_sb m 2 3

theorem part9 (h : k0_cond6 t = 1#1) (hn : 2 * 4 + 2 ≤ n) {Q : FVec F S384x1024 .bf16 → sProp (MT nD τ sig Unit (Elt F) ℕ UU ℕ)} :
    Ops m c n ⊢ iprop(sbAny c 1 2 -∗ (∀ v, ⌜k0_pay13 v = SB1 m c 1 3⌝ -∗ Ops m c n -∗ sbVal m c 1 2 -∗ Q v)
      -∗ WP c (At (k0_part9 (F := F)) c v2 t h) Q) := by
  unfold At
  rw [k0_part9_eq_skeleton]
  unfold k0_part9_skel
  simp only [Prog.lift, Prog.bind_op, Prog.bind_ret, Prog.pure_eq_ret]
  iintro HP HS Hk
  iapply (mk_sb m 1 2 (row27 c) hn col1 sl12 (fun _ _ => rfl)) $$ HP HS
  iintro HP HS
  iapply (ld_ops m 1 (row28 c) (by omega) col1) $$ HP
  iintro HP
  iapply wp_done
  iapply Hk $$ [] HP HS
  ipureintro
  exact pr_sb m 1 3

theorem part4 (h : k0_cond3 t = 1#1) (hn : 2 * 1 + 2 ≤ n) (l : List Debt) (v : FVec F S384x1024 .bf16) (hv : k0_pay3 v = SB1 m c 0 3)
    {Q : (Σ' (_ : Vec F S384x1536 .bf16) (_ : Vec F S1536x1024 .bf16), FVec F S384x1024 .f32) → sProp (MT nD τ sig Unit (Elt F) ℕ UU ℕ)} :
    Ctx m K ⊢ iprop(Ops m c n -∗ sbVal m c 0 2 -∗ sbAny c 0 3 -∗ Ex0 (0, 0) c -∗ owesE c (.xf (0, 0) :: l)
      -∗ (∀ a b d, ⌜k0_pay24 a b d = W0 m c 2 3⌝ -∗ Ops m c n -∗ Ex1 (0, 0) c -∗ owesE c l -∗ Q ⟨a, b, d⟩)
      -∗ WP c (At (k0_part4 (F := F)) c v2 t h v) Q) := by
  unfold At sbAny
  rw [k0_part4_eq_skeleton]
  unfold k0_part4_skel
  simp only [Prog.lift, Prog.bind_op, Prog.bind_ret, Prog.pure_eq_ret]
  iintro #HC HP HS ⟨%f, HS'⟩ HX HO Hk
  iapply (ld_sb_any sl03 ⟨le_rfl, Nat.lt_succ_self _⟩) $$ HS'
  iintro %w HS'
  iapply (st_sb sl03 (SB1 m c) hv) $$ HS'
  iintro HS'
  ihave HS := (sb_pair m (c := c) (g := 0) (lo := 2) (j := 2) (j' := 3) rfl rfl) $$ [HS HS']
  · unfold sbVal
    isplitl [HS]; · iexact HS
    iexact HS'
  iapply (send1 m 0 2 (.inl ⟨rfl, rfl⟩) 0 l (dev_of (dev4_eq c)) run02 (ss0 at0) (sr0 at0)) $$ HC HX HS HO
  iintro HX HO
  iapply (ld_ops m 2 (row21 c) (by omega) col2) $$ HP
  iintro HP
  iapply wp_done
  iapply Hk $$ [] HP HX HO
  ipureintro
  exact pr_w m 2 3

theorem part6 (h : k0_cond4 t = 1#1) (hn : 2 * 2 + 2 ≤ n) (l : List Debt) (v : FVec F S384x1024 .bf16) (hv : k0_pay6 v = SB1 m c 2 3)
    {Q : (Σ' (_ : FVec F S384x1024 .bf16), Vec F S1x1x384x1024 .bf16) → sProp (MT nD τ sig Unit (Elt F) ℕ UU ℕ)} :
    Ctx m K ⊢ iprop(Ops m c n -∗ sbVal m c 2 2 -∗ sbAny c 2 3 -∗ wAny c 1 3 -∗ Ex0 (0, 2) c -∗ owesE c (.xf (0, 2) :: l)
      -∗ (∀ a b, ⌜k0_pay25 a = W0 m c 1 3⌝ -∗ Ops m c n -∗ wAny c 1 3 -∗ Ex1 (0, 2) c -∗ owesE c l -∗ Q ⟨a, b⟩)
      -∗ WP c (At (k0_part6 (F := F)) c v2 t h v) Q) := by
  unfold At sbAny wAny
  rw [k0_part6_eq_skeleton]
  unfold k0_part6_skel
  simp only [Prog.lift, Prog.bind_op, Prog.bind_ret, Prog.pure_eq_ret]
  iintro #HC HP HS ⟨%f, HS'⟩ ⟨%fw, HW⟩ HX HO Hk
  iapply (ld_sb_any sl23 ⟨le_rfl, Nat.lt_succ_self _⟩) $$ HS'
  iintro %w HS'
  iapply (st_sb sl23 (SB1 m c) hv) $$ HS'
  iintro HS'
  ihave HS := (sb_pair m (c := c) (g := 2) (lo := 2) (j := 2) (j' := 3) rfl rfl) $$ [HS HS']
  · unfold sbVal
    isplitl [HS]; · iexact HS
    iexact HS'
  iapply (send1 m 0 2 (.inl ⟨rfl, rfl⟩) 2 l (dev_of (dev5_eq c)) run22 (ss0 at2) (sr0 at2)) $$ HC HX HS HO
  iintro HX HO
  iapply (ld_ops m 1 (row23 c) (by omega) col1) $$ HP
  iintro HP
  iapply (ld_w_any sl13 ⟨le_rfl, Nat.lt_succ_self _⟩) $$ HW
  iintro %w HW
  iapply wp_done
  iapply Hk $$ [] HP [HW] HX HO
  · ipureintro
    exact pr_w m 1 3
  iexists fw
  iexact HW

theorem part10 (h : k0_cond6 t = 1#1) (hn : 2 * 4 + 2 ≤ n) (l : List Debt) (v : FVec F S384x1024 .bf16) (hv : k0_pay13 v = SB1 m c 1 3)
    {Q : (Σ' (_ : FVec F S384x1024 .bf16), Vec F S1x1x384x1024 .bf16) → sProp (MT nD τ sig Unit (Elt F) ℕ UU ℕ)} :
    Ctx m K ⊢ iprop(Ops m c n -∗ sbVal m c 1 2 -∗ sbAny c 1 3 -∗ wAny c 0 3 -∗ Ex0 (0, 1) c -∗ owesE c (.xf (0, 1) :: l)
      -∗ (∀ a b, ⌜k0_pay27 a = W0 m c 0 3⌝ -∗ Ops m c n -∗ wAny c 0 3 -∗ Ex1 (0, 1) c -∗ owesE c l -∗ Q ⟨a, b⟩)
      -∗ WP c (At (k0_part10 (F := F)) c v2 t h v) Q) := by
  unfold At sbAny wAny
  rw [k0_part10_eq_skeleton]
  unfold k0_part10_skel
  simp only [Prog.lift, Prog.bind_op, Prog.bind_ret, Prog.pure_eq_ret]
  iintro #HC HP HS ⟨%f, HS'⟩ ⟨%fw, HW⟩ HX HO Hk
  iapply (ld_sb_any sl13 ⟨le_rfl, Nat.lt_succ_self _⟩) $$ HS'
  iintro %w HS'
  iapply (st_sb sl13 (SB1 m c) hv) $$ HS'
  iintro HS'
  ihave HS := (sb_pair m (c := c) (g := 1) (lo := 2) (j := 2) (j' := 3) rfl rfl) $$ [HS HS']
  · unfold sbVal
    isplitl [HS]; · iexact HS
    iexact HS'
  iapply (send1 m 0 2 (.inl ⟨rfl, rfl⟩) 1 l (dev_of (dev7_eq c)) run12 (ss0 at1) (sr0 at1)) $$ HC HX HS HO
  iintro HX HO
  iapply (ld_ops m 0 (row27 c) (by omega) col0) $$ HP
  iintro HP
  iapply (ld_w_any sl03 ⟨le_rfl, Nat.lt_succ_self _⟩) $$ HW
  iintro %w HW
  iapply wp_done
  iapply Hk $$ [] HP [HW] HX HO
  · ipureintro
    exact pr_w m 0 3
  iexists fw
  iexact HW

theorem part7 (h : k0_cond5 t = 1#1) (hn : 2 * 3 + 2 ≤ n) {Q : (Σ' (_ : BitVec 32), BitVec 32) → sProp (MT nD τ sig Unit (Elt F) ℕ UU ℕ)} :
    Ops m c n ⊢ iprop(sbAny c 0 0 -∗ sbAny c 0 1 -∗ (∀ v, Ops m c n -∗ sbVal m c 0 0 -∗ sbVal m c 0 1 -∗ Q v)
      -∗ WP c (At (k0_part7 (F := F)) c v2 t h) Q) := by
  unfold At
  rw [k0_part7_eq_skeleton]
  unfold k0_part7_skel
  simp only [Prog.lift, Prog.bind_op, Prog.bind_ret, Prog.pure_eq_ret]
  iintro HP HS HS' Hk
  iapply (mk_sb m 0 0 (row25 c) hn col0 sl00 (fun _ _ => rfl)) $$ HP HS
  iintro HP HS
  iapply (mk_sb m 0 1 (row26 c) (show 2 * 2 + 2 ≤ n by omega) col0 sl01 (fun _ _ => rfl)) $$ HP HS'
  iintro HP HS'
  iapply wp_done
  iapply Hk $$ HP HS HS'

theorem part11 (h : k0_cond7 t = 1#1) (hn : 2 * 5 + 2 ≤ n) {Q : (Σ' (_ : BitVec 32), BitVec 32) → sProp (MT nD τ sig Unit (Elt F) ℕ UU ℕ)} :
    Ops m c n ⊢ iprop(sbAny c 1 0 -∗ sbAny c 1 1 -∗ (∀ v, Ops m c n -∗ sbVal m c 1 0 -∗ sbVal m c 1 1 -∗ Q v)
      -∗ WP c (At (k0_part11 (F := F)) c v2 t h) Q) := by
  unfold At
  rw [k0_part11_eq_skeleton]
  unfold k0_part11_skel
  simp only [Prog.lift, Prog.bind_op, Prog.bind_ret, Prog.pure_eq_ret]
  iintro HP HS HS' Hk
  iapply (mk_sb m 1 0 (row29 c) hn col1 sl10 (fun _ _ => rfl)) $$ HP HS
  iintro HP HS
  iapply (mk_sb m 1 1 (row30 c) (show 2 * 1 + 2 ≤ n by omega) col1 sl11 (fun _ _ => rfl)) $$ HP HS'
  iintro HP HS'
  iapply wp_done
  iapply Hk $$ HP HS HS'

theorem part13 (h : k0_cond8 t = 1#1) (hn : 2 * 6 + 2 ≤ n) {Q : BitVec 32 → sProp (MT nD τ sig Unit (Elt F) ℕ UU ℕ)} :
    Ops m c n ⊢ iprop(sbAny c 2 0 -∗ sbAny c 2 1 -∗ (∀ v, Ops m c n -∗ sbVal m c 2 0 -∗ sbVal m c 2 1 -∗ Q v)
      -∗ WP c (At (k0_part13 (F := F)) c v2 t h) Q) := by
  unfold At
  rw [k0_part13_eq_skeleton]
  unfold k0_part13_skel
  simp only [Prog.lift, Prog.bind_op, Prog.bind_ret, Prog.pure_eq_ret]
  iintro HP HS HS' Hk
  iapply (mk_sb m 2 0 (row31 c) hn col2 sl20 (fun _ _ => rfl)) $$ HP HS
  iintro HP HS
  iapply (mk_sb m 2 1 (row32 c) (show 2 * 4 + 2 ≤ n by omega) col2 sl21 (fun _ _ => rfl)) $$ HP HS'
  iintro HP HS'
  iapply wp_done
  iapply Hk $$ HP HS HS'

theorem part8 (h : k0_cond5 t = 1#1) (hn : 2 * 3 + 2 ≤ n) (l : List Debt) (b b' : BitVec 32) {Q : (Σ' (_ : BitVec 32), BitVec 32) → sProp (MT nD τ sig Unit (Elt F) ℕ UU ℕ)} :
    Ctx m K ⊢ iprop(Ops m c n -∗ sbVal m c 0 0 -∗ sbVal m c 0 1 -∗ wAny c 1 1 -∗ Ex0 (1, 0) c -∗ owesE c (.xf (1, 0) :: l)
      -∗ (∀ v, Ops m c n -∗ wVal m c 1 1 -∗ Ex1 (1, 0) c -∗ owesE c l -∗ Q v)
      -∗ WP c (At (k0_part8 (F := F)) c v2 t h b b') Q) := by
  unfold At
  rw [k0_part8_eq_skeleton]
  unfold k0_part8_skel
  simp only [Prog.lift, Prog.bind_op, Prog.bind_ret, Prog.pure_eq_ret]
  iintro #HC HP HS HS' HW HX HO Hk
  ihave HS := (sb_pair m (c := c) (g := 0) (lo := 0) (j := 0) (j' := 1) rfl rfl) $$ [HS HS']
  · unfold sbVal
    isplitl [HS]; · iexact HS
    iexact HS'
  iapply (send1 m 1 0 (.inr ⟨rfl, rfl⟩) 0 l (dev_of (dev6_eq c)) run00 (ss1 at0) (sr1 at0)) $$ HC HX HS HO
  iintro HX HO
  iapply (mk_w m 1 1 (row25 c) hn col1 sl11 (fun _ _ => rfl)) $$ HP HW
  iintro HP HW
  iapply wp_done
  iapply Hk $$ HP HW HX HO

theorem part12 (h : k0_cond7 t = 1#1) (hn : 2 * 5 + 2 ≤ n) (l : List Debt) (b b' : BitVec 32) {Q : PUnit → sProp (MT nD τ sig Unit (Elt F) ℕ UU ℕ)} :
    Ctx m K ⊢ iprop(Ops m c n -∗ sbVal m c 1 0 -∗ sbVal m c 1 1 -∗ wAny c 0 2 -∗ Ex0 (1, 1) c -∗ owesE c (.xf (1, 1) :: l)
      -∗ (∀ v, Ops m c n -∗ wVal m c 0 2 -∗ Ex1 (1, 1) c -∗ owesE c l -∗ Q v)
      -∗ WP c (At (k0_part12 (F := F)) c v2 t h b b') Q) := by
  unfold At
  rw [k0_part12_eq_skeleton]
  unfold k0_part12_skel
  simp only [Prog.lift, Prog.bind_op, Prog.bind_ret, Prog.pure_eq_ret]
  iintro #HC HP HS HS' HW HX HO Hk
  ihave HS := (sb_pair m (c := c) (g := 1) (lo := 0) (j := 0) (j' := 1) rfl rfl) $$ [HS HS']
  · unfold sbVal
    isplitl [HS]; · iexact HS
    iexact HS'
  iapply (send1 m 1 0 (.inr ⟨rfl, rfl⟩) 1 l (dev_of (dev8_eq c)) run10 (ss1 at1) (sr1 at1)) $$ HC HX HS HO
  iintro HX HO
  iapply (mk_w m 0 2 (row29 c) hn col0 sl02 (fun _ _ => rfl)) $$ HP HW
  iintro HP HW
  iapply wp_done
  iapply Hk $$ HP HW HX HO

theorem part14 (h : k0_cond8 t = 1#1) (hn : 2 * 6 + 2 ≤ n) (l : List Debt) (b : BitVec 32) {Q : FVec F S384x1024 .bf16 → sProp (MT nD τ sig Unit (Elt F) ℕ UU ℕ)} :
    Ctx m K ⊢ iprop(Ops m c n -∗ sbVal m c 2 0 -∗ sbVal m c 2 1 -∗ wAny c 0 1 -∗ Ex0 (1, 2) c -∗ owesE c (.xf (1, 2) :: l)
      -∗ (∀ v, ⌜k0_pay30 v = W0 m c 1 2⌝ -∗ Ops m c n -∗ wVal m c 0 1 -∗ Ex1 (1, 2) c -∗ owesE c l -∗ Q v)
      -∗ WP c (At (k0_part14 (F := F)) c v2 t h b) Q) := by
  unfold At
  rw [k0_part14_eq_skeleton]
  unfold k0_part14_skel
  simp only [Prog.lift, Prog.bind_op, Prog.bind_ret, Prog.pure_eq_ret]
  iintro #HC HP HS HS' HW HX HO Hk
  ihave HS := (sb_pair m (c := c) (g := 2) (lo := 0) (j := 0) (j' := 1) rfl rfl) $$ [HS HS']
  · unfold sbVal
    isplitl [HS]; · iexact HS
    iexact HS'
  iapply (send1 m 1 0 (.inr ⟨rfl, rfl⟩) 2 l (dev_of (dev9_eq c)) run20 (ss1 at2) (sr1 at2)) $$ HC HX HS HO
  iintro HX HO
  iapply (mk_w m 0 1 (row31 c) hn col0 sl01 (fun _ _ => rfl)) $$ HP HW
  iintro HP HW
  iapply (ld_ops m 1 (row31 c) (by omega) col1) $$ HP
  iintro HP
  iapply wp_done
  iapply Hk $$ [] HP HW HX HO
  ipureintro
  exact pr_w m 1 2

end Parts

end Cert.RS
-- ==== Proof.RS.LoopA.lean ====
/-
  The loop that converts the rows: after each pair of tiles it forms the products the new row block allows, and starts the
  first exchange as soon as its pair of products is there.
-/
module

public import proofs.«01_k».proof.Proof.RS.ActsB

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

section Loop
variable {c : Dev nD} {K : Dev nD × Fin 32 → ℕ}

def SlotA (c : Dev nD) (t : ℕ) : sProp 𝕄 := if t < 16 then FlightA m c t else FreeA m c t
theorem SlotA_in {c : Dev nD} {t : ℕ} (h : t < 16) : SlotA m c t = FlightA m c t := if_pos h
theorem SlotA_out {c : Dev nD} {t : ℕ} (h : ¬ t < 16) : SlotA m c t = FreeA m c t := if_neg h

/-- What the products formed at trip `3 + 2 i` start from, and what they leave. -/
def Bef (c : Dev nD) (i : Fin 7) : sProp 𝕄 := match i with
  | 0 => iprop(Ex0 (0, 0) c ∗ sbAny c 0 2 ∗ sbAny c 0 3 ∗ wAny c 2 3)
  | 1 => iprop(Ex0 (0, 2) c ∗ sbAny c 2 2 ∗ sbAny c 2 3 ∗ wAny c 1 3)
  | 2 => iprop(Ex0 (1, 0) c ∗ sbAny c 0 0 ∗ sbAny c 0 1 ∗ wAny c 1 1 ∗ wAny c 2 2)
  | 3 => iprop(Ex0 (0, 1) c ∗ sbAny c 1 2 ∗ sbAny c 1 3 ∗ wAny c 0 3)
  | 4 => iprop(Ex0 (1, 1) c ∗ sbAny c 1 0 ∗ sbAny c 1 1 ∗ wAny c 0 2 ∗ wAny c 2 1)
  | 5 => iprop(Ex0 (1, 2) c ∗ sbAny c 2 0 ∗ sbAny c 2 1 ∗ wAny c 0 1 ∗ wAny c 1 2)
  | 6 => iprop(wAny c 0 0 ∗ wAny c 1 0 ∗ wAny c 2 0)
def Aft (c : Dev nD) (i : Fin 7) : sProp 𝕄 := match i with
  | 0 => iprop(Ex1 (0, 0) c ∗ wVal m c 2 3)
  | 1 => iprop(Ex1 (0, 2) c ∗ wVal m c 1 3)
  | 2 => iprop(Ex1 (1, 0) c ∗ wVal m c 1 1 ∗ wVal m c 2 2)
  | 3 => iprop(Ex1 (0, 1) c ∗ wVal m c 0 3)
  | 4 => iprop(Ex1 (1, 1) c ∗ wVal m c 0 2 ∗ wVal m c 2 1)
  | 5 => iprop(Ex1 (1, 2) c ∗ wVal m c 0 1 ∗ wVal m c 1 2)
  | 6 => iprop(wVal m c 0 0 ∗ wVal m c 1 0 ∗ wVal m c 2 0)
def Res (c : Dev nD) (i : Fin 7) (t : ℕ) : sProp 𝕄 := if t ≤ 3 + 2 * i.val then Bef c i else Aft m c i

/-- How many sends have started, in trip `t` once the first `i` groups of products have been passed. -/
def sent (i t : ℕ) : ℕ := min 6 ((t - 2) / 2 + if t % 2 = 1 ∧ 3 ≤ t ∧ t < 3 + 2 * i then 1 else 0)
def dl (s : ℕ) : List Debt := allDebts.drop (3 + s)

theorem dl_pos (s : ℕ) : ∀ d ∈ dl s, 0 < d.lev := fun d hd =>
  (show ∀ d ∈ allDebts, 0 < d.lev by decide) d (List.mem_of_mem_drop hd)

theorem sent_skip {i t : ℕ} (h : t ≠ 3 + 2 * i) : sent (i + 1) t = sent i t := by
  unfold sent; split <;> split <;> omega
theorem sent_at (i : ℕ) (hi : i ≤ 6) : sent i (3 + 2 * i) = i := by
  unfold sent; split <;> omega
theorem sent_past (i : ℕ) (hi : i ≤ 6) : sent (i + 1) (3 + 2 * i) = min 6 (i + 1) := by
  unfold sent; split <;> omega
theorem sent_trip (t : ℕ) (ht : t < 16) : sent 7 t = sent 0 (t + 1) := by
  unfold sent; split <;> split <;> omega

/-- A trip that is not group `i`'s leaves its resources as they are. -/
theorem skip {n k k' : ℕ} (i : Fin 7) (hk : k = i.val) (hk' : k' = i.val + 1) {t : ℕ} (h : t ≠ 3 + 2 * i.val) :
    iprop(Ops m c n ∗ Res m c i t ∗ owesE c (dl (sent k t))) ⊢ iprop(Ops m c n ∗ Res m c i (t + 1) ∗ owesE c (dl (sent k' t))) := by
  rw [hk, hk', sent_skip h]
  have e : Res m c i t = Res m c i (t + 1) := by
    unfold Res
    by_cases h' : t ≤ 3 + 2 * i.val
    · rw [if_pos h', if_pos (by omega)]
    · rw [if_neg h', if_neg (by omega)]
  rw [e]

theorem Res_bef (i : Fin 7) {t : ℕ} (h : t = 3 + 2 * i.val) : Res m c i t ⊢ Bef c i := Entails.of_eq (if_pos h.le)
theorem Res_aft (i : Fin 7) {t : ℕ} (h : t = 3 + 2 * i.val) : Aft m c i ⊢ Res m c i (t + 1) := Entails.of_eq (if_neg (by omega)).symm
theorem owes_at (i : Fin 7) {k : ℕ} (hk : k = i.val) {n : ℕ} (hn : n = i.val) {t : ℕ} (h : t = 3 + 2 * i.val) :
    (owesE c (dl (sent k t)) : sProp 𝕄) ⊢ owesE c (dl n) := by
  rw [h, hk, hn, sent_at i.val (by omega)]
theorem owes_past (i : Fin 7) {k : ℕ} (hk : k = i.val + 1) {t : ℕ} (h : t = 3 + 2 * i.val) {n : ℕ} (hn : n = min 6 (i.val + 1)) :
    (owesE c (dl n) : sProp 𝕄) ⊢ owesE c (dl (sent k t)) := by
  rw [h, hk, sent_past i.val (by omega), hn]

/-- What group `i`'s turn in trip `t` leaves, `k` groups having been passed. -/
def After (c : Dev nD) (i : Fin 7) (k t n : ℕ) : sProp 𝕄 := iprop(Ops m c n ∗ Res m c i (t + 1) ∗ owesE c (dl (sent k t)))

section Pure
variable (v2 : BitVec 32) (t : Fin k0_t2_loop.trips)
theorem part1 (a : BitVec 32) {Q : (Σ' (_ : BitVec 32) (_ : BitVec 32) (_ : BitVec 32) (_ : BitVec 32) (_ : BitVec 32) (_ : BitVec 32) (_ : BitVec 32), BitVec 32) → sProp (MT nD τ sig Unit (Elt F) ℕ UU ℕ)} :
    iprop(∀ v, Q v) ⊢ WP c (At (k0_part1 (F := F)) a) Q := by
  unfold At
  rw [k0_part1_eq_skeleton]
  unfold k0_part1_skel
  simp only [Prog.lift, Prog.bind_op, Prog.bind_ret, Prog.pure_eq_ret]
  iintro H
  iapply wp_done
  iapply H

theorem part2 (a b d e f g h i : BitVec 32) {Q : BitVec 32 → sProp (MT nD τ sig Unit (Elt F) ℕ UU ℕ)} :
    iprop(∀ v, Q v) ⊢ WP c (At (k0_part2 (F := F)) v2 a b d e f g h i) Q := by
  unfold At
  rw [k0_part2_eq_skeleton]
  unfold k0_part2_skel
  simp only [Prog.lift, Prog.bind_op, Prog.bind_ret, Prog.pure_eq_ret]
  iintro H
  iapply wp_done
  iapply H

theorem part15 (a b : BitVec 32) {Q : (Σ' (_ : BitVec 32) (_ : BitVec 32) (_ : BitVec 32) (_ : BitVec 32) (_ : BitVec 32) (_ : BitVec 32) (_ : BitVec 32), BitVec 32) → sProp (MT nD τ sig Unit (Elt F) ℕ UU ℕ)} :
    iprop(∀ v, Q v) ⊢ WP c (At (k0_part15 (F := F)) a b t) Q := by
  unfold At
  rw [k0_part15_eq_skeleton]
  unfold k0_part15_skel
  simp only [Prog.lift, Prog.bind_op, Prog.bind_ret, Prog.pure_eq_ret]
  iintro H
  iapply wp_done
  iapply H

theorem part16 (a b d e f g h : BitVec 32) {Q : PUnit → sProp (MT nD τ sig Unit (Elt F) ℕ UU ℕ)} :
    iprop(∀ v, Q v) ⊢ WP c (At (k0_part16 (F := F)) v2 a b d e f g h) Q := by
  unfold At
  rw [k0_part16_eq_skeleton]
  unfold k0_part16_skel
  simp only [Prog.lift, Prog.bind_op, Prog.bind_ret, Prog.pure_eq_ret]
  iintro H
  iapply wp_done
  iapply H

theorem part18 (a b d e f g : BitVec 32) {Q : (Σ' (_ : BitVec 32) (_ : BitVec 32) (_ : BitVec 32), BitVec 32) → sProp (MT nD τ sig Unit (Elt F) ℕ UU ℕ)} :
    iprop(∀ v, Q v) ⊢ WP c (At (k0_part18 (F := F)) v2 a b d e f g) Q := by
  unfold At
  rw [k0_part18_eq_skeleton]
  unfold k0_part18_skel
  simp only [Prog.lift, Prog.bind_op, Prog.bind_ret, Prog.pure_eq_ret]
  iintro H
  iapply wp_done
  iapply H

theorem part17 (a b : BitVec 32) (l : List Debt) (hl : ∀ d ∈ l, 0 < d.lev)
    {Q : (Σ' (_ : FVec F S192x1536 .bf16) (_ : BitVec 32) (_ : BitVec 32) (_ : BitVec 32) (_ : BitVec 32) (_ : BitVec 32), BitVec 32) → sProp (MT nD τ sig Unit (Elt F) ℕ UU ℕ)} :
    Ctx m K ⊢ iprop(FlightA m c t.val -∗ owesE c l
      -∗ (∀ v, ⌜k0_pay23 v.1 = rowsBlk (A16 m c) (rowA c t.val) 192 (rowA_le c t.val)⌝ -∗ FreeA m c (t.val + 2) -∗ owesE c l -∗ Q v)
      -∗ WP c (At (k0_part17 (F := F)) c t a b) Q) := by
  unfold At
  rw [k0_part17_eq_skeleton]
  unfold k0_part17_skel
  simp only [Prog.lift, Prog.bind_op, Prog.bind_ret, Prog.pure_eq_ret]
  iintro #HC HF HO Hk
  iapply (waitA m l hl (semA_eq (k0_off13_eq t)) amtA_eq.symm) $$ HC HF HO
  iintro HL HO
  iapply (ldStA m (k0_off16_eq t)) $$ HL
  iintro %v %hv HL
  ihave HL := ((LoadedA_free m c t.val).trans (Entails.of_eq (FreeA_add m c t.val).symm)) $$ HL
  iapply wp_done
  iapply Hk $$ [] HL HO
  ipureintro
  exact hv

end Pure

section Groups
variable (v2 : BitVec 32) (t : Fin k0_t2_loop.trips)

theorem cut {P G : sProp (MT nD τ sig Unit (Elt F) ℕ UU ℕ)} : P ⊢ iprop((P -∗ G) -∗ G) := by
  iintro HP HG
  iapply HG $$ HP

theorem part19 (a d e f g : BitVec 32) (v : FVec F S192x1536 .bf16) (hv : k0_pay23 v = rowsBlk (A16 m c) (rowA c t.val) 192 (rowA_le c t.val))
    {Q : PUnit → sProp (MT nD τ sig Unit (Elt F) ℕ UU ℕ)} :
    Ctx m K ⊢ iprop(FillA m c t.val -∗ FillB m c 16 -∗ FreeA m c (t.val + 2) -∗ Res m c 0 t.val -∗ Res m c 1 t.val -∗ Res m c 2 t.val -∗ Res m c 3 t.val -∗ Res m c 4 t.val
      -∗ owesE c (dl (sent 0 t.val))
      -∗ (Ops m c (t.val + 1) -∗ SlotA m c (t.val + 2) -∗ Res m c 0 (t.val + 1) -∗ Res m c 1 (t.val + 1) -∗ Res m c 2 (t.val + 1) -∗ Res m c 3 (t.val + 1)
        -∗ Res m c 4 (t.val + 1) -∗ owesE c (dl (sent 5 t.val)) -∗ Q ⟨⟩)
      -∗ WP c (At (k0_part19 (F := F)) c v2 t a v d e f g) Q) := by
  have ht : t.val < 16 := t.isLt
  unfold At
  rw [k0_part19_eq_skeleton]
  unfold k0_part19_skel
  extract_lets jp5 jp4 jp3 jp2 jp1 jp0
  have h5 : Ctx m K ⊢ iprop(Ops m c (t.val + 1) -∗ owesE c (dl (sent 5 t.val))
      -∗ (Ops m c (t.val + 1) -∗ owesE c (dl (sent 5 t.val)) -∗ Q ⟨⟩)
      -∗ WP c (jp5 ⟨⟩) Q) := by
    simp only [jp5, Prog.lift, Prog.bind_op, Prog.bind_ret, Prog.pure_eq_ret]
    iintro #HC HP HO Hk
    iapply wp_done
    iapply Hk $$ HP HO
  have h4 : Ctx m K ⊢ iprop(Ops m c (t.val + 1) -∗ owesE c (dl (sent 4 t.val)) -∗ Res m c 4 t.val
      -∗ (Ops m c (t.val + 1) -∗ owesE c (dl (sent 5 t.val)) -∗ Res m c 4 (t.val + 1) -∗ Q ⟨⟩)
      -∗ WP c (jp4 ⟨⟩) Q) := by
    simp only [jp4, Prog.lift, Prog.bind_op, Prog.bind_ret, Prog.pure_eq_ret]
    iintro #HC HP HO HB  Hk
    iapply (cut (P := iprop(After m c 4 5 t.val (t.val + 1) -∗ WP c (jp5 ⟨⟩) Q))) $$ [ Hk]
    · unfold After
      iintro ⟨HP, HB, HO⟩
      iapply h5 $$ HC HP HO
      iintro HP HO
      iapply Hk $$ HP HO HB
    iintro Hj
    by_cases h : k0_cond7 t = 1#1
    · have e : t.val = 3 + 2 * ((4 : Fin 7)).val := (cond7_iff t).mp h
      have e' : t.val = 3 + 2 * 4 := e
      rw [dif_pos h]
      ihave HO := ((owes_at 4 (k := 4) rfl (n := 4) rfl e).trans (show (owesE c (dl 4) : sProp (MT nD τ sig Unit (Elt F) ℕ UU ℕ)) ⊢ owesE c (.xf (1, 1) :: dl 5) from .rfl)) $$ HO
      ihave HB := ((Res_bef m 4 e).trans (show Bef c 4 ⊢ iprop(Ex0 (1, 1) c ∗ sbAny c 1 0 ∗ sbAny c 1 1 ∗ wAny c 0 2 ∗ wAny c 2 1) from .rfl)) $$ HB
      icases HB with ⟨HX, HS, HS', HW, HV⟩
      iapply wp_seq
      iapply (part11 m v2 t h (by omega)) $$ HP HS HS'
      iintro %v HP HS HS'
      iapply wp_seq
      iapply (part12 m v2 t h (by omega) (dl 5)) $$ HC HP HS HS' HW HX HO
      iintro %a HP HW HX HO
      iapply (mk_w m 2 1 (row29 c) (show 2 * 5 + 2 ≤ t.val + 1 by omega) col2 sl21 (fun _ _ => rfl)) $$ HP HV
      iintro HP HV
      iapply Hj
      unfold After
      isplitl [HP]; · iexact HP
      isplitr [HO]
      · iapply (Res_aft m 4 e)
        unfold Aft wVal
        isplitl [HX]; · iexact HX
        isplitl [HW]; · iexact HW
        iexact HV
      iapply (owes_past 4 (k := 5) rfl e (n := 5) rfl) $$ HO
    · have e : t.val ≠ 3 + 2 * ((4 : Fin 7)).val := fun hh => h ((cond7_iff t).mpr hh)
      rw [dif_neg h]
      iapply Hj
      unfold After
      iapply (skip m 4 (k := 4) (k' := 5) rfl rfl e)
      isplitl [HP]; · iexact HP
      isplitl [HB]; · iexact HB
      iexact HO
  have h3 : Ctx m K ⊢ iprop(Ops m c (t.val + 1) -∗ owesE c (dl (sent 3 t.val)) -∗ Res m c 3 t.val -∗ Res m c 4 t.val
      -∗ (Ops m c (t.val + 1) -∗ owesE c (dl (sent 5 t.val)) -∗ Res m c 3 (t.val + 1) -∗ Res m c 4 (t.val + 1) -∗ Q ⟨⟩)
      -∗ WP c (jp3 ⟨⟩) Q) := by
    simp only [jp3, Prog.lift, Prog.bind_op, Prog.bind_ret, Prog.pure_eq_ret]
    iintro #HC HP HO HB H4 Hk
    iapply (cut (P := iprop(After m c 3 4 t.val (t.val + 1) -∗ WP c (jp4 ⟨⟩) Q))) $$ [H4 Hk]
    · unfold After
      iintro ⟨HP, HB, HO⟩
      iapply h4 $$ HC HP HO H4
      iintro HP HO H4
      iapply Hk $$ HP HO HB H4
    iintro Hj
    by_cases h : k0_cond6 t = 1#1
    · have e : t.val = 3 + 2 * ((3 : Fin 7)).val := (cond6_iff t).mp h
      have e' : t.val = 3 + 2 * 3 := e
      rw [dif_pos h]
      ihave HO := ((owes_at 3 (k := 3) rfl (n := 3) rfl e).trans (show (owesE c (dl 3) : sProp (MT nD τ sig Unit (Elt F) ℕ UU ℕ)) ⊢ owesE c (.xf (0, 1) :: dl 4) from .rfl)) $$ HO
      ihave HB := ((Res_bef m 3 e).trans (show Bef c 3 ⊢ iprop(Ex0 (0, 1) c ∗ sbAny c 1 2 ∗ sbAny c 1 3 ∗ wAny c 0 3) from .rfl)) $$ HB
      icases HB with ⟨HX, HS, HS', HW⟩
      iapply wp_seq
      iapply (part9 m v2 t h (by omega)) $$ HP HS
      iintro %v %hv HP HS
      iapply wp_seq
      iapply (part10 m v2 t h (by omega) (dl 4) v hv) $$ HC HP HS HS' HW HX HO
      iintro %a %b %hw HP HW HX HO
      unfold wAny
      icases HW with ⟨%f, HW⟩
      iapply (st_w sl03 (W0 m c) hw) $$ HW
      iintro HW
      iapply Hj
      unfold After
      isplitl [HP]; · iexact HP
      isplitr [HO]
      · iapply (Res_aft m 3 e)
        unfold Aft wVal
        isplitl [HX]; · iexact HX
        iexact HW
      iapply (owes_past 3 (k := 4) rfl e (n := 4) rfl) $$ HO
    · have e : t.val ≠ 3 + 2 * ((3 : Fin 7)).val := fun hh => h ((cond6_iff t).mpr hh)
      rw [dif_neg h]
      iapply Hj
      unfold After
      iapply (skip m 3 (k := 3) (k' := 4) rfl rfl e)
      isplitl [HP]; · iexact HP
      isplitl [HB]; · iexact HB
      iexact HO
  have h2 : Ctx m K ⊢ iprop(Ops m c (t.val + 1) -∗ owesE c (dl (sent 2 t.val)) -∗ Res m c 2 t.val -∗ Res m c 3 t.val -∗ Res m c 4 t.val
      -∗ (Ops m c (t.val + 1) -∗ owesE c (dl (sent 5 t.val)) -∗ Res m c 2 (t.val + 1) -∗ Res m c 3 (t.val + 1) -∗ Res m c 4 (t.val + 1) -∗ Q ⟨⟩)
      -∗ WP c (jp2 ⟨⟩) Q) := by
    simp only [jp2, Prog.lift, Prog.bind_op, Prog.bind_ret, Prog.pure_eq_ret]
    iintro #HC HP HO HB H3 H4 Hk
    iapply (cut (P := iprop(After m c 2 3 t.val (t.val + 1) -∗ WP c (jp3 ⟨⟩) Q))) $$ [H3 H4 Hk]
    · unfold After
      iintro ⟨HP, HB, HO⟩
      iapply h3 $$ HC HP HO H3 H4
      iintro HP HO H3 H4
      iapply Hk $$ HP HO HB H3 H4
    iintro Hj
    by_cases h : k0_cond5 t = 1#1
    · have e : t.val = 3 + 2 * ((2 : Fin 7)).val := (cond5_iff t).mp h
      have e' : t.val = 3 + 2 * 2 := e
      rw [dif_pos h]
      ihave HO := ((owes_at 2 (k := 2) rfl (n := 2) rfl e).trans (show (owesE c (dl 2) : sProp (MT nD τ sig Unit (Elt F) ℕ UU ℕ)) ⊢ owesE c (.xf (1, 0) :: dl 3) from .rfl)) $$ HO
      ihave HB := ((Res_bef m 2 e).trans (show Bef c 2 ⊢ iprop(Ex0 (1, 0) c ∗ sbAny c 0 0 ∗ sbAny c 0 1 ∗ wAny c 1 1 ∗ wAny c 2 2) from .rfl)) $$ HB
      icases HB with ⟨HX, HS, HS', HW, HV⟩
      iapply wp_seq
      iapply (part7 m v2 t h (by omega)) $$ HP HS HS'
      iintro %v HP HS HS'
      iapply wp_seq
      iapply (part8 m v2 t h (by omega) (dl 3)) $$ HC HP HS HS' HW HX HO
      iintro %a HP HW HX HO
      iapply (mk_w m 2 2 (row25 c) (show 2 * 3 + 2 ≤ t.val + 1 by omega) col2 sl22 (fun _ _ => rfl)) $$ HP HV
      iintro HP HV
      iapply Hj
      unfold After
      isplitl [HP]; · iexact HP
      isplitr [HO]
      · iapply (Res_aft m 2 e)
        unfold Aft wVal
        isplitl [HX]; · iexact HX
        isplitl [HW]; · iexact HW
        iexact HV
      iapply (owes_past 2 (k := 3) rfl e (n := 3) rfl) $$ HO
    · have e : t.val ≠ 3 + 2 * ((2 : Fin 7)).val := fun hh => h ((cond5_iff t).mpr hh)
      rw [dif_neg h]
      iapply Hj
      unfold After
      iapply (skip m 2 (k := 2) (k' := 3) rfl rfl e)
      isplitl [HP]; · iexact HP
      isplitl [HB]; · iexact HB
      iexact HO
  have h1 : Ctx m K ⊢ iprop(Ops m c (t.val + 1) -∗ owesE c (dl (sent 1 t.val)) -∗ Res m c 1 t.val -∗ Res m c 2 t.val -∗ Res m c 3 t.val -∗ Res m c 4 t.val
      -∗ (Ops m c (t.val + 1) -∗ owesE c (dl (sent 5 t.val)) -∗ Res m c 1 (t.val + 1) -∗ Res m c 2 (t.val + 1) -∗ Res m c 3 (t.val + 1) -∗ Res m c 4 (t.val + 1) -∗ Q ⟨⟩)
      -∗ WP c (jp1 ⟨⟩) Q) := by
    simp only [jp1, Prog.lift, Prog.bind_op, Prog.bind_ret, Prog.pure_eq_ret]
    iintro #HC HP HO HB H2 H3 H4 Hk
    iapply (cut (P := iprop(After m c 1 2 t.val (t.val + 1) -∗ WP c (jp2 ⟨⟩) Q))) $$ [H2 H3 H4 Hk]
    · unfold After
      iintro ⟨HP, HB, HO⟩
      iapply h2 $$ HC HP HO H2 H3 H4
      iintro HP HO H2 H3 H4
      iapply Hk $$ HP HO HB H2 H3 H4
    iintro Hj
    by_cases h : k0_cond4 t = 1#1
    · have e : t.val = 3 + 2 * ((1 : Fin 7)).val := (cond4_iff t).mp h
      have e' : t.val = 3 + 2 * 1 := e
      rw [dif_pos h]
      ihave HO := ((owes_at 1 (k := 1) rfl (n := 1) rfl e).trans (show (owesE c (dl 1) : sProp (MT nD τ sig Unit (Elt F) ℕ UU ℕ)) ⊢ owesE c (.xf (0, 2) :: dl 2) from .rfl)) $$ HO
      ihave HB := ((Res_bef m 1 e).trans (show Bef c 1 ⊢ iprop(Ex0 (0, 2) c ∗ sbAny c 2 2 ∗ sbAny c 2 3 ∗ wAny c 1 3) from .rfl)) $$ HB
      icases HB with ⟨HX, HS, HS', HW⟩
      iapply wp_seq
      iapply (part5 m v2 t h (by omega)) $$ HP HS
      iintro %v %hv HP HS
      iapply wp_seq
      iapply (part6 m v2 t h (by omega) (dl 2) v hv) $$ HC HP HS HS' HW HX HO
      iintro %a %b %hw HP HW HX HO
      unfold wAny
      icases HW with ⟨%f, HW⟩
      iapply (st_w sl13 (W0 m c) hw) $$ HW
      iintro HW
      iapply Hj
      unfold After
      isplitl [HP]; · iexact HP
      isplitr [HO]
      · iapply (Res_aft m 1 e)
        unfold Aft wVal
        isplitl [HX]; · iexact HX
        iexact HW
      iapply (owes_past 1 (k := 2) rfl e (n := 2) rfl) $$ HO
    · have e : t.val ≠ 3 + 2 * ((1 : Fin 7)).val := fun hh => h ((cond4_iff t).mpr hh)
      rw [dif_neg h]
      iapply Hj
      unfold After
      iapply (skip m 1 (k := 1) (k' := 2) rfl rfl e)
      isplitl [HP]; · iexact HP
      isplitl [HB]; · iexact HB
      iexact HO
  have h0 : Ctx m K ⊢ iprop(Ops m c (t.val + 1) -∗ owesE c (dl (sent 0 t.val)) -∗ Res m c 0 t.val -∗ Res m c 1 t.val -∗ Res m c 2 t.val -∗ Res m c 3 t.val -∗ Res m c 4 t.val
      -∗ (Ops m c (t.val + 1) -∗ owesE c (dl (sent 5 t.val)) -∗ Res m c 0 (t.val + 1) -∗ Res m c 1 (t.val + 1) -∗ Res m c 2 (t.val + 1) -∗ Res m c 3 (t.val + 1) -∗ Res m c 4 (t.val + 1) -∗ Q ⟨⟩)
      -∗ WP c (jp0 ⟨⟩) Q) := by
    simp only [jp0, Prog.lift, Prog.bind_op, Prog.bind_ret, Prog.pure_eq_ret]
    iintro #HC HP HO HB H1 H2 H3 H4 Hk
    iapply (cut (P := iprop(After m c 0 1 t.val (t.val + 1) -∗ WP c (jp1 ⟨⟩) Q))) $$ [H1 H2 H3 H4 Hk]
    · unfold After
      iintro ⟨HP, HB, HO⟩
      iapply h1 $$ HC HP HO H1 H2 H3 H4
      iintro HP HO H1 H2 H3 H4
      iapply Hk $$ HP HO HB H1 H2 H3 H4
    iintro Hj
    by_cases h : k0_cond3 t = 1#1
    · have e : t.val = 3 + 2 * ((0 : Fin 7)).val := (cond3_iff t).mp h
      have e' : t.val = 3 + 2 * 0 := e
      rw [dif_pos h]
      ihave HO := ((owes_at 0 (k := 0) rfl (n := 0) rfl e).trans (show (owesE c (dl 0) : sProp (MT nD τ sig Unit (Elt F) ℕ UU ℕ)) ⊢ owesE c (.xf (0, 0) :: dl 1) from .rfl)) $$ HO
      ihave HB := ((Res_bef m 0 e).trans (show Bef c 0 ⊢ iprop(Ex0 (0, 0) c ∗ sbAny c 0 2 ∗ sbAny c 0 3 ∗ wAny c 2 3) from .rfl)) $$ HB
      icases HB with ⟨HX, HS, HS', HW⟩
      iapply wp_seq
      iapply (part3 m v2 t h (by omega)) $$ HP HS
      iintro %v %hv HP HS
      iapply wp_seq
      iapply (part4 m v2 t h (by omega) (dl 1) v hv) $$ HC HP HS HS' HX HO
      iintro %a %b %d %hw HP HX HO
      unfold wAny
      icases HW with ⟨%f, HW⟩
      iapply (ld_w_any sl23 ⟨le_rfl, Nat.lt_succ_self _⟩) $$ HW
      iintro %w HW
      iapply (st_w sl23 (W0 m c) hw) $$ HW
      iintro HW
      iapply Hj
      unfold After
      isplitl [HP]; · iexact HP
      isplitr [HO]
      · iapply (Res_aft m 0 e)
        unfold Aft wVal
        isplitl [HX]; · iexact HX
        iexact HW
      iapply (owes_past 0 (k := 1) rfl e (n := 1) rfl) $$ HO
    · have e : t.val ≠ 3 + 2 * ((0 : Fin 7)).val := fun hh => h ((cond3_iff t).mpr hh)
      rw [dif_neg h]
      iapply Hj
      unfold After
      iapply (skip m 0 (k := 0) (k' := 1) rfl rfl e)
      isplitl [HP]; · iexact HP
      isplitl [HB]; · iexact HB
      iexact HO
  clear_value jp0
  simp only [Prog.lift, Prog.bind_op, Prog.bind_ret, Prog.pure_eq_ret]
  iintro #HC HA HB HF H0 H1 H2 H3 H4 HO Hk
  iapply (ldA_any m) $$ HA
  iintro %w HA
  iapply (stA16 m ((off17_eq c t).trans (halfOff_row c t.val)) hv) $$ HA
  iintro HA
  iapply (cut (P := iprop(SlotA m c (t.val + 2) -∗ WP c (jp0 ⟨⟩) Q))) $$ [HA HB H0 H1 H2 H3 H4 HO Hk]
  · iintro HF
    iapply h0 $$ HC [HA HB] HO H0 H1 H2 H3 H4
    · unfold Ops
      isplitl [HA]; · iexact HA
      iexact HB
    iintro HP HO H0 H1 H2 H3 H4
    iapply Hk $$ HP HF H0 H1 H2 H3 H4 HO
  iintro Hj
  by_cases h : k0_cond2 t = 1#1
  · have h2 : t.val + 2 < 16 := (cond2_iff t).mp h
    rw [dif_pos h]
    iapply wp_seq
    iapply part1
    iintro %x
    iapply wp_seq
    iapply part2
    iintro %y
    iapply (startA m ((off20_eq c t h2).trans (halfOff_row c (t.val + 2))) (k0_off19_eq t) (semA_eq (k0_off18_eq t))) $$ HF
    iintro HF
    iapply Hj
    rw [SlotA_in m h2]
    iexact HF
  · have h2 : ¬ t.val + 2 < 16 := fun hh => h ((cond2_iff t).mpr hh)
    rw [dif_neg h]
    iapply Hj
    rw [SlotA_out m h2]
    iexact HF

/-- Before trip `t`: tile `t` of the rows and the next are on their way, the earlier ones have been cast and the groups of
    products whose trips have passed are done. -/
def invA (c : Dev nD) (K : Dev nD × Fin 32 → ℕ) (t : ℕ) : sProp 𝕄 :=
  iprop(Ctx m K ∗ SlotA m c t ∗ SlotA m c (t + 1) ∗ FillA m c t ∗ FillB m c 16 ∗ Res m c 0 t ∗ Res m c 1 t ∗ Res m c 2 t ∗ Res m c 3 t ∗ Res m c 4 t ∗ Res m c 5 t ∗ Res m c 6 t ∗ owesE c (dl (sent 0 t)))

theorem stepA (acc : Unit) : invA m c K t.val ⊢ WP c (At (k0_t2_body (F := F)) c v2 t acc) (fun _ => invA m c K (t.val + 1)) := by
  have ht : t.val < 16 := t.isLt
  unfold At k0_t2_body
  lift_lets
  extract_lets jp7 jp6
  generalize hQ : (fun _ : Unit => invA m c K (t.val + 1)) = Q
  have h7 : Ctx m K ⊢ iprop(Ops m c (t.val + 1) -∗ owesE c (dl (sent 7 t.val))
      -∗ (Ops m c (t.val + 1) -∗ owesE c (dl (sent 7 t.val)) -∗ Q ⟨⟩)
      -∗ WP c (jp7 ⟨⟩) Q) := by
    simp only [jp7, Prog.lift, Prog.bind_op, Prog.bind_ret, Prog.pure_eq_ret]
    iintro #HC HP HO Hk
    iapply wp_done
    iapply Hk $$ HP HO
  have h6 : Ctx m K ⊢ iprop(Ops m c (t.val + 1) -∗ owesE c (dl (sent 6 t.val)) -∗ Res m c 6 t.val
      -∗ (Ops m c (t.val + 1) -∗ owesE c (dl (sent 7 t.val)) -∗ Res m c 6 (t.val + 1) -∗ Q ⟨⟩)
      -∗ WP c (jp6 ⟨⟩) Q) := by
    simp only [jp6, Prog.lift, Prog.bind_op, Prog.bind_ret, Prog.pure_eq_ret]
    iintro #HC HP HO HB  Hk
    iapply (cut (P := iprop(After m c 6 7 t.val (t.val + 1) -∗ WP c (jp7 ⟨⟩) Q))) $$ [ Hk]
    · unfold After
      iintro ⟨HP, HB, HO⟩
      iapply h7 $$ HC HP HO
      iintro HP HO
      iapply Hk $$ HP HO HB
    iintro Hj
    by_cases h : k0_cond9 t = 1#1
    · have e : t.val = 3 + 2 * ((6 : Fin 7)).val := (cond9_iff t).mp h
      have e' : t.val = 3 + 2 * 6 := e
      rw [dif_pos h]
      ihave HO := (owes_at 6 (k := 6) rfl (n := 6) rfl e) $$ HO
      ihave HB := ((Res_bef m 6 e).trans (show Bef c 6 ⊢ iprop(wAny c 0 0 ∗ wAny c 1 0 ∗ wAny c 2 0) from .rfl)) $$ HB
      icases HB with ⟨HX, HW, HV⟩
      iapply (mk_w m 0 0 (row33 c) (show 2 * 7 + 2 ≤ t.val + 1 by omega) col0 sl00 (fun _ _ => rfl)) $$ HP HX
      iintro HP HX
      iapply (mk_w m 1 0 (row33 c) (show 2 * 7 + 2 ≤ t.val + 1 by omega) col1 sl10 (fun _ _ => rfl)) $$ HP HW
      iintro HP HW
      iapply (mk_w m 2 0 (row33 c) (show 2 * 7 + 2 ≤ t.val + 1 by omega) col2 sl20 (fun _ _ => rfl)) $$ HP HV
      iintro HP HV
      iapply Hj
      unfold After
      isplitl [HP]; · iexact HP
      isplitr [HO]
      · iapply (Res_aft m 6 e)
        unfold Aft wVal
        isplitl [HX]; · iexact HX
        isplitl [HW]; · iexact HW
        iexact HV
      iapply (owes_past 6 (k := 7) rfl e (n := 6) rfl) $$ HO
    · have e : t.val ≠ 3 + 2 * ((6 : Fin 7)).val := fun hh => h ((cond9_iff t).mpr hh)
      rw [dif_neg h]
      iapply Hj
      unfold After
      iapply (skip m 6 (k := 6) (k' := 7) rfl rfl e)
      isplitl [HP]; · iexact HP
      isplitl [HB]; · iexact HB
      iexact HO
  clear_value jp6
  simp only [Prog.lift, Prog.bind_op, Prog.bind_ret, Prog.pure_eq_ret]
  unfold invA
  rw [SlotA_in m ht]
  iintro ⟨#HC, HF, HN, HA, HB, H0, H1, H2, H3, H4, H5, H6, HO⟩
  iapply wp_seq
  iapply part15
  iintro %x
  iapply wp_seq
  iapply part16
  iintro %x'
  iapply wp_seq
  iapply (part17 m t _ _ (dl (sent 0 t.val)) (dl_pos _)) $$ HC HF HO
  iintro %v %hv HF HO
  iapply wp_seq
  iapply part18
  iintro %y
  iapply wp_seq
  iapply (part19 m v2 t _ _ _ _ _ v.1 hv) $$ HC HA HB HF H0 H1 H2 H3 H4 HO
  iintro HP HF H0 H1 H2 H3 H4 HO
  iapply (cut (P := iprop(After m c 5 6 t.val (t.val + 1) -∗ WP c (jp6 ⟨⟩) Q))) $$ [HN HF H0 H1 H2 H3 H4 H6]
  · unfold After
    iintro ⟨HP, H5, HO⟩
    iapply h6 $$ HC HP HO H6
    iintro HP HO H6
    unfold Ops
    icases HP with ⟨HA, HB⟩
    rw [← hQ]
    dsimp only
    unfold invA
    rw [← sent_trip t.val ht]
    isplitr; · iexact HC
    isplitl [HN]; · iexact HN
    isplitl [HF]; · iexact HF
    isplitl [HA]; · iexact HA
    isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HO
  iintro Hj
  by_cases h : k0_cond8 t = 1#1
  · have e : t.val = 3 + 2 * ((5 : Fin 7)).val := (cond8_iff t).mp h
    have e' : t.val = 3 + 2 * 5 := e
    rw [dif_pos h]
    ihave HO := ((owes_at 5 (k := 5) rfl (n := 5) rfl e).trans (show (owesE c (dl 5) : sProp (MT nD τ sig Unit (Elt F) ℕ UU ℕ)) ⊢ owesE c (.xf (1, 2) :: dl 6) from .rfl)) $$ HO
    ihave H5 := ((Res_bef m 5 e).trans (show Bef c 5 ⊢ iprop(Ex0 (1, 2) c ∗ sbAny c 2 0 ∗ sbAny c 2 1 ∗ wAny c 0 1 ∗ wAny c 1 2) from .rfl)) $$ H5
    icases H5 with ⟨HX, HS, HS', HW, HV⟩
    iapply wp_seq
    iapply (part13 m v2 t h (by omega)) $$ HP HS HS'
    iintro %v HP HS HS'
    iapply wp_seq
    iapply (part14 m v2 t h (by omega) (dl 6)) $$ HC HP HS HS' HW HX HO
    iintro %a %hw HP HW HX HO
    unfold wAny
    icases HV with ⟨%f, HV⟩
    iapply (ld_w_any sl12 ⟨le_rfl, Nat.lt_succ_self _⟩) $$ HV
    iintro %w HV
    iapply (st_w sl12 (W0 m c) hw) $$ HV
    iintro HV
    iapply Hj
    unfold After
    isplitl [HP]; · iexact HP
    isplitr [HO]
    · iapply (Res_aft m 5 e)
      unfold Aft wVal
      isplitl [HX]; · iexact HX
      isplitl [HW]; · iexact HW
      iexact HV
    iapply (owes_past 5 (k := 6) rfl e (n := 6) rfl) $$ HO
  · have e : t.val ≠ 3 + 2 * ((5 : Fin 7)).val := fun hh => h ((cond8_iff t).mpr hh)
    rw [dif_neg h]
    iapply Hj
    unfold After
    iapply (skip m 5 (k := 5) (k' := 6) rfl rfl e)
    isplitl [HP]; · iexact HP
    isplitl [H5]; · iexact H5
    iexact HO

end Groups

end Loop

end Cert.RS
-- ==== Proof.RS.Comb.lean ====
/-
The arithmetic of the exchange: a work-buffer slot plus what a neighbour sent, rounded back to half
precision. One lemma per exchange stage, over any slot; the waits' amounts and the literal offsets.
-/
module

public import proofs.«01_k».proof.Proof.RS.LoopA

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- What a wait for a departure counts: the bytes of the slots that left. -/
theorem amt_a' : cc0_scratch4.dmaCredit S2x384x1024 .bf16 = amt 0 := by unfold amt; rfl
theorem amt_b' : cc0_scratch4.dmaCredit S2x384x1024 .bf16 = amt 1 := by unfold amt; rfl
theorem amt_c' : cc0_scratch6.dmaCredit S1x384x1024 .bf16 = amt 2 := by unfold amt; rfl
theorem amt_d' : cc0_scratch6.dmaCredit S1x384x1024 .bf16 = amt 3 := by unfold amt; rfl
theorem amt_e' : cc0_scratch6.dmaCredit S1x384x1024 .bf16 = amt 4 := by unfold amt; rfl

/-- The offset of one slot of the second stage's landing buffer, and of the third's. -/
theorem two_at (g : Fin 3) (j : Fin 2) {a b : ℕ} (ha : a = g.val) (hb : b = j.val) : (![a, b, 0, 0] : Fin 4 → ℕ) = ![g.val, j.val, 0, 0] := by rw [ha, hb]
theorem one_at (g : Fin 3) {a : ℕ} (ha : a = g.val) : (![a, 0, 0, 0] : Fin 4 → ℕ) = ![g.val, (0 : Fin 1).val, 0, 0] := by rw [ha]; rfl

theorem lev_pos (d : Debt) : 0 < d.lev := by
  cases d with
  | bar a => exact Nat.one_pos
  | xf x => show 0 < 2 + _; omega
  | ex a => exact Nat.succ_pos 4

variable (m : (ℓ : Loc nD τ sig) → Buf (Elt F) ℓ)

/-- A work-buffer slot after the first and after the second exchange. -/
def w1Val (c : Dev nD) (g : Fin 3) (j : Fin 4) : sProp 𝕄 := wP c g j.val 1 (stk (W1 m c))
def w2Val (c : Dev nD) (g : Fin 3) (j : Fin 4) : sProp 𝕄 := wP c g j.val 1 (stk (W2 m c))

section Combine
variable {c : Dev nD} {K : Dev nD × Fin 32 → ℕ} {α : Type} {Q : α → sProp (MT nD τ sig Unit (Elt F) ℕ UU ℕ)}
  {off off' : Fin 4 → ℕ} {kk : Slot F → Slot F → Prog (TpuEff nD τ sig (Elt F) Λ₀ .tc) α} {k : PUnit → Prog (TpuEff nD τ sig (Elt F) Λ₀ .tc) α}

/-- Reading a product and the half sum a first-stage neighbour sent for it. -/
theorem ld_pair1 (k5 : Fin 5) (lo : ℕ) (hk : (k5 = 0 ∧ lo = 2) ∨ (k5 = 1 ∧ lo = 0)) (g : Fin 3) (j : Fin 4) (hj : lo ≤ j.val ∧ j.val < lo + 2)
    (ho : off = ![g.val, j.val, 0, 0]) {inb hl inb' hl'} :
    recvPay m (k5, g) c ⊢ iprop(wVal m c g j -∗ (recvPay m (k5, g) c -∗ wVal m c g j -∗ WP c (kk (W0 m c g j) (RB1 m c g j)) Q)
      -∗ WP c (.op (.load (Memref.whole cc0_scratch6) (Rect.unit (s := S3x4x384x1024) off S1x1x384x1024.size inb).toLoadRect hl) fun v =>
          .op (.load (Memref.whole cc0_scratch5) (Rect.unit (s := S3x4x384x1024) off S1x1x384x1024.size inb').toLoadRect hl') fun w => kk v w) Q) := by
  have er : recvPay m (k5, g) c = rb1P c g lo 2 (stk (RB1 m c)) := by rcases hk with ⟨rfl, rfl⟩ | ⟨rfl, rfl⟩ <;> rfl
  rw [er]
  unfold wVal
  iintro HR HW Hk
  iapply (ld_w ho ⟨le_rfl, Nat.lt_succ_self _⟩ (W0 m c)) $$ HW
  iintro HW
  iapply (ld_rb1 ho hj (RB1 m c)) $$ HR
  iintro HR
  iapply Hk $$ HR HW

/-- Reading a first sum and the quarter sum a second-stage neighbour sent for it. -/
theorem ld_pair2 (k5 : Fin 5) (j2 : Fin 2) (hk : (k5 = 2 ∧ j2 = 1) ∨ (k5 = 3 ∧ j2 = 0)) (g : Fin 3) (j : Fin 4) (hj : j.val = j2.val)
    (ho : off = ![g.val, j.val, 0, 0]) {inb hl inb' hl'} :
    recvPay m (k5, g) c ⊢ iprop(w1Val m c g j -∗ (recvPay m (k5, g) c -∗ w1Val m c g j -∗ WP c (kk (W1 m c g j) (RB2 m c g j2)) Q)
      -∗ WP c (.op (.load (Memref.whole cc0_scratch6) (Rect.unit (s := S3x4x384x1024) off S1x1x384x1024.size inb).toLoadRect hl) fun v =>
          .op (.load (Memref.whole cc0_scratch7) (Rect.unit (s := S3x2x384x1024) off S1x1x384x1024.size inb').toLoadRect hl') fun w => kk v w) Q) := by
  have er : recvPay m (k5, g) c = rb2P c g j2.val 1 (stk (RB2 m c)) := by rcases hk with ⟨rfl, rfl⟩ | ⟨rfl, rfl⟩ <;> rfl
  rw [er]
  unfold w1Val
  iintro HR HW Hk
  iapply (ld_w ho ⟨le_rfl, Nat.lt_succ_self _⟩ (W1 m c)) $$ HW
  iintro HW
  iapply (ld_rb2 (j := j2) (ho.trans (by rw [hj])) ⟨le_rfl, Nat.lt_succ_self _⟩ (RB2 m c)) $$ HR
  iintro HR
  iapply Hk $$ HR HW

/-- Writing the first sum over the product, and the second sum over the first. -/
theorem put1 (g : Fin 3) (j : Fin 4) (ho : off = ![g.val, j.val, 0, 0]) {u : Slot F} (hu : u = W1 m c g j) {inb hx hm} :
    wVal m c g j ⊢ iprop((w1Val m c g j -∗ WP c (k ⟨⟩) Q)
      -∗ WP c (.op (.store (Memref.whole cc0_scratch6) (Rect.unit (s := S3x4x384x1024) off S1x1x384x1024.size inb) u Finset.univ hx hm) k) Q) := by
  unfold wVal w1Val
  exact st_w ho (W1 m c) hu
theorem put2 (g : Fin 3) (j : Fin 4) (ho : off = ![g.val, j.val, 0, 0]) {u : Slot F} (hu : u = W2 m c g j) {inb hx hm} :
    w1Val m c g j ⊢ iprop((w2Val m c g j -∗ WP c (k ⟨⟩) Q)
      -∗ WP c (.op (.store (Memref.whole cc0_scratch6) (Rect.unit (s := S3x4x384x1024) off S1x1x384x1024.size inb) u Finset.univ hx hm) k) Q) := by
  unfold w1Val w2Val
  exact st_w ho (W2 m c) hu

/-- A read whose value is not used. -/
theorem skip0 (g : Fin 3) (j : Fin 4) (ho : off = ![g.val, j.val, 0, 0]) {kk : Slot F → Prog (TpuEff nD τ sig (Elt F) Λ₀ .tc) α} {inb hl} :
    wVal m c g j ⊢ iprop((∀ v : Slot F, wVal m c g j -∗ WP c (kk v) Q)
      -∗ WP c (.op (.load (Memref.whole cc0_scratch6) (Rect.unit (s := S3x4x384x1024) off S1x1x384x1024.size inb).toLoadRect hl) kk) Q) := by
  unfold wVal
  exact ld_w_any ho ⟨le_rfl, Nat.lt_succ_self _⟩
theorem skip1 (g : Fin 3) (j : Fin 4) (ho : off = ![g.val, j.val, 0, 0]) {kk : Slot F → Prog (TpuEff nD τ sig (Elt F) Λ₀ .tc) α} {inb hl} :
    w1Val m c g j ⊢ iprop((∀ v : Slot F, w1Val m c g j -∗ WP c (kk v) Q)
      -∗ WP c (.op (.load (Memref.whole cc0_scratch6) (Rect.unit (s := S3x4x384x1024) off S1x1x384x1024.size inb).toLoadRect hl) kk) Q) := by
  unfold w1Val
  exact ld_w_any ho ⟨le_rfl, Nat.lt_succ_self _⟩

theorem w2_of (g : Fin 3) (j : Fin 4) (j2 : Fin 2) (hj : j.val = j2.val) : comb (W1 m c g j) (RB2 m c g j2) = W2 m c g j := by
  have h2 : (⟨j.val % 2, Nat.mod_lt _ (by omega)⟩ : Fin 2) = j2 := Fin.ext (by have := j2.isLt; show j.val % 2 = _; omega)
  unfold W2; rw [h2]

/-- The first sum formed in place. -/
theorem mk_comb (k5 : Fin 5) (lo : ℕ) (hk : (k5 = 0 ∧ lo = 2) ∨ (k5 = 1 ∧ lo = 0)) (g : Fin 3) (j : Fin 4) (hj : lo ≤ j.val ∧ j.val < lo + 2)
    (ho : off = ![g.val, j.val, 0, 0]) {pay : Slot F → Slot F → Slot F} (hp : ∀ v w, pay v w = comb v w) {inb hl inb' hl' inb2 hl2 inb3 hx hm} :
    recvPay m (k5, g) c ⊢ iprop(wVal m c g j -∗ (recvPay m (k5, g) c -∗ w1Val m c g j -∗ WP c (k ⟨⟩) Q)
      -∗ WP c (.op (.load (Memref.whole cc0_scratch6) (Rect.unit (s := S3x4x384x1024) off S1x1x384x1024.size inb).toLoadRect hl) fun v =>
          .op (.load (Memref.whole cc0_scratch5) (Rect.unit (s := S3x4x384x1024) off S1x1x384x1024.size inb').toLoadRect hl') fun w =>
          .op (.load (Memref.whole cc0_scratch6) (Rect.unit (s := S3x4x384x1024) off S1x1x384x1024.size inb2).toLoadRect hl2) fun _ =>
          .op (.store (Memref.whole cc0_scratch6) (Rect.unit (s := S3x4x384x1024) off S1x1x384x1024.size inb3) (pay v w) Finset.univ hx hm) k) Q) := by
  iintro HR HW Hk
  iapply (ld_pair1 m k5 lo hk g j hj ho) $$ HR HW
  iintro HR HW
  iapply (skip0 m g j ho) $$ HW
  iintro %w HW
  iapply (put1 m g j ho (hp _ _)) $$ HW
  iintro HW
  iapply Hk $$ HR HW

/-- The second sum formed in place. -/
theorem mk_comb2 (k5 : Fin 5) (j2 : Fin 2) (hk : (k5 = 2 ∧ j2 = 1) ∨ (k5 = 3 ∧ j2 = 0)) (g : Fin 3) (j : Fin 4) (hj : j.val = j2.val)
    (ho : off = ![g.val, j.val, 0, 0]) {pay : Slot F → Slot F → Slot F} (hp : ∀ v w, pay v w = comb v w) {inb hl inb' hl' inb2 hl2 inb3 hx hm} :
    recvPay m (k5, g) c ⊢ iprop(w1Val m c g j -∗ (recvPay m (k5, g) c -∗ w2Val m c g j -∗ WP c (k ⟨⟩) Q)
      -∗ WP c (.op (.load (Memref.whole cc0_scratch6) (Rect.unit (s := S3x4x384x1024) off S1x1x384x1024.size inb).toLoadRect hl) fun v =>
          .op (.load (Memref.whole cc0_scratch7) (Rect.unit (s := S3x2x384x1024) off S1x1x384x1024.size inb').toLoadRect hl') fun w =>
          .op (.load (Memref.whole cc0_scratch6) (Rect.unit (s := S3x4x384x1024) off S1x1x384x1024.size inb2).toLoadRect hl2) fun _ =>
          .op (.store (Memref.whole cc0_scratch6) (Rect.unit (s := S3x4x384x1024) off S1x1x384x1024.size inb3) (pay v w) Finset.univ hx hm) k) Q) := by
  iintro HR HW Hk
  iapply (ld_pair2 m k5 j2 hk g j hj ho) $$ HR HW
  iintro HR HW
  iapply (skip1 m g j ho) $$ HW
  iintro %w HW
  iapply (put2 m g j ho ((hp _ _).trans (w2_of m g j j2 hj))) $$ HW
  iintro HW
  iapply Hk $$ HR HW

/-- Sending a first sum on, and a second sum. -/
theorem send2v {n : Dev nD} {sS sR : DmaSem sig} (k5 : Fin 5) (j : Fin 4) (lo' : ℕ) (hk : (k5 = 2 ∧ j.val = 3 ∧ lo' = 1) ∨ (k5 = 3 ∧ j.val = 2 ∧ lo' = 0)) (g : Fin 3) (l : List Debt)
    (hn : n = peer (k5, g) c) (ho : off = ![g.val, j.val, 0, 0]) (ho' : off' = ![g.val, lo', 0, 0])
    (hs : sS = sendS (k5, g)) (hr : sR = recvS (k5, g)) {inb inb' hst hst' sq sq' hsc hsrc hdst hsem} :
    Ctx m K ⊢ iprop(Ex0 (k5, g) c -∗ w1Val m c g j -∗ owesE c (.xf (k5, g) :: l)
      -∗ (Ex1 (k5, g) c -∗ owesE c l -∗ WP c (k ⟨⟩) Q)
      -∗ WP c (.op (.enqueueDma
          (((Memref.whole cc0_scratch6).slice (Rect.unit (s := S3x4x384x1024) off S1x1x384x1024.size inb) hst).squeeze S1x384x1024 sq)
          (.remote (Dev.tc n : Thread nD τ)
            (((Memref.whole cc0_scratch7).slice (Rect.unit (s := S3x2x384x1024) off' S1x1x384x1024.size inb') hst').squeeze S1x384x1024 sq')
            (.dma sS) hsc) (.dma sR) hsrc hdst hsem) k) Q) := by
  unfold w1Val
  exact send2 m k5 j.val lo' hk g l hn ho ho' hs hr
theorem send3v {n : Dev nD} {sS sR : DmaSem sig} (g : Fin 3) (l : List Debt) (hn : n = peer (4, g) c) (ho : off = ![g.val, 1, 0, 0])
    (ho' : off' = ![g.val, 0, 0, 0]) (hs : sS = sendS (4, g)) (hr : sR = recvS (4, g)) {inb inb' hst hst' sq sq' hsc hsrc hdst hsem} :
    Ctx m K ⊢ iprop(Ex0 (4, g) c -∗ w2Val m c g 1 -∗ owesE c (.xf (4, g) :: l)
      -∗ (Ex1 (4, g) c -∗ owesE c l -∗ WP c (k ⟨⟩) Q)
      -∗ WP c (.op (.enqueueDma
          (((Memref.whole cc0_scratch6).slice (Rect.unit (s := S3x4x384x1024) off S1x1x384x1024.size inb) hst).squeeze S1x384x1024 sq)
          (.remote (Dev.tc n : Thread nD τ)
            (((Memref.whole cc0_scratch8).slice (Rect.unit (s := S3x1x384x1024) off' S1x1x384x1024.size inb') hst').squeeze S1x384x1024 sq')
            (.dma sS) hsc) (.dma sR) hsrc hdst hsem) k) Q) := by
  unfold w2Val
  exact send3 m g l hn ho ho' hs hr

end Combine

end Cert.RS
-- ==== Proof.RS.Tail.lean ====
/-
The exchange after the loops, piece by piece: each piece waits for what a neighbour sent, adds it in place,
and passes the sum on along the next axis. Every statement lists what the piece takes and what it leaves.
-/
module

public import proofs.«01_k».proof.Proof.RS.Comb

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable (m : (ℓ : Loc nD τ sig) → Buf (Elt F) ℓ)

section Parts
variable {c : Dev nD} {K : Dev nD × Fin 32 → ℕ} (v2 : BitVec 32)

theorem part25 (l : List Debt) (hl : ∀ d ∈ Debt.xf (2, 0) :: l, 2 + (stage (0 : Fin 5)).val < d.lev) {Q : PUnit → sProp (MT nD τ sig Unit (Elt F) ℕ UU ℕ)} :
    Ctx m K ⊢ iprop(Ex2 (0, 0) c -∗ wVal m c 0 3 -∗ Ex0 (2, 0) c -∗ owesE c (.xf (2, 0) :: l)
      -∗ (Ex3 (0, 0) c -∗ recvPay m (0, 0) c -∗ Ex1 (2, 0) c -∗ owesE c l -∗ Q ⟨⟩)
      -∗ WP c (At (k0_part25 (F := F)) c v2) Q) := by
  unfold At
  rw [k0_part25_eq_skeleton]
  unfold k0_part25_skel
  simp only [Prog.lift, Prog.bind_op, Prog.bind_ret, Prog.pure_eq_ret]
  iintro #HC HX HW HY HO Hk
  iapply (wait_recv m (0, 0) _ hl (sr0 at0) amt_a.symm) $$ HC HX HO
  iintro HX HR HO
  iapply (mk_comb m 0 2 (.inl ⟨rfl, rfl⟩) 0 3 (by decide) sl03 (fun _ _ => rfl)) $$ HR HW
  iintro HR HW
  iapply (send2v m 2 3 1 (.inl ⟨rfl, rfl, rfl⟩) 0 l (dev_of (dev10_eq c)) sl03 run01 (ss2 at0) (sr2 at0)) $$ HC HY HW HO
  iintro HY HO
  iapply wp_done
  iapply Hk $$ HX HR HY HO

theorem part26 (l : List Debt) {Q : BitVec 32 → sProp (MT nD τ sig Unit (Elt F) ℕ UU ℕ)} :
    Ctx m K ⊢ iprop(recvPay m (0, 0) c -∗ wVal m c 0 2 -∗ Ex0 (3, 0) c -∗ owesE c (.xf (3, 0) :: l)
      -∗ (∀ v, recvPay m (0, 0) c -∗ Ex1 (3, 0) c -∗ owesE c l -∗ Q v)
      -∗ WP c (At (k0_part26 (F := F)) c v2) Q) := by
  unfold At
  rw [k0_part26_eq_skeleton]
  unfold k0_part26_skel
  simp only [Prog.lift, Prog.bind_op, Prog.bind_ret, Prog.pure_eq_ret]
  iintro #HC HR HW HY HO Hk
  iapply (mk_comb m 0 2 (.inl ⟨rfl, rfl⟩) 0 2 (by decide) sl02 (fun _ _ => rfl)) $$ HR HW
  iintro HR HW
  iapply (send2v m 3 2 0 (.inr ⟨rfl, rfl, rfl⟩) 0 l (dev_of (dev11_eq c)) sl02 run00 (ss3 at0) (sr3 at0)) $$ HC HY HW HO
  iintro HY HO
  iapply wp_done
  iapply Hk $$ HR HY HO

theorem part27 (v : BitVec 32) (l : List Debt) (hl : ∀ d ∈ l, 2 + (stage (0 : Fin 5)).val < d.lev) {Q : BitVec 32 → sProp (MT nD τ sig Unit (Elt F) ℕ UU ℕ)} :
    Ctx m K ⊢ iprop(Ex1 (0, 2) c -∗ wVal m c 2 3 -∗ owesE c l
      -∗ (∀ v, Ex3 (0, 2) c -∗ sendPay m (0, 2) c -∗ recvPay m (0, 2) c -∗ w1Val m c 2 3 -∗ owesE c l -∗ Q v)
      -∗ WP c (At (k0_part27 (F := F)) v2 v) Q) := by
  unfold At
  rw [k0_part27_eq_skeleton]
  unfold k0_part27_skel
  simp only [Prog.lift, Prog.bind_op, Prog.bind_ret, Prog.pure_eq_ret]
  iintro #HC HX HW HO Hk
  iapply (wait_send m (0, 2) l (fun d _ => lev_pos d) (ss0 at2) amt_a') $$ HC HX HO
  iintro HX HS HO
  iapply (wait_recv m (0, 2) _ hl (sr0 at2) amt_a.symm) $$ HC HX HO
  iintro HX HR HO
  iapply (mk_comb m 0 2 (.inl ⟨rfl, rfl⟩) 2 3 (by decide) sl23 (fun _ _ => rfl)) $$ HR HW
  iintro HR HW
  iapply wp_done
  iapply Hk $$ HX HS HR HW HO

theorem part28 (v : BitVec 32) (l : List Debt) {Q : BitVec 32 → sProp (MT nD τ sig Unit (Elt F) ℕ UU ℕ)} :
    Ctx m K ⊢ iprop(recvPay m (0, 2) c -∗ w1Val m c 2 3 -∗ wVal m c 2 2 -∗ Ex0 (2, 2) c -∗ owesE c (.xf (2, 2) :: l)
      -∗ (∀ v, recvPay m (0, 2) c -∗ w1Val m c 2 2 -∗ Ex1 (2, 2) c -∗ owesE c l -∗ Q v)
      -∗ WP c (At (k0_part28 (F := F)) c v2 v) Q) := by
  unfold At
  rw [k0_part28_eq_skeleton]
  unfold k0_part28_skel
  simp only [Prog.lift, Prog.bind_op, Prog.bind_ret, Prog.pure_eq_ret]
  iintro #HC HR HW HV HY HO Hk
  iapply (send2v m 2 3 1 (.inl ⟨rfl, rfl, rfl⟩) 2 l (dev_of (dev12_eq c)) sl23 run21 (ss2 at2) (sr2 at2)) $$ HC HY HW HO
  iintro HY HO
  iapply (mk_comb m 0 2 (.inl ⟨rfl, rfl⟩) 2 2 (by decide) sl22 (fun _ _ => rfl)) $$ HR HV
  iintro HR HV
  iapply wp_done
  iapply Hk $$ HR HV HY HO

theorem part29 (v : BitVec 32) (l : List Debt) {Q : PUnit → sProp (MT nD τ sig Unit (Elt F) ℕ UU ℕ)} :
    Ctx m K ⊢ iprop(w1Val m c 2 2 -∗ Ex0 (3, 2) c -∗ Ex1 (0, 1) c -∗ owesE c (.xf (3, 2) :: l)
      -∗ (Ex1 (3, 2) c -∗ Ex2 (0, 1) c -∗ sendPay m (0, 1) c -∗ owesE c l -∗ Q ⟨⟩)
      -∗ WP c (At (k0_part29 (F := F)) c v2 v) Q) := by
  unfold At
  rw [k0_part29_eq_skeleton]
  unfold k0_part29_skel
  simp only [Prog.lift, Prog.bind_op, Prog.bind_ret, Prog.pure_eq_ret]
  iintro #HC HW HY HX HO Hk
  iapply (send2v m 3 2 0 (.inr ⟨rfl, rfl, rfl⟩) 2 l (dev_of (dev13_eq c)) sl22 run20 (ss3 at2) (sr3 at2)) $$ HC HY HW HO
  iintro HY HO
  iapply (wait_send m (0, 1) l (fun d _ => lev_pos d) (ss0 at1) amt_a') $$ HC HX HO
  iintro HX HS HO
  iapply wp_done
  iapply Hk $$ HY HX HS HO

theorem part30 (l : List Debt) (hl : ∀ d ∈ Debt.xf (2, 1) :: l, 2 + (stage (0 : Fin 5)).val < d.lev) {Q : PUnit → sProp (MT nD τ sig Unit (Elt F) ℕ UU ℕ)} :
    Ctx m K ⊢ iprop(Ex2 (0, 1) c -∗ wVal m c 1 3 -∗ Ex0 (2, 1) c -∗ owesE c (.xf (2, 1) :: l)
      -∗ (Ex3 (0, 1) c -∗ recvPay m (0, 1) c -∗ Ex1 (2, 1) c -∗ owesE c l -∗ Q ⟨⟩)
      -∗ WP c (At (k0_part30 (F := F)) c v2) Q) := by
  unfold At
  rw [k0_part30_eq_skeleton]
  unfold k0_part30_skel
  simp only [Prog.lift, Prog.bind_op, Prog.bind_ret, Prog.pure_eq_ret]
  iintro #HC HX HW HY HO Hk
  iapply (wait_recv m (0, 1) _ hl (sr0 at1) amt_a.symm) $$ HC HX HO
  iintro HX HR HO
  iapply (mk_comb m 0 2 (.inl ⟨rfl, rfl⟩) 1 3 (by decide) sl13 (fun _ _ => rfl)) $$ HR HW
  iintro HR HW
  iapply (send2v m 2 3 1 (.inl ⟨rfl, rfl, rfl⟩) 1 l (dev_of (dev14_eq c)) sl13 run11 (ss2 at1) (sr2 at1)) $$ HC HY HW HO
  iintro HY HO
  iapply wp_done
  iapply Hk $$ HX HR HY HO

theorem part31 (l : List Debt) {Q : BitVec 32 → sProp (MT nD τ sig Unit (Elt F) ℕ UU ℕ)} :
    Ctx m K ⊢ iprop(recvPay m (0, 1) c -∗ wVal m c 1 2 -∗ Ex0 (3, 1) c -∗ owesE c (.xf (3, 1) :: l)
      -∗ (∀ v, recvPay m (0, 1) c -∗ Ex1 (3, 1) c -∗ owesE c l -∗ Q v)
      -∗ WP c (At (k0_part31 (F := F)) c v2) Q) := by
  unfold At
  rw [k0_part31_eq_skeleton]
  unfold k0_part31_skel
  simp only [Prog.lift, Prog.bind_op, Prog.bind_ret, Prog.pure_eq_ret]
  iintro #HC HR HW HY HO Hk
  iapply (mk_comb m 0 2 (.inl ⟨rfl, rfl⟩) 1 2 (by decide) sl12 (fun _ _ => rfl)) $$ HR HW
  iintro HR HW
  iapply (send2v m 3 2 0 (.inr ⟨rfl, rfl, rfl⟩) 1 l (dev_of (dev15_eq c)) sl12 run10 (ss3 at1) (sr3 at1)) $$ HC HY HW HO
  iintro HY HO
  iapply wp_done
  iapply Hk $$ HR HY HO

theorem part32 (v : BitVec 32) (l : List Debt) (hl : ∀ d ∈ l, 2 + (stage (1 : Fin 5)).val < d.lev) {Q : PUnit → sProp (MT nD τ sig Unit (Elt F) ℕ UU ℕ)} :
    Ctx m K ⊢ iprop(Ex1 (1, 0) c -∗ wVal m c 0 1 -∗ owesE c l
      -∗ (Ex3 (1, 0) c -∗ sendPay m (1, 0) c -∗ recvPay m (1, 0) c -∗ w1Val m c 0 1 -∗ owesE c l -∗ Q ⟨⟩)
      -∗ WP c (At (k0_part32 (F := F)) v) Q) := by
  unfold At
  rw [k0_part32_eq_skeleton]
  unfold k0_part32_skel
  simp only [Prog.lift, Prog.bind_op, Prog.bind_ret, Prog.pure_eq_ret]
  iintro #HC HX HW HO Hk
  iapply (wait_send m (1, 0) l (fun d _ => lev_pos d) (ss1 at0) amt_b') $$ HC HX HO
  iintro HX HS HO
  iapply (wait_recv m (1, 0) _ hl (sr1 at0) amt_b.symm) $$ HC HX HO
  iintro HX HR HO
  iapply (mk_comb m 1 0 (.inr ⟨rfl, rfl⟩) 0 1 (by decide) sl01 (fun _ _ => rfl)) $$ HR HW
  iintro HR HW
  iapply wp_done
  iapply Hk $$ HX HS HR HW HO

theorem part33 (l : List Debt) {Q : PUnit → sProp (MT nD τ sig Unit (Elt F) ℕ UU ℕ)} :
    Ctx m K ⊢ iprop(recvPay m (1, 0) c -∗ wVal m c 0 0 -∗ Ex1 (1, 1) c -∗ owesE c l
      -∗ (recvPay m (1, 0) c -∗ w1Val m c 0 0 -∗ Ex2 (1, 1) c -∗ sendPay m (1, 1) c -∗ owesE c l -∗ Q ⟨⟩)
      -∗ WP c (At (k0_part33 (F := F)) v2) Q) := by
  unfold At
  rw [k0_part33_eq_skeleton]
  unfold k0_part33_skel
  simp only [Prog.lift, Prog.bind_op, Prog.bind_ret, Prog.pure_eq_ret]
  iintro #HC HR HW HX HO Hk
  iapply (mk_comb m 1 0 (.inr ⟨rfl, rfl⟩) 0 0 (by decide) sl00 (fun _ _ => rfl)) $$ HR HW
  iintro HR HW
  iapply (wait_send m (1, 1) l (fun d _ => lev_pos d) (ss1 at1) amt_b') $$ HC HX HO
  iintro HX HS HO
  iapply wp_done
  iapply Hk $$ HR HW HX HS HO

theorem part34 (l : List Debt) (hl : ∀ d ∈ l, 2 + (stage (1 : Fin 5)).val < d.lev) {Q : BitVec 32 → sProp (MT nD τ sig Unit (Elt F) ℕ UU ℕ)} :
    Ctx m K ⊢ iprop(Ex2 (1, 1) c -∗ wVal m c 1 1 -∗ wVal m c 1 0 -∗ owesE c l
      -∗ (∀ v, Ex3 (1, 1) c -∗ recvPay m (1, 1) c -∗ w1Val m c 1 1 -∗ w1Val m c 1 0 -∗ owesE c l -∗ Q v)
      -∗ WP c (At (k0_part34 (F := F)) v2) Q) := by
  unfold At
  rw [k0_part34_eq_skeleton]
  unfold k0_part34_skel
  simp only [Prog.lift, Prog.bind_op, Prog.bind_ret, Prog.pure_eq_ret]
  iintro #HC HX HW HV HO Hk
  iapply (wait_recv m (1, 1) _ hl (sr1 at1) amt_b.symm) $$ HC HX HO
  iintro HX HR HO
  iapply (mk_comb m 1 0 (.inr ⟨rfl, rfl⟩) 1 1 (by decide) sl11 (fun _ _ => rfl)) $$ HR HW
  iintro HR HW
  iapply (mk_comb m 1 0 (.inr ⟨rfl, rfl⟩) 1 0 (by decide) sl10 (fun _ _ => rfl)) $$ HR HV
  iintro HR HV
  iapply wp_done
  iapply Hk $$ HX HR HW HV HO

theorem part35 (v : BitVec 32) (l : List Debt) (hl : ∀ d ∈ l, 2 + (stage (1 : Fin 5)).val < d.lev)
    {Q : (Σ' (_ : FVec F S384x1024 .bf16), Vec F S1x1x384x1024 .bf16) → sProp (MT nD τ sig Unit (Elt F) ℕ UU ℕ)} :
    Ctx m K ⊢ iprop(Ex1 (1, 2) c -∗ wVal m c 2 1 -∗ owesE c l
      -∗ (∀ a b, ⌜k0_pay45 a = W1 m c 2 1⌝ -∗ Ex3 (1, 2) c -∗ sendPay m (1, 2) c -∗ recvPay m (1, 2) c -∗ wVal m c 2 1 -∗ owesE c l -∗ Q ⟨a, b⟩)
      -∗ WP c (At (k0_part35 (F := F)) v) Q) := by
  unfold At
  rw [k0_part35_eq_skeleton]
  unfold k0_part35_skel
  simp only [Prog.lift, Prog.bind_op, Prog.bind_ret, Prog.pure_eq_ret]
  iintro #HC HX HW HO Hk
  iapply (wait_send m (1, 2) l (fun d _ => lev_pos d) (ss1 at2) amt_b') $$ HC HX HO
  iintro HX HS HO
  iapply (wait_recv m (1, 2) _ hl (sr1 at2) amt_b.symm) $$ HC HX HO
  iintro HX HR HO
  iapply (ld_pair1 m 1 0 (.inr ⟨rfl, rfl⟩) 2 1 (by decide) sl21) $$ HR HW
  iintro HR HW
  iapply (skip0 m 2 1 sl21) $$ HW
  iintro %w HW
  iapply wp_done
  iapply Hk $$ [] HX HS HR HW HO
  ipureintro
  rfl

theorem part36 (a : FVec F S384x1024 .bf16) (b : Vec F S1x1x384x1024 .bf16) (ha : k0_pay45 a = W1 m c 2 1) (l : List Debt)
    {Q : PUnit → sProp (MT nD τ sig Unit (Elt F) ℕ UU ℕ)} :
    Ctx m K ⊢ iprop(wVal m c 2 1 -∗ wVal m c 2 0 -∗ recvPay m (1, 2) c -∗ Ex1 (2, 0) c -∗ owesE c l
      -∗ (w1Val m c 2 1 -∗ w1Val m c 2 0 -∗ recvPay m (1, 2) c -∗ Ex2 (2, 0) c -∗ sendPay m (2, 0) c -∗ owesE c l -∗ Q ⟨⟩)
      -∗ WP c (At (k0_part36 (F := F)) v2 a b) Q) := by
  unfold At
  rw [k0_part36_eq_skeleton]
  unfold k0_part36_skel
  simp only [Prog.lift, Prog.bind_op, Prog.bind_ret, Prog.pure_eq_ret]
  iintro #HC HW HV HR HX HO Hk
  iapply (put1 m 2 1 sl21 ha) $$ HW
  iintro HW
  iapply (mk_comb m 1 0 (.inr ⟨rfl, rfl⟩) 2 0 (by decide) sl20 (fun _ _ => rfl)) $$ HR HV
  iintro HR HV
  iapply (wait_send m (2, 0) l (fun d _ => lev_pos d) (ss2 at0) amt_c') $$ HC HX HO
  iintro HX HS HO
  iapply wp_done
  iapply Hk $$ HW HV HR HX HS HO

theorem part37 (l : List Debt) (hl : ∀ d ∈ l, 2 + (stage (2 : Fin 5)).val < d.lev) {Q : PUnit → sProp (MT nD τ sig Unit (Elt F) ℕ UU ℕ)} :
    Ctx m K ⊢ iprop(Ex2 (2, 0) c -∗ w1Val m c 0 1 -∗ owesE c l
      -∗ (Ex3 (2, 0) c -∗ recvPay m (2, 0) c -∗ w2Val m c 0 1 -∗ owesE c l -∗ Q ⟨⟩)
      -∗ WP c (At (k0_part37 (F := F)) v2) Q) := by
  unfold At
  rw [k0_part37_eq_skeleton]
  unfold k0_part37_skel
  simp only [Prog.lift, Prog.bind_op, Prog.bind_ret, Prog.pure_eq_ret]
  iintro #HC HX HW HO Hk
  iapply (wait_recv m (2, 0) _ hl (sr2 at0) amt_c.symm) $$ HC HX HO
  iintro HX HR HO
  iapply (mk_comb2 m 2 1 (.inl ⟨rfl, rfl⟩) 0 1 rfl sl01 (fun _ _ => rfl)) $$ HR HW
  iintro HR HW
  iapply wp_done
  iapply Hk $$ HX HR HW HO

theorem part38 (l : List Debt) (hl : ∀ d ∈ l, 2 + (stage (3 : Fin 5)).val < d.lev)
    {Q : (Σ' (_ : FVec F S384x1024 .f32), Vec F S1x1x384x1024 .bf16) → sProp (MT nD τ sig Unit (Elt F) ℕ UU ℕ)} :
    Ctx m K ⊢ iprop(Ex0 (4, 0) c -∗ w2Val m c 0 1 -∗ Ex1 (3, 0) c -∗ w1Val m c 0 0 -∗ owesE c (.xf (4, 0) :: l)
      -∗ (∀ a b, ⌜k0_pay49 a b = W2 m c 0 0⌝ -∗ Ex1 (4, 0) c -∗ Ex3 (3, 0) c -∗ sendPay m (3, 0) c -∗ recvPay m (3, 0) c -∗ w1Val m c 0 0 -∗ owesE c l -∗ Q ⟨a, b⟩)
      -∗ WP c (At (k0_part38 (F := F)) c v2) Q) := by
  unfold At
  rw [k0_part38_eq_skeleton]
  unfold k0_part38_skel
  simp only [Prog.lift, Prog.bind_op, Prog.bind_ret, Prog.pure_eq_ret]
  iintro #HC HY HW HX HV HO Hk
  iapply (send3v m 0 l (dev_of (dev16_eq c)) run01 run00 (ss4 at0) (sr4 at0)) $$ HC HY HW HO
  iintro HY HO
  iapply (wait_send m (3, 0) l (fun d _ => lev_pos d) (ss3 at0) amt_d') $$ HC HX HO
  iintro HX HS HO
  iapply (wait_recv m (3, 0) _ hl (sr3 at0) amt_d.symm) $$ HC HX HO
  iintro HX HR HO
  iapply (ld_pair2 m 3 0 (.inr ⟨rfl, rfl⟩) 0 0 rfl sl00) $$ HR HV
  iintro HR HV
  iapply wp_done
  iapply Hk $$ [] HY HX HS HR HV HO
  ipureintro
  exact w2_of m 0 0 0 rfl

theorem part39 (a : FVec F S384x1024 .f32) (b : Vec F S1x1x384x1024 .bf16) (ha : k0_pay49 a b = W2 m c 0 0) (l : List Debt)
    (hl : ∀ d ∈ l, 2 + (stage (2 : Fin 5)).val < d.lev) {Q : Vec F S1x1x384x1024 .bf16 → sProp (MT nD τ sig Unit (Elt F) ℕ UU ℕ)} :
    Ctx m K ⊢ iprop(w1Val m c 0 0 -∗ Ex1 (2, 1) c -∗ w1Val m c 1 1 -∗ owesE c l
      -∗ (w2Val m c 0 0 -∗ Ex3 (2, 1) c -∗ sendPay m (2, 1) c -∗ recvPay m (2, 1) c -∗ w1Val m c 1 1 -∗ owesE c l -∗ Q (W1 m c 1 1))
      -∗ WP c (At (k0_part39 (F := F)) v2 a b) Q) := by
  unfold At
  rw [k0_part39_eq_skeleton]
  unfold k0_part39_skel
  simp only [Prog.lift, Prog.bind_op, Prog.bind_ret, Prog.pure_eq_ret]
  iintro #HC HW HX HV HO Hk
  iapply (skip1 m 0 0 sl00) $$ HW
  iintro %w HW
  iapply (put2 m 0 0 sl00 ha) $$ HW
  iintro HW
  iapply (wait_send m (2, 1) l (fun d _ => lev_pos d) (ss2 at1) amt_c') $$ HC HX HO
  iintro HX HS HO
  iapply (wait_recv m (2, 1) _ hl (sr2 at1) amt_c.symm) $$ HC HX HO
  iintro HX HR HO
  unfold w1Val
  iapply (ld_w sl11 ⟨le_rfl, Nat.lt_succ_self _⟩ (W1 m c)) $$ HV
  iintro HV
  iapply wp_done
  iapply Hk $$ HW HX HS HR HV HO

theorem part40 (l : List Debt) {Q : BitVec 32 → sProp (MT nD τ sig Unit (Elt F) ℕ UU ℕ)} :
    Ctx m K ⊢ iprop(recvPay m (2, 1) c -∗ w1Val m c 1 1 -∗ Ex0 (4, 1) c -∗ owesE c (.xf (4, 1) :: l)
      -∗ (∀ v, recvPay m (2, 1) c -∗ Ex1 (4, 1) c -∗ owesE c l -∗ Q v)
      -∗ WP c (At (k0_part40 (F := F)) c v2 (W1 m c 1 1)) Q) := by
  have er : recvPay m (2, 1) c = rb2P c 1 1 1 (stk (RB2 m c)) := rfl
  unfold At
  rw [k0_part40_eq_skeleton, er]
  unfold k0_part40_skel
  simp only [Prog.lift, Prog.bind_op, Prog.bind_ret, Prog.pure_eq_ret]
  iintro #HC HR HW HY HO Hk
  iapply (ld_rb2 (g := 1) (j := 1) (lo := 1) (k := 1) run11 (by decide) (RB2 m c)) $$ HR
  iintro HR
  iapply (skip1 m 1 1 sl11) $$ HW
  iintro %w HW
  iapply (put2 m 1 1 sl11 (w2_of m 1 1 1 rfl)) $$ HW
  iintro HW
  iapply (send3v m 1 l (dev_of (dev17_eq c)) run11 run10 (ss4 at1) (sr4 at1)) $$ HC HY HW HO
  iintro HY HO
  iapply wp_done
  iapply Hk $$ HR HY HO

theorem part41 (v : BitVec 32) (l : List Debt) (hl : ∀ d ∈ l, 2 + (stage (3 : Fin 5)).val < d.lev)
    {Q : (Σ' (_ : BitVec 32), BitVec 32) → sProp (MT nD τ sig Unit (Elt F) ℕ UU ℕ)} :
    Ctx m K ⊢ iprop(Ex1 (3, 1) c -∗ w1Val m c 1 0 -∗ owesE c l
      -∗ (∀ v, Ex3 (3, 1) c -∗ sendPay m (3, 1) c -∗ recvPay m (3, 1) c -∗ w2Val m c 1 0 -∗ owesE c l -∗ Q v)
      -∗ WP c (At (k0_part41 (F := F)) v2 v) Q) := by
  unfold At
  rw [k0_part41_eq_skeleton]
  unfold k0_part41_skel
  simp only [Prog.lift, Prog.bind_op, Prog.bind_ret, Prog.pure_eq_ret]
  iintro #HC HX HW HO Hk
  iapply (wait_send m (3, 1) l (fun d _ => lev_pos d) (ss3 at1) amt_d') $$ HC HX HO
  iintro HX HS HO
  iapply (wait_recv m (3, 1) _ hl (sr3 at1) amt_d.symm) $$ HC HX HO
  iintro HX HR HO
  iapply (mk_comb2 m 3 0 (.inr ⟨rfl, rfl⟩) 1 0 rfl sl10 (fun _ _ => rfl)) $$ HR HW
  iintro HR HW
  iapply wp_done
  iapply Hk $$ HX HS HR HW HO

theorem part42 (v v' : BitVec 32) (l : List Debt) (hl : ∀ d ∈ l, 2 + (stage (2 : Fin 5)).val < d.lev)
    {Q : FVec F S384x1024 .bf16 → sProp (MT nD τ sig Unit (Elt F) ℕ UU ℕ)} :
    Ctx m K ⊢ iprop(Ex1 (2, 2) c -∗ w1Val m c 2 1 -∗ owesE c l
      -∗ (∀ a, ⌜k0_pay53 a = W2 m c 2 1⌝ -∗ Ex3 (2, 2) c -∗ sendPay m (2, 2) c -∗ recvPay m (2, 2) c -∗ w1Val m c 2 1 -∗ owesE c l -∗ Q a)
      -∗ WP c (At (k0_part42 (F := F)) v v') Q) := by
  unfold At
  rw [k0_part42_eq_skeleton]
  unfold k0_part42_skel
  simp only [Prog.lift, Prog.bind_op, Prog.bind_ret, Prog.pure_eq_ret]
  iintro #HC HX HW HO Hk
  iapply (wait_send m (2, 2) l (fun d _ => lev_pos d) (ss2 at2) amt_c') $$ HC HX HO
  iintro HX HS HO
  iapply (wait_recv m (2, 2) _ hl (sr2 at2) amt_c.symm) $$ HC HX HO
  iintro HX HR HO
  iapply (ld_pair2 m 2 1 (.inl ⟨rfl, rfl⟩) 2 1 rfl sl21) $$ HR HW
  iintro HR HW
  iapply wp_done
  iapply Hk $$ [] HX HS HR HW HO
  ipureintro
  exact w2_of m 2 1 1 rfl

theorem part43 (a : FVec F S384x1024 .bf16) (ha : k0_pay53 a = W2 m c 2 1) (l : List Debt) {Q : BitVec 32 → sProp (MT nD τ sig Unit (Elt F) ℕ UU ℕ)} :
    Ctx m K ⊢ iprop(w1Val m c 2 1 -∗ Ex0 (4, 2) c -∗ Ex1 (3, 2) c -∗ owesE c (.xf (4, 2) :: l)
      -∗ (∀ v, Ex1 (4, 2) c -∗ Ex2 (3, 2) c -∗ sendPay m (3, 2) c -∗ owesE c l -∗ Q v)
      -∗ WP c (At (k0_part43 (F := F)) c v2 a) Q) := by
  unfold At
  rw [k0_part43_eq_skeleton]
  unfold k0_part43_skel
  simp only [Prog.lift, Prog.bind_op, Prog.bind_ret, Prog.pure_eq_ret]
  iintro #HC HW HY HX HO Hk
  iapply (skip1 m 2 1 sl21) $$ HW
  iintro %w HW
  iapply (put2 m 2 1 sl21 ha) $$ HW
  iintro HW
  iapply (send3v m 2 l (dev_of (dev18_eq c)) run21 run20 (ss4 at2) (sr4 at2)) $$ HC HY HW HO
  iintro HY HO
  iapply (wait_send m (3, 2) l (fun d _ => lev_pos d) (ss3 at2) amt_d') $$ HC HX HO
  iintro HX HS HO
  iapply wp_done
  iapply Hk $$ HY HX HS HO

theorem part44 (v : BitVec 32) (l : List Debt) (hl : ∀ d ∈ l, 2 + (stage (3 : Fin 5)).val < d.lev) {Q : BitVec 32 → sProp (MT nD τ sig Unit (Elt F) ℕ UU ℕ)} :
    Ctx m K ⊢ iprop(Ex2 (3, 2) c -∗ w1Val m c 2 0 -∗ owesE c l
      -∗ (∀ v, Ex3 (3, 2) c -∗ recvPay m (3, 2) c -∗ w2Val m c 2 0 -∗ owesE c l -∗ Q v)
      -∗ WP c (At (k0_part44 (F := F)) v2 v) Q) := by
  unfold At
  rw [k0_part44_eq_skeleton]
  unfold k0_part44_skel
  simp only [Prog.lift, Prog.bind_op, Prog.bind_ret, Prog.pure_eq_ret]
  iintro #HC HX HW HO Hk
  iapply (wait_recv m (3, 2) _ hl (sr3 at2) amt_d.symm) $$ HC HX HO
  iintro HX HR HO
  iapply (mk_comb2 m 3 0 (.inr ⟨rfl, rfl⟩) 2 0 rfl sl20 (fun _ _ => rfl)) $$ HR HW
  iintro HR HW
  iapply wp_done
  iapply Hk $$ HX HR HW HO

end Parts

end Cert.RS
-- ==== Proof.RS.Out.lean ====
/-
The results: each column block's final sum is staged in one of two buffers and copied out from there. What the
staging buffers and the result array hold, and the pieces of the program that write them.
-/
module

public import proofs.«01_k».proof.Proof.RS.Tail

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable (m : (ℓ : Loc nD τ sig) → Buf (Elt F) ℓ)

/-- The result array of device `c`: column block `g` is its third sum. -/
def Oout (c : Dev nD) : (Mat 384 3072).Idx → Elt F .f32 := fun i =>
  W3 m c ⟨(i 1).val / 1024, by have h : (i 1).val < 3072 := (i 1).isLt; omega⟩
    (ix3 (n0 := 1) (n1 := 384) (n2 := 1024) 0 (i 0) ⟨(i 1).val % 1024, Nat.mod_lt _ (by omega)⟩)
/-- A staging buffer holding `u` in either half. -/
def ost (u : Vec F S1x384x1024 .f32) : (Two 384 1024).Idx → Elt F .f32 := fun i => u (ix3 (n0 := 1) (n1 := 384) (n2 := 1024) 0 (i 1) (i 2))

def obP (c : Dev nD) (g : Fin 3) (f : (Two 384 1024).Idx → Elt F .f32) : sProp 𝕄 :=
  ((c : Thread nD τ).loc cc0_scratch9) ↦[plane 384 1024 (g.val % 2)]{fullShare} f
def outP (c : Dev nD) (g : Fin 3) (f : (Mat 384 3072).Idx → Elt F .f32) : sProp 𝕄 :=
  ((c : Thread nD τ).loc main_v1) ↦[box 384 3072 0 384 (1024 * g.val) 1024]{fullShare} f
def obAny (c : Dev nD) (g : Fin 3) : sProp 𝕄 := iprop(∃ f, obP (F := F) c g f)
def obVal (c : Dev nD) (g : Fin 3) : sProp 𝕄 := obP c g (ost (W3 m c g))
def outAny (c : Dev nD) (g : Fin 3) : sProp 𝕄 := iprop(∃ f, outP (F := F) c g f)
def outVal (c : Dev nD) (g : Fin 3) : sProp 𝕄 := outP c g (Oout m c)
def semO (c : Dev nD) (g : Fin 3) : sProp 𝕄 := semVal ((c : Thread nD τ), .dma (locS 2 g.val)) 0
def amtO : ℕ := main_v1.dmaCredit S384x1024 .f32
theorem amtO_eq : amtO = main_v1.dmaCredit S384x1024 .f32 := by unfold amtO; rfl
theorem amtO_pos : 0 < amtO := by decide +kernel
def FlightO (c : Dev nD) (g : Fin 3) : sProp 𝕄 :=
  Flight (EC (F := F)) (c : Thread nD τ) (.dma (locS 2 g.val)) () amtO iprop(outVal m c g ∗ obVal m c g)

theorem obVal_any (c : Dev nD) (g : Fin 3) : obVal m c g ⊢ obAny (F := F) c g := by
  unfold obVal obAny
  iintro H
  iexists _; iexact H

theorem semOut_eq {t : ℕ} {off : Fin 1 → ℕ} (ho : off = ![t % 2]) {inb} :
    ((cc0_scratch12.slice (Rect.unit (s := S2) off S1.size inb)).squeeze S_ squeezes_S1_S_).sem = locS 2 t := by
  rcases Nat.mod_two_eq_zero_or_one t with h | h <;> rw [h] at ho <;> subst ho <;>
    exact Fin.ext (by rw [show (locS 2 t).val = 2 * 2 + t % 2 from rfl, h]; revert inb; decide)

theorem ost_read (u : Vec F S1x384x1024 .f32) {s : ℕ} {off : Fin 3 → ℕ} (ho : off = ![s, 0, 0]) (inb : ∀ a, off a + (![1, 384, 1024] : Fin 3 → ℕ) a ≤ (Two 384 1024).size a)
    (x : S1x384x1024.Idx) : ost u ((Rect.unit (s := Two 384 1024) off ![1, 384, 1024] inb).emb x) = u x := by
  obtain ⟨a1, a2⟩ := emb_plane ho inb x
  unfold ost
  refine congrArg u ?_
  have h0 : x 0 = (0 : Fin 1) := Subsingleton.elim (α := Fin 1) _ _
  rw [eq_ix3 (n0 := 1) (n1 := 384) (n2 := 1024) x, h0]
  exact congrArg₂ (ix3 (n0 := 1) (n1 := 384) (n2 := 1024) 0) (Fin.ext a1) (Fin.ext a2)

theorem out_read (c : Dev nD) (g : Fin 3) {s : ℕ} {off : Fin 3 → ℕ} (ho : off = ![s, 0, 0])
    (inb : ∀ a, off a + (![1, 384, 1024] : Fin 3 → ℕ) a ≤ (Two 384 1024).size a) {off' : Fin 2 → ℕ} (ho' : off' = ![0, 1024 * g.val])
    (inb' : ∀ a, off' a + (![384, 1024] : Fin 2 → ℕ) a ≤ (Mat 384 3072).size a)
    (hq : (Mat 384 1024).numel = (⟨3, ![1, 384, 1024]⟩ : Shape).numel) (x : (Mat 384 1024).Idx) :
    Oout m c ((Rect.unit (s := Mat 384 3072) off' ![384, 1024] inb').emb x)
      = ost (W3 m c g) ((Rect.unit (s := Two 384 1024) off ![1, 384, 1024] inb).emb (Shape.reshapeEquiv hq x)) := by
  obtain ⟨a1, a2⟩ := emb_flat ho inb hq x
  obtain ⟨b0, b1⟩ := emb_box ho' inb' x
  have hx : (x 1).val < 1024 := (x 1).isLt
  unfold Oout ost
  have hg : (⟨((Rect.unit (s := Mat 384 3072) off' ![384, 1024] inb').emb x 1).val / 1024, by
      have h : ((Rect.unit (s := Mat 384 3072) off' ![384, 1024] inb').emb x 1).val < 3072 := ((Rect.unit (s := Mat 384 3072) off' ![384, 1024] inb').emb x 1).isLt
      omega⟩ : Fin 3) = g := Fin.ext (by
    show ((Rect.unit (s := Mat 384 3072) off' ![384, 1024] inb').emb x 1).val / 1024 = _
    rw [b1]; omega)
  rw [hg]
  refine congrArg (W3 m c g) (congrArg₂ (ix3 (n0 := 1) (n1 := 384) (n2 := 1024) 0) (Fin.ext ?_) (Fin.ext ?_))
  · rw [b0, Nat.zero_add]; exact a1.symm
  · show ((Rect.unit (s := Mat 384 3072) off' ![384, 1024] inb').emb x 1).val % 1024 = _
    rw [b1]
    refine Eq.trans ?_ a2.symm
    omega

section Rules
variable {c : Dev nD} {K : Dev nD × Fin 32 → ℕ} {α : Type} {Q : α → sProp (MT nD τ sig Unit (Elt F) ℕ UU ℕ)}
  {off : Fin 2 → ℕ} {off3 : Fin 3 → ℕ} {k : PUnit → Prog (TpuEff nD τ sig (Elt F) Λ₀ .tc) α} {sm : DmaSem sig} (g : Fin 3)

theorem ld_ob (ho : off3 = ![g.val % 2, 0, 0]) {f : (Two 384 1024).Idx → Elt F .f32} {inb hl} {kk : Vec F S1x384x1024 .f32 → Prog (TpuEff nD τ sig (Elt F) Λ₀ .tc) α} :
    obP c g f ⊢ iprop((∀ v, obP c g f -∗ WP c (kk v) Q)
      -∗ WP c (.op (.load (Memref.whole cc0_scratch9) (Rect.unit (s := S2x384x1024) off3 S1x384x1024.size inb).toLoadRect hl) kk) Q) := by
  have h := (wp_load_rect (defs := defs₀ (F := F)) (Γ := .empty) 𝒱₀ (c : Thread nD τ) none Set.univ (m := Memref.whole cc0_scratch9)
    (r := Rect.unit (s := S2x384x1024) off3 S1x384x1024.size inb) (hl := hl) (k := kk) (Q := Q) (S := plane 384 1024 (g.val % 2)) (q := fullShare)
    (f := f) (by
      show ((View.whole cc0_scratch9).slice _).set ⊆ _
      rw [View.set_slice_whole]; exact (rect_plane ho inb).le))
  exact h.trans (wand_mono_left (forall_elim _))

theorem st_ob (ho : off3 = ![g.val % 2, 0, 0]) {f : (Two 384 1024).Idx → Elt F .f32} (u : Vec F S1x384x1024 .f32) {inb hx hm} :
    obP c g f ⊢ iprop((obP c g (ost u) -∗ WP c (k ⟨⟩) Q)
      -∗ WP c (.op (.store (Memref.whole cc0_scratch9) (Rect.unit (s := S2x384x1024) off3 S1x384x1024.size inb) u Finset.univ hx hm) k) Q) := by
  have h := wp_store (defs := defs₀ (F := F)) (Γ := .empty) 𝒱₀ (c : Thread nD τ) none Set.univ (m := Memref.whole cc0_scratch9)
    (r := Rect.unit (s := S2x384x1024) off3 S1x384x1024.size inb) (w := u) (Mk := Finset.univ) (hx := hx) (hm := hm) (k := k) (Q := Q)
    (S := plane 384 1024 (g.val % 2)) (f := f) (by
      rw [View.setOn_univ]
      show ((View.whole cc0_scratch9).slice _).set ⊆ _
      rw [View.set_slice_whole]; exact (rect_plane ho inb).le)
  refine h.trans (wand_mono_left (wand_mono_left (Entails.of_eq ?_)))
  refine (pointsTo_congr fun i hi => write_on ((View.whole cc0_scratch9).slice (Rect.unit (s := S2x384x1024) off3 S1x384x1024.size inb))
    f (ost u) u (funext fun x => ost_read u ho inb x) i ?_).symm
  rw [View.set_slice_whole]; exact (rect_plane ho inb).ge hi

/-- Putting the sum in its staging buffer, over whatever it held (which is read first). -/
theorem put_ob (ho : off3 = ![g.val % 2, 0, 0]) {u : Vec F S1x384x1024 .f32} (hu : u = W3 m c g) {inb hl inb' hx hm} :
    obAny (F := F) c g ⊢ iprop((obVal m c g -∗ WP c (k ⟨⟩) Q)
      -∗ WP c (.op (.load (Memref.whole cc0_scratch9) (Rect.unit (s := S2x384x1024) off3 S1x384x1024.size inb).toLoadRect hl) fun _ =>
          .op (.store (Memref.whole cc0_scratch9) (Rect.unit (s := S2x384x1024) off3 S1x384x1024.size inb') u Finset.univ hx hm) k) Q) := by
  subst hu
  unfold obAny obVal
  iintro ⟨%f, HS⟩ Hk
  iapply (ld_ob g ho) $$ HS
  iintro %w HS
  iapply (st_ob g ho (W3 m c g)) $$ HS
  iexact Hk

theorem startO (ho' : off3 = ![g.val % 2, 0, 0]) (ho : off = ![0, 1024 * g.val]) (hs : sm = locS 2 g.val)
    {inb inb' hst hst' sq hsrc hdst hsem} :
    obVal m c g ⊢ iprop(outAny (F := F) c g -∗ semO (F := F) c g -∗ (FlightO m c g -∗ WP c (k ⟨⟩) Q)
      -∗ WP c (.op (.enqueueDma (((Memref.whole cc0_scratch9).slice (Rect.unit (s := S2x384x1024) off3 S1x384x1024.size inb') hst').squeeze S384x1024 sq)
          (.here ((Memref.whole main_v1).slice (Rect.unit (s := S384x3072) off S384x1024.size inb) hst))
          (.dma sm) hsrc hdst hsem) k) Q) := by
  subst hs
  have hset := run1_set (b := cc0_scratch9) (r := Rect.unit (s := S2x384x1024) off3 S1x384x1024.size inb') sq.numel_eq
  rw [rect_plane (n := 384) (C := 1024) ho'] at hset
  have hwin : ((View.whole main_v1).slice (Rect.unit (s := S384x3072) off S384x1024.size inb)).set = box 384 3072 0 384 (1024 * g.val) 1024 := by
    rw [View.set_slice_whole]; exact rect_box ho inb
  have hv : ((Memref.whole main_v1).slice (Rect.unit (s := S384x3072) off S384x1024.size inb) hst).view.read (Elt F) (Oout m c)
      = (((Memref.whole cc0_scratch9).slice (Rect.unit (s := S2x384x1024) off3 S1x384x1024.size inb') hst').squeeze S384x1024 sq).view.read (Elt F) (ost (W3 m c g)) :=
    funext fun x => out_read m c g ho' inb' ho inb sq.numel_eq x
  unfold FlightO
  iintro Hst Hdst Hv Hk
  have h := local_core (F := F) (c := c) (k := k) (Q := Q) (hsrc := hsrc) (hdst := hdst) (hsem := hsem) (P := obVal m c g) (D := outVal m c g) (E := outAny (F := F) c g)
    fullShare (ost (W3 m c g)) amtO amtO_eq.symm amtO_pos (by unfold obVal obP; rw [← hset])
    (by unfold outAny outP; rw [← hwin]; exact BI.Entails.refl _)
    (fun fd => by
      have hw := write_on _ fd _ _ hv
      unfold outVal outP; rw [← hwin]
      exact Entails.of_eq (pointsTo_congr fun i hi => (hw i hi).symm))
  iapply h $$ [Hv Hst Hdst]
  · isplitl [Hst]; · iexact Hst
    isplitl [Hdst]; · iexact Hdst
    unfold semO
    iexact Hv
  iexact Hk

theorem waitO (l : List Debt) (hs : sm = locS 2 g.val) {sp sp' : Space} {s s' : Shape} {e e' : EltTy}
    {u : Memref sig .tc sp s e} {d : Memref sig .tc sp' s' e'} {hu hd} (hN : d.view.dmaCredit = amtO) :
    Ctx m K ⊢ iprop(FlightO m c g -∗ owesE c l -∗ (outVal m c g -∗ obVal m c g -∗ semO (F := F) c g -∗ owesE c l -∗ WP c (k ⟨⟩) Q)
      -∗ WP c (.op (.waitDma2 sm u d hu hd) k) Q) := by
  subst hs
  unfold FlightO owesE
  iintro #HC HF ⟨%W, HO⟩ Hk
  ihave #Hlev := (Ctx_lev m K) $$ HC
  iapply (wp_waitLocalO EC 𝒱₀ (c : Thread nD τ) none (defs := defs₀ (F := F)) (srcw := u) (dstw := d) (hsrc := hu) (hdst := hd) () hN
    (O := debts c l) (W := W)) $$ [HF HO]
  · isplitl [HF]; · iexact HF
    isplitl [HO]; · iexact HO
    iapply (mayWait_debts c _ 0 (lv_local _ (locS_lt 2 g.val) c) l (fun d _ => lev_pos d)); iexact Hlev
  iintro ⟨⟨Ho, Hb⟩, Hv, HO⟩
  iapply Hk $$ Ho Hb [Hv] [HO]
  · unfold semO; iexact Hv
  · iexists _; iexact HO

/-- Reading the second sum and the half a third-stage neighbour sent. -/
theorem ld_pair3 {off off' : Fin 4 → ℕ} (ho : off = ![g.val, (0 : Fin 4).val, 0, 0]) (ho' : off' = ![g.val, (0 : Fin 1).val, 0, 0])
    {kk : Slot F → Slot F → Prog (TpuEff nD τ sig (Elt F) Λ₀ .tc) α} {inb hl inb' hl'} :
    recvPay m (4, g) c ⊢ iprop(w2Val m c g 0 -∗ (recvPay m (4, g) c -∗ w2Val m c g 0 -∗ WP c (kk (W2 m c g 0) (RB3 m c g 0)) Q)
      -∗ WP c (.op (.load (Memref.whole cc0_scratch6) (Rect.unit (s := S3x4x384x1024) off S1x1x384x1024.size inb).toLoadRect hl) fun v =>
          .op (.load (Memref.whole cc0_scratch8) (Rect.unit (s := S3x1x384x1024) off' S1x1x384x1024.size inb').toLoadRect hl') fun w => kk v w) Q) := by
  have er : recvPay m (4, g) c = rb3P c g 0 1 (stk (RB3 m c)) := rfl
  rw [er]
  unfold w2Val
  iintro HR HW Hk
  iapply (ld_w ho ⟨le_rfl, Nat.lt_succ_self _⟩ (W2 m c)) $$ HW
  iintro HW
  iapply (ld_rb3 (j := 0) (lo := 0) (k := 1) ho' (by decide) (RB3 m c)) $$ HR
  iintro HR
  iapply Hk $$ HR HW

end Rules

section Parts
variable {c : Dev nD} {K : Dev nD × Fin 32 → ℕ} (v2 : BitVec 32)

theorem part45 (v : BitVec 32) (l : List Debt) (hl : ∀ d ∈ l, 2 + (stage (4 : Fin 5)).val < d.lev) {Q : PUnit → sProp (MT nD τ sig Unit (Elt F) ℕ UU ℕ)} :
    Ctx m K ⊢ iprop(Ex1 (4, 0) c -∗ w2Val m c 0 0 -∗ obAny (F := F) c 0 -∗ owesE c l
      -∗ (Ex3 (4, 0) c -∗ sendPay m (4, 0) c -∗ recvPay m (4, 0) c -∗ w2Val m c 0 0 -∗ obVal m c 0 -∗ owesE c l -∗ Q ⟨⟩)
      -∗ WP c (At (k0_part45 (F := F)) v) Q) := by
  unfold At
  rw [k0_part45_eq_skeleton]
  unfold k0_part45_skel
  simp only [Prog.lift, Prog.bind_op, Prog.bind_ret, Prog.pure_eq_ret]
  iintro #HC HX HW HB HO Hk
  iapply (wait_send m (4, 0) l (fun d _ => lev_pos d) (ss4 at0) amt_e') $$ HC HX HO
  iintro HX HS HO
  iapply (wait_recv m (4, 0) _ hl (sr4 at0) amt_e.symm) $$ HC HX HO
  iintro HX HR HO
  iapply (ld_pair3 m 0 sl00 (one_at 0 rfl)) $$ HR HW
  iintro HR HW
  iapply (put_ob m 0 rfl rfl) $$ HB
  iintro HB
  iapply wp_done
  iapply Hk $$ HX HS HR HW HB HO

theorem part46 (l : List Debt) (hl : ∀ d ∈ l, 2 + (stage (4 : Fin 5)).val < d.lev)
    {Q : (Σ' (_ : FVec F S384x1024 .f32), Vec F S1x1x384x1024 .bf16) → sProp (MT nD τ sig Unit (Elt F) ℕ UU ℕ)} :
    Ctx m K ⊢ iprop(obVal m c 0 -∗ outAny (F := F) c 0 -∗ semO (F := F) c 0 -∗ Ex1 (4, 1) c -∗ w2Val m c 1 0 -∗ owesE c l
      -∗ (∀ a b, ⌜k0_pay57 a b = W3 m c 1⌝ -∗ FlightO m c 0 -∗ Ex3 (4, 1) c -∗ sendPay m (4, 1) c -∗ recvPay m (4, 1) c -∗ w2Val m c 1 0 -∗ owesE c l -∗ Q ⟨a, b⟩)
      -∗ WP c (At (k0_part46 (F := F)) v2) Q) := by
  unfold At
  rw [k0_part46_eq_skeleton]
  unfold k0_part46_skel
  simp only [Prog.lift, Prog.bind_op, Prog.bind_ret, Prog.pure_eq_ret]
  iintro #HC HB HD HV HX HW HO Hk
  iapply (startO m 0 rfl rfl (semOut_eq rfl)) $$ HB HD HV
  iintro HF
  iapply (wait_send m (4, 1) l (fun d _ => lev_pos d) (ss4 at1) amt_e') $$ HC HX HO
  iintro HX HS HO
  iapply (wait_recv m (4, 1) _ hl (sr4 at1) amt_e.symm) $$ HC HX HO
  iintro HX HR HO
  iapply (ld_pair3 m 1 sl10 (one_at 1 rfl)) $$ HR HW
  iintro HR HW
  iapply wp_done
  iapply Hk $$ [] HF HX HS HR HW HO
  ipureintro
  rfl

theorem part47 (a : FVec F S384x1024 .f32) (b : Vec F S1x1x384x1024 .bf16) (ha : k0_pay57 a b = W3 m c 1) (l : List Debt)
    {Q : PUnit → sProp (MT nD τ sig Unit (Elt F) ℕ UU ℕ)} :
    Ctx m K ⊢ iprop(obAny (F := F) c 1 -∗ outAny (F := F) c 1 -∗ semO (F := F) c 1 -∗ Ex1 (4, 2) c -∗ owesE c l
      -∗ (FlightO m c 1 -∗ Ex2 (4, 2) c -∗ sendPay m (4, 2) c -∗ owesE c l -∗ Q ⟨⟩)
      -∗ WP c (At (k0_part47 (F := F)) v2 a b) Q) := by
  unfold At
  rw [k0_part47_eq_skeleton]
  unfold k0_part47_skel
  simp only [Prog.lift, Prog.bind_op, Prog.bind_ret, Prog.pure_eq_ret]
  iintro #HC HB HD HV HX HO Hk
  iapply (put_ob m 1 rfl ha) $$ HB
  iintro HB
  iapply (startO m 1 rfl rfl (semOut_eq rfl)) $$ HB HD HV
  iintro HF
  iapply (wait_send m (4, 2) l (fun d _ => lev_pos d) (ss4 at2) amt_e') $$ HC HX HO
  iintro HX HS HO
  iapply wp_done
  iapply Hk $$ HF HX HS HO

theorem part48 (l : List Debt) (hl : ∀ d ∈ l, 2 + (stage (4 : Fin 5)).val < d.lev) {Q : PUnit → sProp (MT nD τ sig Unit (Elt F) ℕ UU ℕ)} :
    Ctx m K ⊢ iprop(Ex2 (4, 2) c -∗ FlightO m c 0 -∗ w2Val m c 2 0 -∗ outAny (F := F) c 2 -∗ owesE c l
      -∗ (Ex3 (4, 2) c -∗ recvPay m (4, 2) c -∗ outVal m c 0 -∗ w2Val m c 2 0 -∗ FlightO m c 2 -∗ owesE c l -∗ Q ⟨⟩)
      -∗ WP c (At (k0_part48 (F := F))) Q) := by
  have e0 : obAny (F := F) c 2 = obAny c 0 := rfl
  have e1 : semO (F := F) c 0 ⊢ semO c 2 := .rfl
  unfold At
  rw [k0_part48_eq_skeleton]
  unfold k0_part48_skel
  simp only [Prog.lift, Prog.bind_op, Prog.bind_ret, Prog.pure_eq_ret]
  iintro #HC HX HF HW HD HO Hk
  iapply (wait_recv m (4, 2) _ hl (sr4 at2) amt_e.symm) $$ HC HX HO
  iintro HX HR HO
  iapply (waitO m 0 l (semOut_eq rfl) amtO_eq.symm) $$ HC HF HO
  iintro Hout HB HV HO
  iapply (ld_pair3 m 2 sl20 (one_at 2 rfl)) $$ HR HW
  iintro HR HW
  ihave HB := ((obVal_any m c 0).trans (Entails.of_eq e0.symm)) $$ HB
  iapply (put_ob m 2 rfl rfl) $$ HB
  iintro HB
  ihave HV := e1 $$ HV
  iapply (startO m 2 rfl rfl (semOut_eq rfl)) $$ HB HD HV
  iintro HF
  iapply wp_done
  iapply Hk $$ HX HR Hout HW HF HO

end Parts

end Cert.RS
-- ==== Proof.RS.Start.lean ====
/-
  The parts of the kernel up to the end of its two loops.
-/
module

public import proofs.«01_k».proof.Proof.RS.Out

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

section Start
variable {c : Dev nD} {K : Dev nD × Fin 32 → ℕ}

theorem dev_id {α : Type} {k : Dev nD → Prog (TpuEff nD τ sig (Elt F) Λ₀ .tc) α} {Q : α → sProp (MT nD τ sig Unit (Elt F) ℕ UU ℕ)} :
    WP c (k c) Q ⊢ WP c (.op .deviceId k) Q := by
  unfold WP
  rw [wp_deviceId]

/-- The first part: the signals to the three neighbours, and the wait for theirs. -/
theorem part20 {Q : (Σ' (_ : Dev nD), BitVec 32) → sProp (MT nD τ sig Unit (Elt F) ℕ UU ℕ)} :
    Ctx m K ⊢ iprop(dutyTok ER (barCell (ax 0 c)) 0 0 -∗ dutyTok ER (barCell (ax 1 c)) 0 1 -∗ dutyTok ER (barCell (ax 2 c)) 0 2
      -∗ giveBar c 0 -∗ giveBar c 1 -∗ giveBar c 2 -∗ cred (tallyAt (barCell c) () 3) -∗ atPos ER (barCell c) 0 ∅ 0 -∗ owesE c allDebts
      -∗ (∀ v, atPos ER (barCell c) 1 ∅ 0 -∗ (barPay c 0 ∗ barPay c 1 ∗ barPay c 2) -∗ owesE c (dl 0) -∗ Q ⟨c, v⟩)
      -∗ WP c (At (k0_part20 (F := F))) Q) := by
  unfold At
  rw [k0_part20_eq_skeleton]
  unfold k0_part20_skel semSignalWord semWaitWord
  simp only [Prog.lift, Prog.bind_op, Prog.bind_ret, Prog.pure_eq_ret]
  iintro #HC HT HT' HT2 HG HG' HG2 Hcr Hat HO Hk
  iapply dev_id
  ihave HO := (show (owesE c allDebts : sProp (MT nD τ sig Unit (Elt F) ℕ UU ℕ)) ⊢ owesE c (.bar 0 :: .bar 1 :: .bar 2 :: dl 0) from .rfl) $$ HO
  iapply (sig_bar m 0 (.bar 1 :: .bar 2 :: dl 0) (dev1_eq c)) $$ HC HT HG HO
  iintro HO
  iapply (sig_bar m 1 (.bar 2 :: dl 0) (dev2_eq c)) $$ HC HT' HG' HO
  iintro HO
  iapply (sig_bar m 2 (dl 0) (dev3_eq c)) $$ HC HT2 HG2 HO
  iintro HO
  iapply (wait_bar m (dl 0) (by decide)) $$ HC Hcr Hat HO
  iintro Hat HP HO
  iapply wp_done
  iapply Hk $$ Hat HP HO

theorem part21 (v2 : BitVec 32)
    {Q : (Σ' (_ : BitVec 32) (_ : BitVec 32) (_ : BitVec 32) (_ : BitVec 32), BitVec 32) → sProp (MT nD τ sig Unit (Elt F) ℕ UU ℕ)} :
    FreeB m c 0 ⊢ iprop(FreeB m c 1
      -∗ (∀ v, FlightB m c 0 -∗ FlightB m c 1 -∗ Q v)
      -∗ WP c (At (k0_part21 (F := F)) v2) Q) := by
  unfold At
  rw [k0_part21_eq_skeleton]
  unfold k0_part21_skel
  simp only [Prog.lift, Prog.bind_op, Prog.bind_ret, Prog.pure_eq_ret]
  iintro HB HB' Hk
  iapply (startB m (t := 0) rfl rfl rfl) $$ HB
  iintro HB
  iapply (startB m (t := 1) rfl rfl rfl) $$ HB'
  iintro HB'
  iapply wp_done
  iapply Hk $$ HB HB'

theorem part22 (v v' v3 v4 v5 : BitVec 32)
    {Q : (Σ' (_ : BitVec 32) (_ : BitVec 32) (_ : BitVec 32) (_ : BitVec 32) (_ : BitVec 32), BitVec 32) → sProp (MT nD τ sig Unit (Elt F) ℕ UU ℕ)} :
    FreeA m c 0 ⊢ iprop((∀ v, FlightA m c 0 -∗ Q v)
      -∗ WP c (At (k0_part22 (F := F)) c v v' v3 v4 v5) Q) := by
  unfold At
  rw [k0_part22_eq_skeleton]
  unfold k0_part22_skel
  simp only [Prog.lift, Prog.bind_op, Prog.bind_ret, Prog.pure_eq_ret]
  iintro HA Hk
  iapply (startA m (t := 0) (show k0_off4 c 0#32 = ![rowA c 0, 0] from off4_eq c 0) rfl rfl) $$ HA
  iintro HA
  iapply wp_done
  iapply Hk $$ HA

theorem part23 (v2 v v' v3 v4 v5 v6 : BitVec 32) {Q : PUnit → sProp (MT nD τ sig Unit (Elt F) ℕ UU ℕ)} :
    Q ⟨⟩ ⊢ WP c (At (k0_part23 (F := F)) v2 v v' v3 v4 v5 v6) Q := by
  unfold At
  rw [k0_part23_eq_skeleton]
  unfold k0_part23_skel
  simp only [Prog.lift, Prog.bind_op, Prog.bind_ret, Prog.pure_eq_ret]
  exact wp_done

/-- The two loops as instances of the generated classes. -/
@[instance_reducible] def loopB (c : Dev nD) (K : Dev nD × Fin 32 → ℕ) (v2 : BitVec 32) :
    At (Gen.LoopInvTy_k0_t1 (F := F) Unit ℕ UU ℕ 𝒱₀ c none Set.univ) c v2 :=
  ⟨fun t _ => invB m c K (dl 0) t, fun t acc => stepB m (dl 0) (dl_pos 0) c v2 t acc⟩
@[instance_reducible] def loopA (c : Dev nD) (K : Dev nD × Fin 32 → ℕ) (v2 : BitVec 32) :
    At (Gen.LoopInvTy_k0_t2 (F := F) Unit ℕ UU ℕ 𝒱₀ c none Set.univ) c v2 :=
  ⟨fun t _ => invA m c K t, fun t acc => stepA m v2 t acc⟩

theorem part24 (v2 : BitVec 32) {Q : PUnit → sProp (MT nD τ sig Unit (Elt F) ℕ UU ℕ)} :
    Ctx m K ⊢ iprop(FreeA m c 1 -∗ FlightA m c 0 -∗ FlightB m c 0 -∗ FlightB m c 1 -∗ FillA m c 0 -∗ FillB m c 0
      -∗ Bef c 0 -∗ Bef c 1 -∗ Bef c 2 -∗ Bef c 3 -∗ Bef c 4 -∗ Bef c 5 -∗ Bef c 6 -∗ owesE c (dl 0)
      -∗ (FreeA m c 0 -∗ FreeA m c 1 -∗ FreeB m c 0 -∗ FreeB m c 1 -∗ FillA m c 16 -∗ FillB m c 16
          -∗ Ex2 (0, 0) c -∗ sendPay m (0, 0) c -∗ wVal m c 2 3
          -∗ Aft m c 1 -∗ Aft m c 2 -∗ Aft m c 3 -∗ Aft m c 4 -∗ Aft m c 5 -∗ Aft m c 6 -∗ owesE c (dl 6) -∗ Q ⟨⟩)
      -∗ WP c (At (k0_part24 (F := F)) c v2) Q) := by
  unfold At
  rw [k0_part24_eq_skeleton]
  unfold k0_part24_skel
  simp only [Prog.lift, Prog.bind_op, Prog.bind_ret, Prog.pure_eq_ret]
  iintro #HC HA1 HA0 HB0 HB1 HFA HFB H0 H1 H2 H3 H4 H5 H6 HO Hk
  iapply (startA m (t := 1) (show k0_off4 c 1#32 = ![rowA c 1, 0] from off4_eq c 1) rfl rfl) $$ HA1
  iintro HA1
  iapply wp_seq
  iapply (exec_loop_last _ _ _ _ _ _ _ _ _ (loopB m c K v2)) $$ [HB0 HB1 HFB HO]
  · iapply (show invB m c K (dl 0) 0 ⊢ (loopB m c K v2).inv 0 () from .rfl)
    unfold invB
    isplitr; · iexact HC
    isplitl [HB0]; · iapply (Entails.of_eq (SlotB_in m (c := c) (t := 0) (by decide)).symm) $$ HB0
    isplitl [HB1]; · iapply (Entails.of_eq (SlotB_in m (c := c) (t := 0 + 1) (by decide)).symm) $$ HB1
    isplitl [HFB]; · iexact HFB
    iexact HO
  iintro %acc Hinv
  ihave Hinv := (show (loopB m c K v2).inv (Scf.trips k0_t1_loop.lb k0_t1_loop.ub k0_t1_loop.st) acc ⊢ iprop(Ctx m K ∗ SlotB m c 16 ∗ SlotB m c 17 ∗ FillB m c 16 ∗ owesE c (dl 0)) from .rfl) $$ Hinv
  icases Hinv with ⟨_, HB0, HB1, HFB, HO⟩
  iapply wp_seq
  iapply (exec_loop_last _ _ _ _ _ _ _ _ _ (loopA m c K v2)) $$ [HA0 HA1 HFA HFB H0 H1 H2 H3 H4 H5 H6 HO]
  · iapply (show invA m c K 0 ⊢ (loopA m c K v2).inv 0 () from .rfl)
    unfold invA
    isplitr; · iexact HC
    isplitl [HA0]; · iapply (Entails.of_eq (SlotA_in m (c := c) (t := 0) (by decide)).symm) $$ HA0
    isplitl [HA1]; · iapply (Entails.of_eq (SlotA_in m (c := c) (t := 0 + 1) (by decide)).symm) $$ HA1
    isplitl [HFA]; · iexact HFA
    isplitl [HFB]; · iexact HFB
    isplitl [H0]; · iapply (show Bef c 0 ⊢ Res m c 0 0 from .rfl) $$ H0
    isplitl [H1]; · iapply (show Bef c 1 ⊢ Res m c 1 0 from .rfl) $$ H1
    isplitl [H2]; · iapply (show Bef c 2 ⊢ Res m c 2 0 from .rfl) $$ H2
    isplitl [H3]; · iapply (show Bef c 3 ⊢ Res m c 3 0 from .rfl) $$ H3
    isplitl [H4]; · iapply (show Bef c 4 ⊢ Res m c 4 0 from .rfl) $$ H4
    isplitl [H5]; · iapply (show Bef c 5 ⊢ Res m c 5 0 from .rfl) $$ H5
    isplitl [H6]; · iapply (show Bef c 6 ⊢ Res m c 6 0 from .rfl) $$ H6
    iexact HO
  iintro %acc' Hinv
  ihave Hinv := (show (loopA m c K v2).inv (Scf.trips k0_t2_loop.lb k0_t2_loop.ub k0_t2_loop.st) acc' ⊢ iprop(Ctx m K ∗ SlotA m c 16 ∗ SlotA m c 17 ∗ FillA m c 16 ∗ FillB m c 16
      ∗ Aft m c 0 ∗ Aft m c 1 ∗ Aft m c 2 ∗ Aft m c 3 ∗ Aft m c 4 ∗ Aft m c 5 ∗ Aft m c 6 ∗ owesE c (dl 6)) from .rfl) $$ Hinv
  icases Hinv with ⟨_, HA0, HA1, HFA, HFB, H0, H1, H2, H3, H4, H5, H6, HO⟩
  ihave H0 := (show Aft m c 0 ⊢ iprop(Ex1 (0, 0) c ∗ wVal m c 2 3) from .rfl) $$ H0
  icases H0 with ⟨HX, HW⟩
  iapply (wait_send m (0, 0) (dl 6) (fun d _ => lev_pos d) (ss0 at0) amt_a') $$ HC HX HO
  iintro HX HS HO
  iapply wp_done
  iapply Hk $$ [HA0] [HA1] [HB0] [HB1] HFA HFB HX HS HW H1 H2 H3 H4 H5 H6 HO
  · iapply (show FreeA m c 16 ⊢ FreeA m c 0 from .rfl)
    iapply (Entails.of_eq (SlotA_out m (c := c) (t := 16) (by decide))) $$ HA0
  · iapply (show FreeA m c 17 ⊢ FreeA m c 1 from .rfl)
    iapply (Entails.of_eq (SlotA_out m (c := c) (t := 17) (by decide))) $$ HA1
  · iapply (show FreeB m c 16 ⊢ FreeB m c 0 from .rfl)
    iapply (Entails.of_eq (SlotB_out m (c := c) (t := 16) (by decide))) $$ HB0
  · iapply (show FreeB m c 17 ⊢ FreeB m c 1 from .rfl)
    iapply (Entails.of_eq (SlotB_out m (c := c) (t := 17) (by decide))) $$ HB1
end Start

end Cert.RS
-- ==== Proof.RS.Pieces.lean ====
/-
  The fifteen exchanges of a device listed out, and the grants of the entry barrier regrouped by exchange.
-/
module

public import proofs.«01_k».proof.Proof.RS.Start

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

section Grants
variable {c : Dev nD}

theorem all15 (f : X → sProp (MT nD τ sig Unit (Elt F) ℕ UU ℕ)) :
    bigSep Finset.univ f = iprop(f (0, 0) ∗ f (0, 1) ∗ f (0, 2) ∗ f (1, 0) ∗ f (1, 1) ∗ f (1, 2) ∗ f (2, 0) ∗ f (2, 1) ∗ f (2, 2) ∗ f (3, 0) ∗ f (3, 1) ∗ f (3, 2) ∗ f (4, 0) ∗ f (4, 1) ∗ f (4, 2)) := by
  rw [bigSep_univ_eq_bigSepL [(0, 0), (0, 1), (0, 2), (1, 0), (1, 1), (1, 2), (2, 0), (2, 1), (2, 2), (3, 0), (3, 1), (3, 2), (4, 0), (4, 1), (4, 2)] (by decide) (by decide)]
  rfl
theorem all3 (f : Fin 3 → sProp (MT nD τ sig Unit (Elt F) ℕ UU ℕ)) :
    bigSep Finset.univ f = iprop(f 0 ∗ f 1 ∗ f 2) := by
  rw [bigSep_univ_eq_bigSepL [0, 1, 2] (by decide) (by decide)]
  rfl

/-- The exchanges along axis `a`, one per step, are all the exchanges. -/
def along : Fin 3 × Fin 5 ≃ X where
  toFun p := alongX p.1 p.2
  invFun x := (x.2 + stage x.1, x.1)
  left_inv := by decide
  right_inv := by decide

theorem landings : iprop(barPay (F := F) c 0 ∗ barPay c 1 ∗ barPay c 2) ⊢ bigSep Finset.univ fun x : X => dstAny (F := F) x (peer x c) := by
  rw [bigSep_univ_equiv along, bigSep_univ_prod, all3]
  have h : ∀ a : Fin 3, barPay (F := F) c a = bigSep Finset.univ fun k : Fin 5 => dstAny (F := F) (along (a, k)) (peer (along (a, k)) c) := fun a => by
    unfold barPay
    exact bigSep_congr fun k _ => by rw [show along (a, k) = alongX a k from rfl, peer_along]
  rw [h 0, h 1, h 2]
theorem grants : (bigSep Finset.univ fun x : X => dstAny (F := F) x c) ⊢ iprop(giveBar (F := F) c 0 ∗ giveBar c 1 ∗ giveBar c 2) := by
  rw [bigSep_univ_equiv along, bigSep_univ_prod, all3]
  exact .rfl

/-- An exchange before it starts, short of where it will land. -/
def Ey (x : X) (c : Dev nD) : sProp (MT nD τ sig Unit (Elt F) ℕ UU ℕ) :=
  iprop(Tok x c ∗ atPos ER (sendCell x c) 0 ∅ 0 ∗ atPos ER (recvCell x c) 0 ∅ 0 ∗ credR x c)
theorem ready : iprop((bigSep Finset.univ fun x : X => Ey (F := F) x c) ∗ barPay (F := F) c 0 ∗ barPay c 1 ∗ barPay c 2)
    ⊢ bigSep Finset.univ fun x : X => Ex0 (F := F) x c := by
  refine (sep_mono_right landings).trans ?_
  have h : ∀ x : X, iprop(Ey (F := F) x c ∗ dstAny x (peer x c)) ⊢ Ex0 (F := F) x c := fun x => by
    unfold Ey Ex0
    iintro ⟨⟨H1, H2, H3, H4⟩, H5⟩
    isplitl [H1]; · iexact H1
    isplitl [H2]; · iexact H2
    isplitl [H3]; · iexact H3
    isplitl [H4]; · iexact H4
    iexact H5
  rw [← bigSep_sep']
  exact bigSep_mono fun x _ => h x
end Grants

end Cert.RS
-- ==== Proof.RS.Body.lean ====
/-
  The whole kernel on one device, its parts run in order.
-/
module

public import proofs.«01_k».proof.Proof.RS.Pieces

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

section Body
variable {c : Dev nD} {K : Dev nD × Fin 32 → ℕ}

/-- What a device brings to the entry barrier. -/
def BarIn (c : Dev nD) : sProp (MT nD τ sig Unit (Elt F) ℕ UU ℕ) :=
  iprop(dutyTok ER (barCell (ax 0 c)) 0 0 ∗ dutyTok ER (barCell (ax 1 c)) 0 1 ∗ dutyTok ER (barCell (ax 2 c)) 0 2
    ∗ giveBar c 0 ∗ giveBar c 1 ∗ giveBar c 2 ∗ cred (tallyAt (barCell c) () 3) ∗ atPos ER (barCell c) 0 ∅ 0)
/-- The operands and their staging buffers before anything has moved. -/
def OpsIn (c : Dev nD) : sProp (MT nD τ sig Unit (Elt F) ℕ UU ℕ) :=
  iprop(FreeA m c 0 ∗ FreeA m c 1 ∗ FreeB m c 0 ∗ FreeB m c 1 ∗ FillA m c 0 ∗ FillB m c 0)
def OpsOut (c : Dev nD) : sProp (MT nD τ sig Unit (Elt F) ℕ UU ℕ) :=
  iprop(FreeA m c 0 ∗ FreeA m c 1 ∗ FreeB m c 0 ∗ FreeB m c 1 ∗ FillA m c 16 ∗ FillB m c 16)
def Slots (c : Dev nD) : sProp (MT nD τ sig Unit (Elt F) ℕ UU ℕ) :=
  iprop(sbAny c 0 0 ∗ sbAny c 0 1 ∗ sbAny c 0 2 ∗ sbAny c 0 3 ∗ sbAny c 1 0 ∗ sbAny c 1 1 ∗ sbAny c 1 2 ∗ sbAny c 1 3 ∗ sbAny c 2 0 ∗ sbAny c 2 1 ∗ sbAny c 2 2 ∗ sbAny c 2 3 ∗ wAny c 0 0 ∗ wAny c 0 1 ∗ wAny c 0 2 ∗ wAny c 0 3 ∗ wAny c 1 0 ∗ wAny c 1 1 ∗ wAny c 1 2 ∗ wAny c 1 3 ∗ wAny c 2 0 ∗ wAny c 2 1 ∗ wAny c 2 2 ∗ wAny c 2 3)
def ResIn (c : Dev nD) : sProp (MT nD τ sig Unit (Elt F) ℕ UU ℕ) :=
  iprop(obAny c 0 ∗ obAny c 1 ∗ outAny c 0 ∗ outAny c 1 ∗ outAny c 2 ∗ semO c 0 ∗ semO c 1)
def ResOut (c : Dev nD) : sProp (MT nD τ sig Unit (Elt F) ℕ UU ℕ) :=
  iprop(obVal m c 1 ∗ obVal m c 2 ∗ outVal m c 0 ∗ outVal m c 1 ∗ outVal m c 2 ∗ semO c 1 ∗ semO c 2)
/-- Every exchange done, with both of its ends. -/
def Done (c : Dev nD) : sProp (MT nD τ sig Unit (Elt F) ℕ UU ℕ) :=
  iprop((bigSep Finset.univ fun x : X => Ex3 (F := F) x c) ∗ (bigSep Finset.univ fun x : X => sendPay m x c) ∗ (bigSep Finset.univ fun x : X => recvPay m x c)
    ∗ w2Val m c 0 0 ∗ w2Val m c 1 0 ∗ w2Val m c 2 0)

theorem part49 {Q : (Σ' (_ : Dev nD) (_ : BitVec 32), BitVec 32) → sProp (MT nD τ sig Unit (Elt F) ℕ UU ℕ)} :
    Ctx m K ⊢ iprop(BarIn (F := F) c -∗ OpsIn m c -∗ Slots (F := F) c -∗ (bigSep Finset.univ fun x : X => Ey (F := F) x c) -∗ ResIn (F := F) c
      -∗ dutyTok ER (exitCell (ax 0 c)) 0 0 -∗ owesE c allDebts
      -∗ (∀ v v', atPos ER (barCell c) 1 ∅ 0 -∗ OpsOut m c -∗ Done m c -∗ ResOut m c -∗ owesE c [.ex 1, .ex 2] -∗ Q ⟨c, v, v'⟩)
      -∗ WP c (At (k0_part49 (F := F))) Q) := by
  unfold At
  rw [k0_part49_eq_skeleton]
  unfold k0_part49_skel semSignalWord
  simp only [Prog.lift, Prog.bind_op, Prog.bind_ret, Prog.pure_eq_ret]
  unfold BarIn OpsIn Slots ResIn
  iintro #HC ⟨T0, T1, T2, G0, G1, G2, Hcr, Hat⟩ ⟨HA0, HA1, HB0, HB1, HFA, HFB⟩ ⟨B00, B01, B02, B03, B10, B11, B12, B13, B20, B21, B22, B23, W00, W01, W02, W03, W10, W11, W12, W13, W20, W21, W22, W23⟩ HEy ⟨OB0, OB1, OU0, OU1, OU2, SO0, SO1⟩ TE HO Hk
  iapply wp_seq
  iapply (part20 m) $$ HC T0 T1 T2 G0 G1 G2 Hcr Hat HO
  iintro %v2 Hat HP HO
  ihave HX := ((ready (F := F) (c := c)).trans (Entails.of_eq (all15 _))) $$ [HEy HP]
  · isplitl [HEy]; · iexact HEy
    iexact HP
  icases HX with ⟨X00, X01, X02, X10, X11, X12, X20, X21, X22, X30, X31, X32, X40, X41, X42⟩
  iapply wp_seq
  iapply (part21 m v2) $$ HB0 HB1
  iintro %v HB0 HB1
  iapply wp_seq
  iapply (part22 m _ _ _ _ _) $$ HA0
  iintro %v HA0
  iapply wp_seq
  iapply (part23 _ _ _ _ _ _ _)
  iapply wp_seq
  iapply (part24 m v2) $$ HC HA1 HA0 HB0 HB1 HFA HFB [X00 B02 B03 W23] [X02 B22 B23 W13] [X10 B00 B01 W11 W22] [X01 B12 B13 W03] [X11 B10 B11 W02 W21] [X12 B20 B21 W01 W12] [W00 W10 W20] HO
  · unfold Bef
    isplitl [X00]; · iexact X00
    isplitl [B02]; · iexact B02
    isplitl [B03]; · iexact B03
    iexact W23
  · unfold Bef
    isplitl [X02]; · iexact X02
    isplitl [B22]; · iexact B22
    isplitl [B23]; · iexact B23
    iexact W13
  · unfold Bef
    isplitl [X10]; · iexact X10
    isplitl [B00]; · iexact B00
    isplitl [B01]; · iexact B01
    isplitl [W11]; · iexact W11
    iexact W22
  · unfold Bef
    isplitl [X01]; · iexact X01
    isplitl [B12]; · iexact B12
    isplitl [B13]; · iexact B13
    iexact W03
  · unfold Bef
    isplitl [X11]; · iexact X11
    isplitl [B10]; · iexact B10
    isplitl [B11]; · iexact B11
    isplitl [W02]; · iexact W02
    iexact W21
  · unfold Bef
    isplitl [X12]; · iexact X12
    isplitl [B20]; · iexact B20
    isplitl [B21]; · iexact B21
    isplitl [W01]; · iexact W01
    iexact W12
  · unfold Bef
    isplitl [W00]; · iexact W00
    isplitl [W10]; · iexact W10
    iexact W20
  iintro HA0 HA1 HB0 HB1 HFA HFB X00 S00 W23 H1 H2 H3 H4 H5 H6 HO
  unfold Aft
  icases H1 with ⟨X02, W13⟩
  icases H2 with ⟨X10, W11, W22⟩
  icases H3 with ⟨X01, W03⟩
  icases H4 with ⟨X11, W02, W21⟩
  icases H5 with ⟨X12, W01, W12⟩
  icases H6 with ⟨W00, W10, W20⟩
  ihave HO := (show (owesE c (dl 6) : sProp (MT nD τ sig Unit (Elt F) ℕ UU ℕ)) ⊢ owesE c ([.xf (2, 0), .xf (3, 0), .xf (2, 2), .xf (3, 2), .xf (2, 1), .xf (3, 1), .xf (4, 0), .xf (4, 1), .xf (4, 2), .ex 0, .ex 1, .ex 2]) from .rfl) $$ HO
  iapply wp_seq
  iapply (part25 m v2 [.xf (3, 0), .xf (2, 2), .xf (3, 2), .xf (2, 1), .xf (3, 1), .xf (4, 0), .xf (4, 1), .xf (4, 2), .ex 0, .ex 1, .ex 2] (by decide)) $$ HC X00 W03 X20 HO
  iintro X00 R00 X20 HO
  iapply wp_seq
  iapply (part26 m v2 [.xf (2, 2), .xf (3, 2), .xf (2, 1), .xf (3, 1), .xf (4, 0), .xf (4, 1), .xf (4, 2), .ex 0, .ex 1, .ex 2]) $$ HC R00 W02 X30 HO
  iintro %v R00 X30 HO
  iapply wp_seq
  iapply (part27 m v2 v [.xf (2, 2), .xf (3, 2), .xf (2, 1), .xf (3, 1), .xf (4, 0), .xf (4, 1), .xf (4, 2), .ex 0, .ex 1, .ex 2] (by decide)) $$ HC X02 W23 HO
  iintro %v X02 S02 R02 W23 HO
  iapply wp_seq
  iapply (part28 m v2 v [.xf (3, 2), .xf (2, 1), .xf (3, 1), .xf (4, 0), .xf (4, 1), .xf (4, 2), .ex 0, .ex 1, .ex 2]) $$ HC R02 W23 W22 X22 HO
  iintro %v R02 W22 X22 HO
  iapply wp_seq
  iapply (part29 m v2 v [.xf (2, 1), .xf (3, 1), .xf (4, 0), .xf (4, 1), .xf (4, 2), .ex 0, .ex 1, .ex 2]) $$ HC W22 X32 X01 HO
  iintro X32 X01 S01 HO
  iapply wp_seq
  iapply (part30 m v2 [.xf (3, 1), .xf (4, 0), .xf (4, 1), .xf (4, 2), .ex 0, .ex 1, .ex 2] (by decide)) $$ HC X01 W13 X21 HO
  iintro X01 R01 X21 HO
  iapply wp_seq
  iapply (part31 m v2 [.xf (4, 0), .xf (4, 1), .xf (4, 2), .ex 0, .ex 1, .ex 2]) $$ HC R01 W12 X31 HO
  iintro %v R01 X31 HO
  iapply wp_seq
  iapply (part32 m v [.xf (4, 0), .xf (4, 1), .xf (4, 2), .ex 0, .ex 1, .ex 2] (by decide)) $$ HC X10 W01 HO
  iintro X10 S10 R10 W01 HO
  iapply wp_seq
  iapply (part33 m v2 [.xf (4, 0), .xf (4, 1), .xf (4, 2), .ex 0, .ex 1, .ex 2]) $$ HC R10 W00 X11 HO
  iintro R10 W00 X11 S11 HO
  iapply wp_seq
  iapply (part34 m v2 [.xf (4, 0), .xf (4, 1), .xf (4, 2), .ex 0, .ex 1, .ex 2] (by decide)) $$ HC X11 W11 W10 HO
  iintro %v X11 R11 W11 W10 HO
  iapply wp_seq
  iapply (part35 m v [.xf (4, 0), .xf (4, 1), .xf (4, 2), .ex 0, .ex 1, .ex 2] (by decide)) $$ HC X12 W21 HO
  iintro %a %b %ha X12 S12 R12 W21 HO
  iapply wp_seq
  iapply (part36 m v2 a b ha [.xf (4, 0), .xf (4, 1), .xf (4, 2), .ex 0, .ex 1, .ex 2]) $$ HC W21 W20 R12 X20 HO
  iintro W21 W20 R12 X20 S20 HO
  iapply wp_seq
  iapply (part37 m v2 [.xf (4, 0), .xf (4, 1), .xf (4, 2), .ex 0, .ex 1, .ex 2] (by decide)) $$ HC X20 W01 HO
  iintro X20 R20 W01 HO
  iapply wp_seq
  iapply (part38 m v2 [.xf (4, 1), .xf (4, 2), .ex 0, .ex 1, .ex 2] (by decide)) $$ HC X40 W01 X30 W00 HO
  iintro %a1 %b1 %ha1 X40 X30 S30 R30 W00 HO
  iapply wp_seq
  iapply (part39 m v2 a1 b1 ha1 [.xf (4, 1), .xf (4, 2), .ex 0, .ex 1, .ex 2] (by decide)) $$ HC W00 X21 W11 HO
  iintro W00 X21 S21 R21 W11 HO
  iapply wp_seq
  iapply (part40 m v2 [.xf (4, 2), .ex 0, .ex 1, .ex 2]) $$ HC R21 W11 X41 HO
  iintro %v R21 X41 HO
  iapply wp_seq
  iapply (part41 m v2 v [.xf (4, 2), .ex 0, .ex 1, .ex 2] (by decide)) $$ HC X31 W10 HO
  iintro %v X31 S31 R31 W10 HO
  iapply wp_seq
  iapply (part42 m _ _ [.xf (4, 2), .ex 0, .ex 1, .ex 2] (by decide)) $$ HC X22 W21 HO
  iintro %a2 %ha2 X22 S22 R22 W21 HO
  iapply wp_seq
  iapply (part43 m v2 a2 ha2 [.ex 0, .ex 1, .ex 2]) $$ HC W21 X42 X32 HO
  iintro %v X42 X32 S32 HO
  iapply wp_seq
  iapply (part44 m v2 v [.ex 0, .ex 1, .ex 2] (by decide)) $$ HC X32 W20 HO
  iintro %v X32 R32 W20 HO
  iapply wp_seq
  iapply (part45 m v [.ex 0, .ex 1, .ex 2] (by decide)) $$ HC X40 W00 OB0 HO
  iintro X40 S40 R40 W00 OB0 HO
  iapply wp_seq
  iapply (part46 m v2 [.ex 0, .ex 1, .ex 2] (by decide)) $$ HC OB0 OU0 SO0 X41 W10 HO
  iintro %a3 %b3 %ha3 FO0 X41 S41 R41 W10 HO
  iapply wp_seq
  iapply (part47 m v2 a3 b3 ha3 [.ex 0, .ex 1, .ex 2]) $$ HC OB1 OU1 SO1 X42 HO
  iintro FO1 X42 S42 HO
  iapply wp_seq
  iapply (part48 m [.ex 0, .ex 1, .ex 2] (by decide)) $$ HC X42 FO0 W20 OU2 HO
  iintro X42 R42 OU0 W20 FO2 HO
  iapply (waitO m 1 [.ex 0, .ex 1, .ex 2] (semOut_eq rfl) amtO_eq.symm) $$ HC FO1 HO
  iintro OU1 OB1 SO1 HO
  iapply (waitO m 2 [.ex 0, .ex 1, .ex 2] (semOut_eq (t := 2) rfl) amtO_eq.symm) $$ HC FO2 HO
  iintro OU2 OB2 SO2 HO
  iapply (sig_exit m 0 [.ex 1, .ex 2] (dev19_eq c)) $$ HC TE HO
  iintro HO
  iapply wp_done
  iapply Hk $$ Hat [HA0 HA1 HB0 HB1 HFA HFB] [X00 X01 X02 X10 X11 X12 X20 X21 X22 X30 X31 X32 X40 X41 X42 S00 S01 S02 S10 S11 S12 S20 S21 S22 S30 S31 S32 S40 S41 S42 R00 R01 R02 R10 R11 R12 R20 R21 R22 R30 R31 R32 R40 R41 R42 W00 W10 W20] [OB1 OB2 OU0 OU1 OU2 SO1 SO2] HO
  · unfold OpsOut
    isplitl [HA0]; · iexact HA0
    isplitl [HA1]; · iexact HA1
    isplitl [HB0]; · iexact HB0
    isplitl [HB1]; · iexact HB1
    isplitl [HFA]; · iexact HFA
    iexact HFB
  · unfold Done
    rw [all15, all15, all15]
    isplitl [X00 X01 X02 X10 X11 X12 X20 X21 X22 X30 X31 X32 X40 X41 X42]
    · isplitl [X00]; · iexact X00
      isplitl [X01]; · iexact X01
      isplitl [X02]; · iexact X02
      isplitl [X10]; · iexact X10
      isplitl [X11]; · iexact X11
      isplitl [X12]; · iexact X12
      isplitl [X20]; · iexact X20
      isplitl [X21]; · iexact X21
      isplitl [X22]; · iexact X22
      isplitl [X30]; · iexact X30
      isplitl [X31]; · iexact X31
      isplitl [X32]; · iexact X32
      isplitl [X40]; · iexact X40
      isplitl [X41]; · iexact X41
      iexact X42
    isplitl [S00 S01 S02 S10 S11 S12 S20 S21 S22 S30 S31 S32 S40 S41 S42]
    · isplitl [S00]; · iexact S00
      isplitl [S01]; · iexact S01
      isplitl [S02]; · iexact S02
      isplitl [S10]; · iexact S10
      isplitl [S11]; · iexact S11
      isplitl [S12]; · iexact S12
      isplitl [S20]; · iexact S20
      isplitl [S21]; · iexact S21
      isplitl [S22]; · iexact S22
      isplitl [S30]; · iexact S30
      isplitl [S31]; · iexact S31
      isplitl [S32]; · iexact S32
      isplitl [S40]; · iexact S40
      isplitl [S41]; · iexact S41
      iexact S42
    isplitl [R00 R01 R02 R10 R11 R12 R20 R21 R22 R30 R31 R32 R40 R41 R42]
    · isplitl [R00]; · iexact R00
      isplitl [R01]; · iexact R01
      isplitl [R02]; · iexact R02
      isplitl [R10]; · iexact R10
      isplitl [R11]; · iexact R11
      isplitl [R12]; · iexact R12
      isplitl [R20]; · iexact R20
      isplitl [R21]; · iexact R21
      isplitl [R22]; · iexact R22
      isplitl [R30]; · iexact R30
      isplitl [R31]; · iexact R31
      isplitl [R32]; · iexact R32
      isplitl [R40]; · iexact R40
      isplitl [R41]; · iexact R41
      iexact R42
    isplitl [W00]; · iexact W00
    isplitl [W10]; · iexact W10
    iexact W20
  · unfold ResOut
    isplitl [OB1]; · iexact OB1
    isplitl [OB2]; · iexact OB2
    isplitl [OU0]; · iexact OU0
    isplitl [OU1]; · iexact OU1
    isplitl [OU2]; · iexact OU2
    isplitl [SO1]; · iexact SO1
    iexact SO2

/-- The whole kernel on one device. -/
theorem body_run {Q : PUnit → sProp (MT nD τ sig Unit (Elt F) ℕ UU ℕ)} :
    Ctx m K ⊢ iprop(BarIn (F := F) c -∗ OpsIn m c -∗ Slots (F := F) c -∗ (bigSep Finset.univ fun x : X => Ey (F := F) x c) -∗ ResIn (F := F) c
      -∗ dutyTok ER (exitCell (ax 0 c)) 0 0 -∗ dutyTok ER (exitCell (ax 1 c)) 0 1 -∗ dutyTok ER (exitCell (ax 2 c)) 0 2
      -∗ cred (tallyAt (exitCell c) () 3) -∗ atPos ER (exitCell c) 0 ∅ 0 -∗ owesE c allDebts
      -∗ (atPos ER (barCell c) 1 ∅ 0 -∗ atPos ER (exitCell c) 1 ∅ 0 -∗ OpsOut m c -∗ Done m c -∗ ResOut m c -∗ owesE c [] -∗ Q ⟨⟩)
      -∗ WP c (At (cc0_body (F := F))) Q) := by
  unfold At
  rw [cc0_body_eq_skeleton]
  unfold cc0_body_skel semSignalWord semWaitWord
  simp only [Prog.lift, Prog.bind_op, Prog.bind_ret, Prog.pure_eq_ret]
  iintro #HC HB HI HS HE HR T0 T1 T2 Hcr Hat HO Hk
  iapply wp_seq
  iapply (part49 m) $$ HC HB HI HS HE HR T0 HO
  iintro %v %v' Hb HI HD HR HO
  iapply (sig_exit m 1 [.ex 2] (dev20_eq c)) $$ HC T1 HO
  iintro HO
  iapply (sig_exit m 2 [] (dev21_eq c)) $$ HC T2 HO
  iintro HO
  iapply (wait_exit m) $$ HC Hcr Hat HO
  iintro Hat HO
  iapply wp_done
  iapply Hk $$ Hb Hat HI HD HR HO
end Body

end Cert.RS
-- ==== Proof.RS.Split.lean ====
/-
  A device's buffers split into the pieces the kernel hands around, and put together again.
-/
module

public import proofs.«01_k».proof.Proof.RS.Body

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- A set of elements of a buffer, at whatever they hold. -/
def anyOn (ℓ : Loc nD τ sig) (S : Finset (Idx ℓ)) : sProp 𝕄 := iprop(∃ f : Buf (Elt F) ℓ, ℓ ↦[S]{fullShare} f)

section Split
variable {c : Dev nD}

theorem anyOn_union {ℓ : Loc nD τ sig} {A B : Finset (Idx ℓ)} (h : Disjoint A B) :
    anyOn (F := F) ℓ (A ∪ B) = iprop(anyOn ℓ A ∗ anyOn ℓ B) := by
  have h1 : anyOn (F := F) ℓ (A ∪ B) ⊢ iprop(anyOn ℓ A ∗ anyOn ℓ B) := by
    unfold anyOn
    iintro ⟨%f, H⟩
    ihave H := (pointsTo_union h).1 $$ H
    icases H with ⟨HA, HB⟩
    isplitl [HA]
    · iexists f; iexact HA
    · iexists f; iexact HB
  have h2 : iprop(anyOn (F := F) ℓ A ∗ anyOn ℓ B) ⊢ anyOn ℓ (A ∪ B) := by
    unfold anyOn
    iintro ⟨⟨%f, HA⟩, ⟨%g, HB⟩⟩
    iexists _
    iapply (pointsTo_join h)
    isplitl [HA]; · iexact HA
    iexact HB
  exact BI.Entails.antisymm h1 h2
theorem anyOn_of {ℓ : Loc nD τ sig} {A : Finset (Idx ℓ)} (f : Buf (Elt F) ℓ) : (ℓ ↦[A]{fullShare} f : sProp (MT nD τ sig Unit (Elt F) ℕ UU ℕ)) ⊢ anyOn ℓ A := by
  unfold anyOn
  iintro H
  iexists f; iexact H

/-! ## The stacked buffers -/

theorem reg_apart {n : ℕ} {g g' : Fin 3} (h : g ≠ g') (a b a' b' : ℕ) : Disjoint (reg n g a b) (reg n g' a' b') := by
  rw [Finset.disjoint_left]; intro i hi hj
  rw [mem_reg] at hi hj; exact h (hi.1.symm.trans hj.1)
theorem stack_all (n : ℕ) : (Finset.univ : Finset (Stack n).Idx) = reg n 0 0 n ∪ (reg n 1 0 n ∪ reg n 2 0 n) := by
  ext i
  simp only [Finset.mem_univ, Finset.mem_union, mem_reg, true_iff]
  have h1 : (i 1).val < 0 + n := by rw [Nat.zero_add]; exact (i 1).isLt
  have h0 := (show ∀ g : Fin 3, g = 0 ∨ g = 1 ∨ g = 2 by decide) (i 0)
  rcases h0 with h | h | h
  · exact .inl ⟨h, Nat.zero_le _, h1⟩
  · exact .inr (.inl ⟨h, Nat.zero_le _, h1⟩)
  · exact .inr (.inr ⟨h, Nat.zero_le _, h1⟩)

section Additive
variable {n : ℕ} {P : Finset (Stack n).Idx → sProp (MT nD τ sig Unit (Elt F) ℕ UU ℕ)} (hP : ∀ A B, Disjoint A B → P (A ∪ B) = iprop(P A ∗ P B))
include hP
theorem thirds : P Finset.univ = iprop(P (reg n 0 0 n) ∗ P (reg n 1 0 n) ∗ P (reg n 2 0 n)) := by
  rw [stack_all n, hP _ _ (Finset.disjoint_union_right.mpr ⟨reg_apart (by decide) _ _ _ _, reg_apart (by decide) _ _ _ _⟩),
    hP _ _ (reg_apart (by decide) _ _ _ _)]
theorem pair (g : Fin 3) (lo : ℕ) : P (reg n g lo 2) = iprop(P (reg n g lo 1) ∗ P (reg n g (lo + 1) 1)) := by
  rw [show (2 : ℕ) = 1 + 1 from rfl, reg_add, hP _ _ (reg_disj _ _ _ _)]
theorem halves (g : Fin 3) : P (reg n g 0 4) = iprop(P (reg n g 0 2) ∗ P (reg n g 2 2)) := by
  rw [show (4 : ℕ) = 2 + 2 from rfl, reg_add, hP _ _ (reg_disj _ _ _ _)]
end Additive

abbrev ℓs (b : Ref sig .tc) (c : Dev nD) : Loc nD τ sig := (c : Thread nD τ).loc b
abbrev sbS (c : Dev nD) (S : Finset (Stack 4).Idx) : sProp 𝕄 := anyOn (ℓs cc0_scratch4 c) S
abbrev rb1S (c : Dev nD) (S : Finset (Stack 4).Idx) : sProp 𝕄 := anyOn (ℓs cc0_scratch5 c) S
abbrev wS (c : Dev nD) (S : Finset (Stack 4).Idx) : sProp 𝕄 := anyOn (ℓs cc0_scratch6 c) S
abbrev rb2S (c : Dev nD) (S : Finset (Stack 2).Idx) : sProp 𝕄 := anyOn (ℓs cc0_scratch7 c) S
abbrev rb3S (c : Dev nD) (S : Finset (Stack 1).Idx) : sProp 𝕄 := anyOn (ℓs cc0_scratch8 c) S
theorem sbS_add (A B : Finset (Stack 4).Idx) (h : Disjoint A B) : sbS (F := F) c (A ∪ B) = iprop(sbS c A ∗ sbS c B) := anyOn_union h
theorem rb1S_add (A B : Finset (Stack 4).Idx) (h : Disjoint A B) : rb1S (F := F) c (A ∪ B) = iprop(rb1S c A ∗ rb1S c B) := anyOn_union h
theorem wS_add (A B : Finset (Stack 4).Idx) (h : Disjoint A B) : wS (F := F) c (A ∪ B) = iprop(wS c A ∗ wS c B) := anyOn_union h
theorem rb2S_add (A B : Finset (Stack 2).Idx) (h : Disjoint A B) : rb2S (F := F) c (A ∪ B) = iprop(rb2S c A ∗ rb2S c B) := anyOn_union h
theorem rb3S_add (A B : Finset (Stack 1).Idx) (h : Disjoint A B) : rb3S (F := F) c (A ∪ B) = iprop(rb3S c A ∗ rb3S c B) := anyOn_union h

/-- A buffer of twelve slots, slot by slot. -/
theorem slots12 {P : Finset (Stack 4).Idx → sProp (MT nD τ sig Unit (Elt F) ℕ UU ℕ)} (hP : ∀ A B, Disjoint A B → P (A ∪ B) = iprop(P A ∗ P B)) :
    P Finset.univ = iprop(((P (reg 4 0 0 1) ∗ P (reg 4 0 1 1)) ∗ P (reg 4 0 2 1) ∗ P (reg 4 0 3 1))
      ∗ ((P (reg 4 1 0 1) ∗ P (reg 4 1 1 1)) ∗ P (reg 4 1 2 1) ∗ P (reg 4 1 3 1))
      ∗ ((P (reg 4 2 0 1) ∗ P (reg 4 2 1 1)) ∗ P (reg 4 2 2 1) ∗ P (reg 4 2 3 1))) := by
  rw [thirds hP, halves hP, halves hP, halves hP, pair hP, pair hP, pair hP, pair hP, pair hP, pair hP]

theorem slots_in : iprop(sbS (F := F) c Finset.univ ∗ wS c Finset.univ) ⊢ Slots c := by
  have hb : ∀ (g : Fin 3) (j : Fin 4) (l : ℕ), l = j.val → (sbS (F := F) c (reg 4 g l 1) ⊢ sbAny c g j) := by
    intro g j l e; subst e; exact .rfl
  have hw : ∀ (g : Fin 3) (j : Fin 4) (l : ℕ), l = j.val → (wS (F := F) c (reg 4 g l 1) ⊢ wAny c g j) := by
    intro g j l e; subst e; exact .rfl
  rw [slots12 sbS_add, slots12 wS_add]
  unfold Slots
  iintro ⟨⟨⟨⟨B00, B01⟩, B02, B03⟩, ⟨⟨B10, B11⟩, B12, B13⟩, ⟨⟨B20, B21⟩, B22, B23⟩⟩, ⟨⟨W00, W01⟩, W02, W03⟩, ⟨⟨W10, W11⟩, W12, W13⟩, ⟨⟨W20, W21⟩, W22, W23⟩⟩
  isplitl [B00]; · iapply (hb 0 0 0 rfl) $$ B00
  isplitl [B01]; · iapply (hb 0 1 1 rfl) $$ B01
  isplitl [B02]; · iapply (hb 0 2 2 rfl) $$ B02
  isplitl [B03]; · iapply (hb 0 3 3 rfl) $$ B03
  isplitl [B10]; · iapply (hb 1 0 0 rfl) $$ B10
  isplitl [B11]; · iapply (hb 1 1 1 rfl) $$ B11
  isplitl [B12]; · iapply (hb 1 2 2 rfl) $$ B12
  isplitl [B13]; · iapply (hb 1 3 3 rfl) $$ B13
  isplitl [B20]; · iapply (hb 2 0 0 rfl) $$ B20
  isplitl [B21]; · iapply (hb 2 1 1 rfl) $$ B21
  isplitl [B22]; · iapply (hb 2 2 2 rfl) $$ B22
  isplitl [B23]; · iapply (hb 2 3 3 rfl) $$ B23
  isplitl [W00]; · iapply (hw 0 0 0 rfl) $$ W00
  isplitl [W01]; · iapply (hw 0 1 1 rfl) $$ W01
  isplitl [W02]; · iapply (hw 0 2 2 rfl) $$ W02
  isplitl [W03]; · iapply (hw 0 3 3 rfl) $$ W03
  isplitl [W10]; · iapply (hw 1 0 0 rfl) $$ W10
  isplitl [W11]; · iapply (hw 1 1 1 rfl) $$ W11
  isplitl [W12]; · iapply (hw 1 2 2 rfl) $$ W12
  isplitl [W13]; · iapply (hw 1 3 3 rfl) $$ W13
  isplitl [W20]; · iapply (hw 2 0 0 rfl) $$ W20
  isplitl [W21]; · iapply (hw 2 1 1 rfl) $$ W21
  isplitl [W22]; · iapply (hw 2 2 2 rfl) $$ W22
  iapply (hw 2 3 3 rfl) $$ W23

theorem lands_in : iprop(rb1S (F := F) c Finset.univ ∗ rb2S c Finset.univ ∗ rb3S c Finset.univ) ⊢ bigSep Finset.univ fun x : X => dstAny x c := by
  have h0 : ∀ g : Fin 3, rb1S (F := F) c (reg 4 g 2 2) ⊢ dstAny (0, g) c := fun _ => .rfl
  have h1 : ∀ g : Fin 3, rb1S (F := F) c (reg 4 g 0 2) ⊢ dstAny (1, g) c := fun _ => .rfl
  have h2 : ∀ g : Fin 3, rb2S (F := F) c (reg 2 g (0 + 1) 1) ⊢ dstAny (2, g) c := fun _ => .rfl
  have h3 : ∀ g : Fin 3, rb2S (F := F) c (reg 2 g 0 1) ⊢ dstAny (3, g) c := fun _ => .rfl
  have h4 : ∀ g : Fin 3, rb3S (F := F) c (reg 1 g 0 1) ⊢ dstAny (4, g) c := fun _ => .rfl
  rw [all15, thirds rb1S_add, halves rb1S_add, halves rb1S_add, halves rb1S_add, thirds rb2S_add, pair rb2S_add, pair rb2S_add, pair rb2S_add, thirds rb3S_add]
  iintro ⟨⟨⟨R10, R00⟩, ⟨R11, R01⟩, R12, R02⟩, ⟨⟨R30, R20⟩, ⟨R31, R21⟩, R32, R22⟩, R40, R41, R42⟩
  isplitl [R00]; · iapply (h0 0) $$ R00
  isplitl [R01]; · iapply (h0 1) $$ R01
  isplitl [R02]; · iapply (h0 2) $$ R02
  isplitl [R10]; · iapply (h1 0) $$ R10
  isplitl [R11]; · iapply (h1 1) $$ R11
  isplitl [R12]; · iapply (h1 2) $$ R12
  isplitl [R20]; · iapply (h2 0) $$ R20
  isplitl [R21]; · iapply (h2 1) $$ R21
  isplitl [R22]; · iapply (h2 2) $$ R22
  isplitl [R30]; · iapply (h3 0) $$ R30
  isplitl [R31]; · iapply (h3 1) $$ R31
  isplitl [R32]; · iapply (h3 2) $$ R32
  isplitl [R40]; · iapply (h4 0) $$ R40
  isplitl [R41]; · iapply (h4 1) $$ R41
  iapply (h4 2) $$ R42

theorem lands_out : (bigSep Finset.univ fun x : X => recvPay m x c) ⊢ iprop(rb1S (F := F) c Finset.univ ∗ rb2S c Finset.univ ∗ rb3S c Finset.univ) := by
  have h0 : ∀ g : Fin 3, recvPay m (0, g) c ⊢ rb1S (F := F) c (reg 4 g 2 2) := fun _ => anyOn_of _
  have h1 : ∀ g : Fin 3, recvPay m (1, g) c ⊢ rb1S (F := F) c (reg 4 g 0 2) := fun _ => anyOn_of _
  have h2 : ∀ g : Fin 3, recvPay m (2, g) c ⊢ rb2S (F := F) c (reg 2 g (0 + 1) 1) := fun _ => anyOn_of _
  have h3 : ∀ g : Fin 3, recvPay m (3, g) c ⊢ rb2S (F := F) c (reg 2 g 0 1) := fun _ => anyOn_of _
  have h4 : ∀ g : Fin 3, recvPay m (4, g) c ⊢ rb3S (F := F) c (reg 1 g 0 1) := fun _ => anyOn_of _
  rw [all15, thirds rb1S_add, halves rb1S_add, halves rb1S_add, halves rb1S_add, thirds rb2S_add, pair rb2S_add, pair rb2S_add, pair rb2S_add, thirds rb3S_add]
  iintro ⟨R00, R01, R02, R10, R11, R12, R20, R21, R22, R30, R31, R32, R40, R41, R42⟩
  isplitl [R10 R00 R11 R01 R12 R02]
  · isplitl [R10 R00]
    · isplitl [R10]; · iapply (h1 0) $$ R10
      iapply (h0 0) $$ R00
    isplitl [R11 R01]
    · isplitl [R11]; · iapply (h1 1) $$ R11
      iapply (h0 1) $$ R01
    isplitl [R12]; · iapply (h1 2) $$ R12
    iapply (h0 2) $$ R02
  isplitl [R30 R20 R31 R21 R32 R22]
  · isplitl [R30 R20]
    · isplitl [R30]; · iapply (h3 0) $$ R30
      iapply (h2 0) $$ R20
    isplitl [R31 R21]
    · isplitl [R31]; · iapply (h3 1) $$ R31
      iapply (h2 1) $$ R21
    isplitl [R32]; · iapply (h3 2) $$ R32
    iapply (h2 2) $$ R22
  isplitl [R40]; · iapply (h4 0) $$ R40
  isplitl [R41]; · iapply (h4 1) $$ R41
  iapply (h4 2) $$ R42

theorem slots_out : iprop((bigSep Finset.univ fun x : X => sendPay m x c) ∗ w2Val m c 0 0 ∗ w2Val m c 1 0 ∗ w2Val m c 2 0)
    ⊢ iprop(sbS (F := F) c Finset.univ ∗ wS c Finset.univ) := by
  have h0 : ∀ g : Fin 3, sendPay m (0, g) c ⊢ sbS (F := F) c (reg 4 g 2 2) := fun _ => anyOn_of _
  have h1 : ∀ g : Fin 3, sendPay m (1, g) c ⊢ sbS (F := F) c (reg 4 g 0 2) := fun _ => anyOn_of _
  have h2 : ∀ g : Fin 3, sendPay m (2, g) c ⊢ wS (F := F) c (reg 4 g (2 + 1) 1) := fun _ => anyOn_of _
  have h3 : ∀ g : Fin 3, sendPay m (3, g) c ⊢ wS (F := F) c (reg 4 g 2 1) := fun _ => anyOn_of _
  have h4 : ∀ g : Fin 3, sendPay m (4, g) c ⊢ wS (F := F) c (reg 4 g (0 + 1) 1) := fun _ => anyOn_of _
  have h5 : ∀ g : Fin 3, w2Val m c g 0 ⊢ wS (F := F) c (reg 4 g 0 1) := fun _ => anyOn_of _
  rw [all15, thirds sbS_add, halves sbS_add, halves sbS_add, halves sbS_add, thirds wS_add, halves wS_add, halves wS_add, halves wS_add,
    pair wS_add, pair wS_add, pair wS_add, pair wS_add, pair wS_add, pair wS_add]
  iintro ⟨⟨R00, R01, R02, R10, R11, R12, R20, R21, R22, R30, R31, R32, R40, R41, R42⟩, R50, R51, R52⟩
  isplitl [R10 R00 R11 R01 R12 R02]
  · isplitl [R10 R00]
    · isplitl [R10]; · iapply (h1 0) $$ R10
      iapply (h0 0) $$ R00
    isplitl [R11 R01]
    · isplitl [R11]; · iapply (h1 1) $$ R11
      iapply (h0 1) $$ R01
    isplitl [R12]; · iapply (h1 2) $$ R12
    iapply (h0 2) $$ R02
  isplitl [R50 R40 R30 R20]
  · isplitl [R50 R40]
    · isplitl [R50]; · iapply (h5 0) $$ R50
      iapply (h4 0) $$ R40
    isplitl [R30]; · iapply (h3 0) $$ R30
    iapply (h2 0) $$ R20
  isplitl [R51 R41 R31 R21]
  · isplitl [R51 R41]
    · isplitl [R51]; · iapply (h5 1) $$ R51
      iapply (h4 1) $$ R41
    isplitl [R31]; · iapply (h3 1) $$ R31
    iapply (h2 1) $$ R21
  isplitl [R52 R42]
  · isplitl [R52]; · iapply (h5 2) $$ R52
    iapply (h4 2) $$ R42
  isplitl [R32]; · iapply (h3 2) $$ R32
  iapply (h2 2) $$ R22

/-! ## The double-buffered tiles -/

theorem two_all (n C : ℕ) : (Finset.univ : Finset (Two n C).Idx) = plane n C 0 ∪ plane n C 1 := by
  ext i
  simp only [Finset.mem_univ, Finset.mem_union, mem_plane, true_iff]
  have : (i 0).val < 2 := (i 0).isLt
  omega
theorem plane_apart (n C : ℕ) : Disjoint (plane n C 0) (plane n C 1) := by
  rw [Finset.disjoint_left]; intro i hi hj
  rw [mem_plane] at hi hj; omega

abbrev atArg0 (c : Dev nD) : sProp 𝕄 := (ℓs main_arg0 c) ↦[Finset.univ]{fullShare} (m (ℓs main_arg0 c))
abbrev atArg1 (c : Dev nD) : sProp 𝕄 := (ℓs main_arg1 c) ↦[Finset.univ]{fullShare} (m (ℓs main_arg1 c))
/-- The semaphores of the staging copies, of the first operand's, the second's and the result's buffers. -/
abbrev locV (b : Fin 3) (c : Dev nD) : sProp 𝕄 :=
  iprop(semVal ((c : Thread nD τ), .dma (locS b 0)) 0 ∗ semVal ((c : Thread nD τ), .dma (locS b 1)) 0)
abbrev opBufs (c : Dev nD) : sProp 𝕄 :=
  iprop(anyOn (ℓs cc0_scratch0 c) Finset.univ ∗ anyOn (ℓs cc0_scratch1 c) Finset.univ ∗ anyOn (ℓs cc0_scratch2 c) Finset.univ ∗ anyOn (ℓs cc0_scratch3 c) Finset.univ)

theorem staA_eq : anyOn (F := F) (ℓs cc0_scratch2 c) Finset.univ = iprop((∃ f, stA (F := F) c 0 f) ∗ (∃ f, stA (F := F) c 1 f)) :=
  (congrArg (anyOn (ℓs cc0_scratch2 c)) (two_all 192 1536)).trans (anyOn_union (plane_apart 192 1536))
theorem staB_eq : anyOn (F := F) (ℓs cc0_scratch3 c) Finset.univ = iprop((∃ f, stB (F := F) c 0 f) ∗ (∃ f, stB (F := F) c 1 f)) :=
  (congrArg (anyOn (ℓs cc0_scratch3 c)) (two_all 96 3072)).trans (anyOn_union (plane_apart 96 3072))
theorem arg0_eq : atArg0 m c = iprop(srcA m c 0 Finset.univ ∗ srcA m c 1 Finset.univ) :=
  BI.Entails.antisymm (pointsTo_share (PosShare.mem_left_op_right fullShare)).1 (pointsTo_share (PosShare.mem_left_op_right fullShare)).2
theorem arg1_eq : atArg1 m c = iprop(srcB m c 0 Finset.univ ∗ srcB m c 1 Finset.univ) :=
  BI.Entails.antisymm (pointsTo_share (PosShare.mem_left_op_right fullShare)).1 (pointsTo_share (PosShare.mem_left_op_right fullShare)).2

theorem ops_in : iprop(opBufs (F := F) c ∗ atArg0 m c ∗ atArg1 m c ∗ locV (F := F) 0 c ∗ locV (F := F) 1 c) ⊢ OpsIn m c := by
  unfold opBufs
  rw [staA_eq, staB_eq, arg0_eq, arg1_eq]
  unfold OpsIn FreeA FreeB FillA FillB anyOn
  iintro ⟨⟨⟨%f0, A⟩, ⟨%f1, B⟩, ⟨SA0, SA1⟩, ⟨SB0, SB1⟩⟩, ⟨IA0, IA1⟩, ⟨IB0, IB1⟩, ⟨VA0, VA1⟩, ⟨VB0, VB1⟩⟩
  isplitl [VA0 SA0 IA0]
  · isplitl [VA0]; · iexact VA0
    isplitl [SA0]; · iexact SA0
    iexact IA0
  isplitl [VA1 SA1 IA1]
  · isplitl [VA1]; · iexact VA1
    isplitl [SA1]; · iexact SA1
    iexact IA1
  isplitl [VB0 SB0 IB0]
  · isplitl [VB0]; · iexact VB0
    isplitl [SB0]; · iexact SB0
    iexact IB0
  isplitl [VB1 SB1 IB1]
  · isplitl [VB1]; · iexact VB1
    isplitl [SB1]; · iexact SB1
    iexact IB1
  isplitl [A]
  · iexists f0
    isplitr; · ipureintro; exact fun j hj => absurd hj (Nat.not_lt_zero j)
    iexact A
  · iexists f1
    isplitr; · ipureintro; exact fun j hj => absurd hj (Nat.not_lt_zero j)
    iexact B

theorem ops_out : OpsOut m c ⊢ iprop(opBufs (F := F) c ∗ atArg0 m c ∗ atArg1 m c ∗ locV (F := F) 0 c ∗ locV (F := F) 1 c) := by
  unfold opBufs
  rw [staA_eq, staB_eq, arg0_eq, arg1_eq]
  unfold OpsOut FreeA FreeB FillA FillB anyOn
  iintro ⟨⟨VA0, SA0, IA0⟩, ⟨VA1, SA1, IA1⟩, ⟨VB0, SB0, IB0⟩, ⟨VB1, SB1, IB1⟩, ⟨%f0, -, A⟩, ⟨%f1, -, B⟩⟩
  isplitl [A B SA0 SA1 SB0 SB1]
  · isplitl [A]; · iexists f0; iexact A
    isplitl [B]; · iexists f1; iexact B
    isplitl [SA0 SA1]
    · isplitl [SA0]; · iexact SA0
      iexact SA1
    · isplitl [SB0]; · iexact SB0
      iexact SB1
  isplitl [IA0 IA1]
  · isplitl [IA0]; · iexact IA0
    iexact IA1
  isplitl [IB0 IB1]
  · isplitl [IB0]; · iexact IB0
    iexact IB1
  isplitl [VA0 VA1]
  · isplitl [VA0]; · iexact VA0
    iexact VA1
  isplitl [VB0]; · iexact VB0
  iexact VB1

/-! ## The result -/

theorem out_all : (Finset.univ : Finset (Mat 384 3072).Idx) = box 384 3072 0 384 0 1024 ∪ (box 384 3072 0 384 1024 1024 ∪ box 384 3072 0 384 2048 1024) := by
  ext i
  simp only [Finset.mem_univ, Finset.mem_union, mem_box, true_iff]
  have h0 : (i 0).val < 384 := (i 0).isLt
  have h1 : (i 1).val < 3072 := (i 1).isLt
  omega
theorem out_apart {a b : ℕ} (h : a + 1024 ≤ b) : Disjoint (box 384 3072 0 384 a 1024) (box 384 3072 0 384 b 1024) := by
  rw [Finset.disjoint_left]; intro i hi hj
  rw [mem_box] at hi hj; omega
theorem out_eq {P : Finset (Mat 384 3072).Idx → sProp (MT nD τ sig Unit (Elt F) ℕ UU ℕ)} (hP : ∀ A B, Disjoint A B → P (A ∪ B) = iprop(P A ∗ P B)) :
    P Finset.univ = iprop(P (box 384 3072 0 384 0 1024) ∗ P (box 384 3072 0 384 1024 1024) ∗ P (box 384 3072 0 384 2048 1024)) := by
  rw [out_all, hP _ _ (Finset.disjoint_union_right.mpr ⟨out_apart (by omega), out_apart (by omega)⟩), hP _ _ (out_apart (by omega))]

abbrev atOut (c : Dev nD) (f : (Mat 384 3072).Idx → Elt F .f32) (S : Finset (Mat 384 3072).Idx) : sProp 𝕄 := (ℓs main_v1 c) ↦[S]{fullShare} f
theorem atOut_add (f : (Mat 384 3072).Idx → Elt F .f32) (A B : Finset (Mat 384 3072).Idx) (h : Disjoint A B) :
    atOut (F := F) c f (A ∪ B) = iprop(atOut c f A ∗ atOut c f B) :=
  BI.Entails.antisymm (pointsTo_union h).1 (pointsTo_union h).2
theorem ob_eq : anyOn (F := F) (ℓs cc0_scratch9 c) Finset.univ = iprop(obAny c 0 ∗ obAny c 1) :=
  (congrArg (anyOn (ℓs cc0_scratch9 c)) (two_all 384 1024)).trans (anyOn_union (plane_apart 384 1024))

theorem res_in (f : (Mat 384 3072).Idx → Elt F .f32) :
    iprop(anyOn (F := F) (ℓs cc0_scratch9 c) Finset.univ ∗ atOut c f Finset.univ ∗ locV (F := F) 2 c) ⊢ ResIn c := by
  have h : ∀ g : Fin 3, atOut (F := F) c f (box 384 3072 0 384 (1024 * g.val) 1024) ⊢ outAny c g := fun g => by
    unfold outAny outP
    iintro H
    iexists f; iexact H
  rw [ob_eq, out_eq (atOut_add f)]
  unfold ResIn
  iintro ⟨⟨B0, B1⟩, ⟨O0, O1, O2⟩, V0, V1⟩
  isplitl [B0]; · iexact B0
  isplitl [B1]; · iexact B1
  isplitl [O0]; · iapply (h 0) $$ O0
  isplitl [O1]; · iapply (h 1) $$ O1
  isplitl [O2]; · iapply (h 2) $$ O2
  isplitl [V0]; · iapply (show semVal ((c : Thread nD τ), .dma (locS 2 0)) 0 ⊢ semO (F := F) c 0 from .rfl) $$ V0
  iapply (show semVal ((c : Thread nD τ), .dma (locS 2 1)) 0 ⊢ semO (F := F) c 1 from .rfl) $$ V1

theorem res_out : ResOut m c ⊢ iprop(anyOn (F := F) (ℓs cc0_scratch9 c) Finset.univ ∗ atOut c (Oout m c) Finset.univ ∗ locV (F := F) 2 c) := by
  have e0 : obAny (F := F) c 2 = obAny c 0 := rfl
  have h : ∀ g : Fin 3, outVal m c g ⊢ atOut (F := F) c (Oout m c) (box 384 3072 0 384 (1024 * g.val) 1024) := fun g => .rfl
  rw [ob_eq, out_eq (atOut_add _)]
  unfold ResOut
  iintro ⟨B1, B2, O0, O1, O2, V1, V2⟩
  isplitl [B1 B2]
  · isplitl [B2]; · iapply ((obVal_any m c 2).trans (Entails.of_eq e0)) $$ B2
    iapply (obVal_any m c 1) $$ B1
  isplitl [O0 O1 O2]
  · isplitl [O0]; · iapply (h 0) $$ O0
    isplitl [O1]; · iapply (h 1) $$ O1
    iapply (h 2) $$ O2
  isplitl [V2]; · iapply (show semO (F := F) c 2 ⊢ semVal ((c : Thread nD τ), .dma (locS 2 0)) 0 from .rfl) $$ V2
  iapply (show semO (F := F) c 1 ⊢ semVal ((c : Thread nD τ), .dma (locS 2 1)) 0 from .rfl) $$ V1
end Split

end Cert.RS
-- ==== Proof.RS.Ghost.lean ====
/-
  The cells of all the devices set up: their invariants, the duties dealt to the devices that pay them, and
  the credit each device waits with.
-/
module

public import proofs.«01_k».proof.Proof.RS.Split

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

section Ghost

/-! ## Sums over the cells of a device -/

/-- The cells of a device: the two barriers, each exchange's sending end, each exchange's receiving end. -/
def enumF : Fin 2 ⊕ (X ⊕ X) → Fin 32
  | .inl i => ⟨i.val, by omega⟩ | .inr (.inl x) => kSend x | .inr (.inr x) => kRecv x
def enum : Fin 2 ⊕ (X ⊕ X) ≃ Fin 32 := Equiv.ofBijective enumF (by decide)

theorem all2 (f : Fin 2 → sProp (MT nD τ sig Unit (Elt F) ℕ UU ℕ)) : bigSep Finset.univ f = iprop(f 0 ∗ f 1) := by
  rw [bigSep_univ_eq_bigSepL [0, 1] (by decide) (by decide)]
  rfl

theorem cells32 (f : Fin 32 → sProp (MT nD τ sig Unit (Elt F) ℕ UU ℕ)) :
    bigSep Finset.univ f = iprop((f 0 ∗ f 1) ∗ (bigSep Finset.univ fun x : X => f (kSend x)) ∗ bigSep Finset.univ fun x : X => f (kRecv x)) := by
  rw [bigSep_univ_equiv enum, bigSep_univ_sum, bigSep_univ_sum, all2]
  rfl

theorem cellsOf (Φ : GSem nD τ sig → sProp (MT nD τ sig Unit (Elt F) ℕ UU ℕ)) (c : Dev nD) :
    (bigSep Finset.univ fun k : Fin 32 => Φ (kcell (c, k)))
      = iprop((Φ (barCell c) ∗ Φ (exitCell c)) ∗ (bigSep Finset.univ fun x : X => Φ (sendCell x c)) ∗ bigSep Finset.univ fun x : X => Φ (recvCell x c)) := by
  rw [cells32, bigSep_congr (s := Finset.univ) fun (x : X) _ => congrArg Φ (kcell_send x c), bigSep_congr (s := Finset.univ) fun (x : X) _ => congrArg Φ (kcell_recv x c)]
  rfl

theorem kcell_inj : Function.Injective (kcell : Dev nD × Fin 32 → GSem nD τ sig) := by
  rintro ⟨c, k⟩ ⟨c', k'⟩ h
  have h1 : c = c' := congrArg (fun g : GSem nD τ sig => g.1.1) h
  subst h1
  have h2 : k = k' := csem_inj (congrArg Prod.snd h)
  subst h2; rfl
def xCells : Finset (GSem nD τ sig) := Finset.univ.map ⟨kcell, kcell_inj⟩

/-- The duties of a device's own cells: three at each barrier, one at each end of each exchange. -/
abbrev J : Type := Fin 3 ⊕ (Fin 3 ⊕ (X ⊕ X))
def tk : J → Fin 32 × Fin 3
  | .inl a => (0, a) | .inr (.inl a) => (1, a) | .inr (.inr (.inl x)) => (kSend x, 0) | .inr (.inr (.inr x)) => (kRecv x, 0)
theorem tk_inj : Function.Injective tk := by decide
abbrev tokOf (cj : Dev nD × J) : GSem nD τ sig × ℕ × Fin 3 := (kcell (cj.1, (tk cj.2).1), 0, (tk cj.2).2)
theorem tokOf_inj : Function.Injective tokOf := by
  rintro ⟨c, j⟩ ⟨c', j'⟩ h
  have h1 := kcell_inj (congrArg Prod.fst h)
  have h2 : (tk j).2 = (tk j').2 := congrArg (fun x : GSem nD τ sig × ℕ × Fin 3 => x.2.2) h
  have h3 : c = c' := congrArg Prod.fst h1
  have h4 : (tk j).1 = (tk j').1 := congrArg Prod.snd h1
  have h5 : j = j' := tk_inj (Prod.ext h4 h2)
  subst h3 h5; rfl
def xToks : Finset (GSem nD τ sig × ℕ × Fin 3) := Finset.univ.map ⟨tokOf, tokOf_inj⟩

def u₀ : UU := (initOf (Pipeline.cells cfgs cellOf_inj) (Pipeline.launchToks cfgs cellOf_inj), (initOf xCells xToks, 1))

/-- The duty tokens of device `c`'s own cells, -/
def toks (c : Dev nD) : sProp (MT nD τ sig Unit (Elt F) ℕ UU ℕ) :=
  iprop((bigSep Finset.univ fun a : Fin 3 => dutyTok ER (barCell c) 0 a) ∗ (bigSep Finset.univ fun a : Fin 3 => dutyTok ER (exitCell c) 0 a)
    ∗ (bigSep Finset.univ fun x : X => dutyTok ER (sendCell x c) 0 0) ∗ bigSep Finset.univ fun x : X => dutyTok ER (recvCell x c) 0 0)
/-- and of the duties it pays: its partners' barriers, its own sends, its partners' landings. -/
def pays (c : Dev nD) : sProp (MT nD τ sig Unit (Elt F) ℕ UU ℕ) :=
  iprop((bigSep Finset.univ fun a : Fin 3 => dutyTok ER (barCell (ax a c)) 0 a) ∗ (bigSep Finset.univ fun a : Fin 3 => dutyTok ER (exitCell (ax a c)) 0 a)
    ∗ (bigSep Finset.univ fun x : X => dutyTok ER (sendCell x c) 0 0) ∗ bigSep Finset.univ fun x : X => dutyTok ER (recvCell x (peer x c)) 0 0)

theorem toks_eq (c : Dev nD) : (bigSep Finset.univ fun j : J => (dutyTok ER (tokOf (c, j)).1 (tokOf (c, j)).2.1 (tokOf (c, j)).2.2 : sProp (MT nD τ sig Unit (Elt F) ℕ UU ℕ))) = toks c := by
  rw [bigSep_univ_sum, bigSep_univ_sum, bigSep_univ_sum]
  unfold toks
  refine congrArg₂ BI.sep rfl (congrArg₂ BI.sep rfl (congrArg₂ BI.sep ?_ ?_))
  · exact bigSep_congr fun x _ => congrArg (fun g => dutyTok ER g 0 0) (kcell_send x c)
  · exact bigSep_congr fun x _ => congrArg (fun g => dutyTok ER g 0 0) (kcell_recv x c)

/-- A family over devices and a finite index, each index's member moved along an involution of the devices. -/
theorem around {I : Type} [Fintype I] [DecidableEq I] (f : I → Dev nD → sProp (MT nD τ sig Unit (Elt F) ℕ UU ℕ)) (s : I → Dev nD → Dev nD) (hs : ∀ i c, s i (s i c) = c) :
    (bigSep Finset.univ fun c : Dev nD => bigSep Finset.univ fun i : I => f i c) = bigSep Finset.univ fun c : Dev nD => bigSep Finset.univ fun i : I => f i (s i c) := by
  let Φ : Dev nD × I → sProp (MT nD τ sig Unit (Elt F) ℕ UU ℕ) := fun ci => f ci.2 ci.1
  let Ψ : Dev nD × I → sProp (MT nD τ sig Unit (Elt F) ℕ UU ℕ) := fun ci => f ci.2 (s ci.2 ci.1)
  refine (bigSep_univ_prod Φ).symm.trans (Eq.trans ?_ (bigSep_univ_prod Ψ))
  exact bigSep_univ_equiv ⟨fun ci => (s ci.2 ci.1, ci.2), fun ci => (s ci.2 ci.1, ci.2), fun ci => Prod.ext (hs ci.2 ci.1) rfl, fun ci => Prod.ext (hs ci.2 ci.1) rfl⟩ Φ
theorem toks_around : (bigSep Finset.univ fun c : Dev nD => toks (F := F) c) = bigSep Finset.univ fun c : Dev nD => pays c := by
  unfold toks pays
  rw [bigSep_sep', bigSep_sep', bigSep_sep', bigSep_sep', bigSep_sep', bigSep_sep',
    around (fun (a : Fin 3) c => dutyTok ER (barCell c) 0 a) ax ax_ax, around (fun (a : Fin 3) c => dutyTok ER (exitCell c) 0 a) ax ax_ax,
    around (fun (x : X) c => dutyTok ER (recvCell x c) 0 0) peer peer_peer]

/-! ## What the launch deals -/

/-- The kernel's own semaphores: the staging copies', the exit barrier's, the exchanges'. -/
def osem : Fin 6 ⊕ (Fin 1 ⊕ (X ⊕ X)) → SemLoc sig
  | .inl i => .dma ⟨i.val, by show _ < 36; omega⟩ | .inr (.inl _) => .reg exitS
  | .inr (.inr (.inl x)) => .dma (sendS x) | .inr (.inr (.inr x)) => .dma (recvS x)
theorem ownSemFacts : Pipeline.OwnSemFacts cfg0.spec osem := by decide

abbrev ownS (c : Dev nD) : sProp 𝕄 := Pipeline.ownSems0 (Ix := Unit) (Name := ℕ) (U := UU) (Lvl := ℕ) (Val := Elt F) (τ := τ) osem c
def locs (c : Dev nD) : sProp (MT nD τ sig Unit (Elt F) ℕ UU ℕ) := bigSep Finset.univ fun i : Fin 6 => semVal ((c : Thread nD τ), osem (.inl i)) 0
theorem locs_eq (c : Dev nD) : locs (F := F) c = iprop(semVal ((c : Thread nD τ), .dma (locS 0 0)) 0 ∗ semVal ((c : Thread nD τ), .dma (locS 0 1)) 0
    ∗ semVal ((c : Thread nD τ), .dma (locS 1 0)) 0 ∗ semVal ((c : Thread nD τ), .dma (locS 1 1)) 0 ∗ semVal ((c : Thread nD τ), .dma (locS 2 0)) 0 ∗ semVal ((c : Thread nD τ), .dma (locS 2 1)) 0) := by
  unfold locs
  rw [bigSep_univ_eq_bigSepL [0, 1, 2, 3, 4, 5] (by decide) (by decide)]
  rfl
theorem ownS_eq (c : Dev nD) : ownS (F := F) c = iprop(locs c ∗ semVal (exitCell c) 0
    ∗ (bigSep Finset.univ fun x : X => semVal (sendCell x c) 0) ∗ bigSep Finset.univ fun x : X => semVal (recvCell x c) 0) := by
  unfold ownS Pipeline.ownSems0
  rw [bigSep_univ_sum, bigSep_univ_sum, bigSep_univ_sum, bigSep_univ_eq_bigSepL (I := Fin 1) [0] (by decide) (by decide), bigSepL_singleton]
  rfl
theorem unscopedSems_eq (c : Dev nD) : (unscopedSems0 c : sProp (MT nD τ sig Unit (Elt F) ℕ UU ℕ)) = semVal (barCell c) 0 := by
  unfold unscopedSems0; rw [bigSep_eq_bigSepL_of_eq [SemLoc.reg barS] (by decide) (by decide)]; rfl
/-- Together they are the staging copies' and all the cells'. -/
theorem sems_eq (c : Dev nD) : iprop(ownS (F := F) c ∗ unscopedSems0 c) = iprop(locs c ∗ bigSep Finset.univ fun k : Fin 32 => semVal (kcell (c, k)) 0) := by
  rw [cellsOf (fun g => semVal g 0) c, ownS_eq, unscopedSems_eq]
  have h1 : iprop((locs (F := F) c ∗ semVal (exitCell c) 0 ∗ (bigSep Finset.univ fun x : X => semVal (sendCell x c) 0) ∗ bigSep Finset.univ fun x : X => semVal (recvCell x c) 0) ∗ semVal (barCell c) 0)
      ⊢ iprop(locs c ∗ (semVal (barCell c) 0 ∗ semVal (exitCell c) 0) ∗ (bigSep Finset.univ fun x : X => semVal (sendCell x c) 0) ∗ bigSep Finset.univ fun x : X => semVal (recvCell x c) 0) := by
    iintro ⟨⟨HL, HE, HS, HR⟩, HB⟩
    isplitl [HL]; · iexact HL
    isplitl [HB HE]
    · isplitl [HB]; · iexact HB
      iexact HE
    isplitl [HS]; · iexact HS
    iexact HR
  have h2 : iprop(locs (F := F) c ∗ (semVal (barCell c) 0 ∗ semVal (exitCell c) 0) ∗ (bigSep Finset.univ fun x : X => semVal (sendCell x c) 0) ∗ bigSep Finset.univ fun x : X => semVal (recvCell x c) 0)
      ⊢ iprop((locs c ∗ semVal (exitCell c) 0 ∗ (bigSep Finset.univ fun x : X => semVal (sendCell x c) 0) ∗ bigSep Finset.univ fun x : X => semVal (recvCell x c) 0) ∗ semVal (barCell c) 0) := by
    iintro ⟨HL, ⟨HB, HE⟩, HS, HR⟩
    isplitr [HB]
    · isplitl [HL]; · iexact HL
      isplitl [HE]; · iexact HE
      isplitl [HS]; · iexact HS
      iexact HR
    iexact HB
  exact BI.Entails.antisymm h1 h2

def G (c : Dev nD) : sProp (MT nD τ sig Unit (Elt F) ℕ UU ℕ) :=
  iprop((bigSep Finset.univ fun k : Fin 32 => roundState ER (Rd m) (kcell (c, k)) 0)
    ∗ (bigSep Finset.univ fun k : Fin 32 => iprop(atPos ER (kcell (c, k)) 0 ∅ 0 ∗ reached ER (kcell (c, k)) 0)) ∗ toks c)
/-- Every cell's invariant, under the names `K`, and that it has reached its round. -/
def records (K : Dev nD × Fin 32 → ℕ) : sProp (MT nD τ sig Unit (Elt F) ℕ UU ℕ) :=
  bigSep Finset.univ fun ck : Dev nD × Fin 32 => iprop(cellInv ER (Rd m) (K ck) (kcell ck) ∗ reached ER (kcell ck) 0)
instance records_persistent (K : Dev nD × Fin 32 → ℕ) : BI.Persistent (records m K) := by unfold records; infer_instance
def linear (c : Dev nD) : sProp (MT nD τ sig Unit (Elt F) ℕ UU ℕ) :=
  iprop((bigSep Finset.univ fun k : Fin 32 => atPos ER (kcell (c, k)) 0 ∅ 0) ∗ pays c)
def G' (c : Dev nD) : sProp (MT nD τ sig Unit (Elt F) ℕ UU ℕ) := iprop(∃ K, records m K ∗ locs c ∗ linear c)

theorem fund_cells : BI.own (ER (initOf xCells xToks)) ⊢ (|==> bigSep Finset.univ (G m) : sProp (MT nD τ sig Unit (Elt F) ℕ UU ℕ)) := by
  have hX (Φ : GSem nD τ sig → sProp (MT nD τ sig Unit (Elt F) ℕ UU ℕ)) : bigSep xCells Φ = bigSep Finset.univ fun c : Dev nD => bigSep Finset.univ fun k : Fin 32 => Φ (kcell (c, k)) := by
    unfold xCells; rw [bigSep_map, bigSep_univ_prod]; rfl
  have hT : bigSep xToks (fun x => (dutyTok ER x.1 x.2.1 x.2.2 : sProp (MT nD τ sig Unit (Elt F) ℕ UU ℕ))) = bigSep Finset.univ fun c : Dev nD => toks c := by
    unfold xToks; rw [bigSep_map, bigSep_univ_prod]
    exact bigSep_congr fun c _ => toks_eq c
  iintro HX
  imod (Rounds.fund ER (Rd m) xCells xToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

theorem core_alloc (c : Dev nD) :
    iprop(ownS (F := F) c ∗ unscopedSems0 c ∗ G m c)
      ⊢ |={Set.univ}=> iprop((bigSep Finset.univ fun k : Fin 32 => iprop(∃ κ : ℕ, cellInv ER (Rd m) κ (kcell (c, k))))
          ∗ (bigSep Finset.univ fun k : Fin 32 => iprop(atPos ER (kcell (c, k)) 0 ∅ 0 ∗ reached ER (kcell (c, k)) 0)) ∗ toks c ∗ locs c) := by
  have ha : iprop((bigSep Finset.univ fun k : Fin 32 => semVal (kcell (c, k)) 0) ∗ bigSep Finset.univ fun k : Fin 32 => roundState ER (Rd m) (kcell (c, k)) 0)
      ⊢ (|={Set.univ}=> bigSep Finset.univ fun k : Fin 32 => iprop(∃ κ : ℕ, cellInv ER (Rd m) κ (kcell (c, k))) : sProp (MT nD τ sig Unit (Elt F) ℕ UU ℕ)) := by
    rw [← bigSep_sep']
    exact (bigSep_mono fun k _ => (Rounds.body_intro ER (Rd m) (kcell (c, k))).trans inv_alloc).trans (bigSep_fupd _ _)
  unfold G
  iintro ⟨Hos, Hus, Hst, Hat, Htok⟩
  ihave Hv := (Entails.of_eq (sems_eq (F := F) c)) $$ [Hos Hus]
  · isplitl [Hos]; · iexact Hos
    iexact Hus
  icases Hv with ⟨HL, Hv⟩
  imod ha $$ [Hv Hst] with Hinv
  · isplitl [Hv]; · iexact Hv
    iexact Hst
  imodintro
  isplitl [Hinv]; · iexact Hinv
  isplitl [Hat]; · iexact Hat
  isplitl [Htok]; · iexact Htok
  iexact HL

theorem ghost_intro (K : Dev nD × Fin 32 → ℕ) (c : Dev nD) : iprop(records m K ∗ locs c ∗ linear c) ⊢ G' m c := by
  unfold G'
  iintro H
  iexists K; iexact H

theorem regroup :
    (bigSep Finset.univ fun c : Dev nD => iprop((bigSep Finset.univ fun k : Fin 32 => iprop(∃ κ : ℕ, cellInv ER (Rd m) κ (kcell (c, k))))
          ∗ (bigSep Finset.univ fun k : Fin 32 => iprop(atPos ER (kcell (c, k)) 0 ∅ 0 ∗ reached ER (kcell (c, k)) 0)) ∗ toks c ∗ locs c) : sProp (MT nD τ sig Unit (Elt F) ℕ UU ℕ))
      ⊢ bigSep Finset.univ (G' m) := by
  rw [bigSep_sep', bigSep_sep', bigSep_sep', toks_around, ← bigSep_univ_prod (fun ck : Dev nD × Fin 32 => iprop(∃ κ : ℕ, cellInv ER (Rd m) κ (kcell ck))),
    bigSep_congr (s := Finset.univ) (fun (c : Dev nD) _ => bigSep_sep' Finset.univ (fun k : Fin 32 => (atPos ER (kcell (c, k)) 0 ∅ 0 : sProp (MT nD τ sig Unit (Elt F) ℕ UU ℕ))) (fun k => reached ER (kcell (c, k)) 0)),
    bigSep_sep', ← bigSep_univ_prod (fun ck : Dev nD × Fin 32 => (reached ER (kcell ck) 0 : sProp (MT nD τ sig Unit (Elt F) ℕ UU ℕ)))]
  have hr : ∀ K, iprop(records m K ∗ bigSep Finset.univ fun c : Dev nD => iprop(locs c ∗ linear c)) ⊢ bigSep Finset.univ (G' m) := fun K =>
    (sep_mono_left (BI.bigSep_of_persistent Finset.univ (records m K))).trans (by rw [← bigSep_sep']; exact bigSep_mono fun c _ => ghost_intro m K c)
  iintro ⟨HI, ⟨Hat, HR⟩, Htok, HL⟩
  ihave HK := (BI.bigSep_exists_pi Finset.univ (fun (ck : Dev nD × Fin 32) (κ : ℕ) => (cellInv ER (Rd m) κ (kcell ck) : sProp (MT nD τ sig Unit (Elt F) ℕ UU ℕ)))) $$ HI
  icases HK with ⟨%K, HI⟩
  iapply (hr K)
  isplitl [HI HR]
  · unfold records; rw [bigSep_sep']
    isplitl [HI]; · iexact HI
    iexact HR
  · unfold linear; rw [bigSep_sep', bigSep_sep']
    isplitl [HL]; · iexact HL
    isplitl [Hat]; · iexact Hat
    iexact Htok

theorem glob : (bigSep Finset.univ fun c => iprop(ownS (F := F) c ∗ unscopedSems0 c ∗ G m c) : sProp (MT nD τ sig Unit (Elt F) ℕ UU ℕ))
    ⊢ |={Set.univ}=> bigSep Finset.univ (G' m) :=
  ((bigSep_mono fun c _ => core_alloc m c).trans (bigSep_fupd _ _)).trans (BI.fupd_mono (regroup m))

/-! ## The launch's credit -/

/-- The cell a device itself is paid at by a payment of this kind. -/
def Debt.own (c : Dev nD) : Debt → GSem nD τ sig
  | .bar _ => barCell c | .xf x => recvCell x c | .ex _ => exitCell c
def dues (c : Dev nD) : List Debt → sProp (MT nD τ sig Unit (Elt F) ℕ UU ℕ)
  | [] => iprop(emp)
  | d :: l => iprop(dues c l ∗ cred (tallyAt (d.own c) () d.amt))

theorem due_one (d : Debt) (c : Dev nD) : (Pipeline.launchCred (fun c => tallyAt (d.cell c) () d.amt) c : sProp (MT nD τ sig Unit (Elt F) ℕ UU ℕ)) ⊢ cred (tallyAt (d.own c) () d.amt) := by
  cases d with
  | bar a => exact Pipeline.launchCred_tallyAt _ (ax a) (ax a) (ax_ax a) (ax_ax a) () _ c
  | xf x => exact Pipeline.launchCred_tallyAt _ (peer x) (peer x) (peer_peer x) (peer_peer x) () _ c
  | ex a => exact Pipeline.launchCred_tallyAt _ (ax a) (ax a) (ax_ax a) (ax_ax a) () _ c
theorem dues_of (c : Dev nD) (l : List Debt) : (Pipeline.launchCred (fun c => debts c l) c : sProp (MT nD τ sig Unit (Elt F) ℕ UU ℕ)) ⊢ dues c l := by
  induction l with
  | nil =>
    iintro -
    unfold dues
    iempintro
  | cons d l ih =>
    have h : (Pipeline.launchCred (fun c => debts c (d :: l)) c : sProp (MT nD τ sig Unit (Elt F) ℕ UU ℕ))
        = iprop(Pipeline.launchCred (fun c => debts c l) c ∗ Pipeline.launchCred (fun c => tallyAt (d.cell c) () d.amt) c) := Pipeline.launchCred_add _ _ c
    rw [h]
    unfold dues
    exact BI.sep_mono ih (due_one d c)

theorem cred3 (g : GSem nD τ sig) : iprop(cred (tallyAt g () 1) ∗ cred (tallyAt g () 1) ∗ cred (tallyAt g () 1)) ⊢ (cred (tallyAt g () 3) : sProp (MT nD τ sig Unit (Elt F) ℕ UU ℕ)) := by
  have e : (tallyAt g () 3 : CellTallies nD τ sig Unit) = tallyAt g () 1 + (tallyAt g () 1 + tallyAt g () 1) := by rw [tallyAt_add, tallyAt_add]
  rw [e]
  iintro ⟨H1, H2, H3⟩
  iapply (cred_add _ _).2
  isplitl [H1]; · iexact H1
  iapply (cred_add _ _).2
  isplitl [H2]; · iexact H2
  iexact H3

/-- The credit device `c` waits with. -/
def creds (c : Dev nD) : sProp (MT nD τ sig Unit (Elt F) ℕ UU ℕ) :=
  iprop(cred (tallyAt (barCell c) () 3) ∗ cred (tallyAt (exitCell c) () 3) ∗ bigSep Finset.univ fun x : X => credR x c)
theorem creds_intro (c : Dev nD) : (Pipeline.launchCred (fun c => debts c allDebts) c : sProp (MT nD τ sig Unit (Elt F) ℕ UU ℕ)) ⊢ creds c := by
  refine (dues_of c allDebts).trans ?_
  have hx : ∀ x : X, (cred (tallyAt ((Debt.xf x).own c) () (Debt.xf x).amt) : sProp (MT nD τ sig Unit (Elt F) ℕ UU ℕ)) ⊢ credR x c := fun _ => .rfl
  unfold creds
  rw [all15]
  simp only [allDebts, dues]
  iintro ⟨⟨⟨⟨⟨⟨⟨⟨⟨⟨⟨⟨⟨⟨⟨⟨⟨⟨⟨⟨⟨-, E2⟩, E1⟩, E0⟩, X42⟩, X41⟩, X40⟩, X31⟩, X21⟩, X32⟩, X22⟩, X30⟩, X20⟩, X12⟩, X11⟩, X01⟩, X10⟩, X02⟩, X00⟩, B2⟩, B1⟩, B0⟩
  isplitl [B0 B1 B2]
  · iapply (cred3 (barCell c))
    isplitl [B0]; · iexact B0
    isplitl [B1]; · iexact B1
    iexact B2
  isplitl [E0 E1 E2]
  · iapply (cred3 (exitCell c))
    isplitl [E0]; · iexact E0
    isplitl [E1]; · iexact E1
    iexact E2
  isplitl [X00]; · iapply (hx (0, 0)) $$ X00
  isplitl [X01]; · iapply (hx (0, 1)) $$ X01
  isplitl [X02]; · iapply (hx (0, 2)) $$ X02
  isplitl [X10]; · iapply (hx (1, 0)) $$ X10
  isplitl [X11]; · iapply (hx (1, 1)) $$ X11
  isplitl [X12]; · iapply (hx (1, 2)) $$ X12
  isplitl [X20]; · iapply (hx (2, 0)) $$ X20
  isplitl [X21]; · iapply (hx (2, 1)) $$ X21
  isplitl [X22]; · iapply (hx (2, 2)) $$ X22
  isplitl [X30]; · iapply (hx (3, 0)) $$ X30
  isplitl [X31]; · iapply (hx (3, 1)) $$ X31
  isplitl [X32]; · iapply (hx (3, 2)) $$ X32
  isplitl [X40]; · iapply (hx (4, 0)) $$ X40
  isplitl [X41]; · iapply (hx (4, 1)) $$ X41
  iapply (hx (4, 2)) $$ X42
end Ghost

end Cert.RS
-- ==== Proof.RS.Launch.lean ====
/-
  The kernel on one device, from what the launch deals it to what it gives back.
-/
module

public import proofs.«01_k».proof.Proof.RS.Ghost
public import Idealize.ShloMosaic.Lib.Rounds.Family

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

section Launch
variable (ρ : Dev nD → PrngReg)

/-! ## What the kernel starts from and ends with on a device -/

/-- The scratch buffers, at whatever they hold. -/
def scr (c : Dev nD) : sProp (MT nD τ sig Unit (Elt F) ℕ UU ℕ) :=
  iprop(opBufs c ∗ sbS c Finset.univ ∗ (rb1S c Finset.univ ∗ rb2S c Finset.univ ∗ rb3S c Finset.univ) ∗ wS c Finset.univ ∗ anyOn (ℓs cc0_scratch9 c) Finset.univ)
theorem scr_eq (c : Dev nD) : (Pipeline.scopedRest (Ix := Unit) (Name := ℕ) (U := UU) (Lvl := ℕ) (Val := Elt F) cfg0.spec c : sProp (MT nD τ sig Unit (Elt F) ℕ UU ℕ)) = scr c := by
  have e : (Pipeline.scopedRest (Ix := Unit) (Name := ℕ) (U := UU) (Lvl := ℕ) (Val := Elt F) cfg0.spec c : sProp (MT nD τ sig Unit (Elt F) ℕ UU ℕ))
      = iprop(anyOn (ℓs cc0_scratch0 c) Finset.univ ∗ anyOn (ℓs cc0_scratch1 c) Finset.univ ∗ anyOn (ℓs cc0_scratch2 c) Finset.univ ∗ anyOn (ℓs cc0_scratch3 c) Finset.univ
        ∗ sbS c Finset.univ ∗ rb1S c Finset.univ ∗ wS c Finset.univ ∗ rb2S c Finset.univ ∗ rb3S c Finset.univ ∗ anyOn (ℓs cc0_scratch9 c) Finset.univ) := scopedRest0_eq c
  rw [e]
  unfold scr opBufs
  have h1 : iprop(anyOn (F := F) (ℓs cc0_scratch0 c) Finset.univ ∗ anyOn (ℓs cc0_scratch1 c) Finset.univ ∗ anyOn (ℓs cc0_scratch2 c) Finset.univ ∗ anyOn (ℓs cc0_scratch3 c) Finset.univ
        ∗ sbS c Finset.univ ∗ rb1S c Finset.univ ∗ wS c Finset.univ ∗ rb2S c Finset.univ ∗ rb3S c Finset.univ ∗ anyOn (ℓs cc0_scratch9 c) Finset.univ)
      ⊢ iprop((anyOn (ℓs cc0_scratch0 c) Finset.univ ∗ anyOn (ℓs cc0_scratch1 c) Finset.univ ∗ anyOn (ℓs cc0_scratch2 c) Finset.univ ∗ anyOn (ℓs cc0_scratch3 c) Finset.univ)
        ∗ sbS c Finset.univ ∗ (rb1S c Finset.univ ∗ rb2S c Finset.univ ∗ rb3S c Finset.univ) ∗ wS c Finset.univ ∗ anyOn (ℓs cc0_scratch9 c) Finset.univ) := by
    iintro ⟨H0, H1, H2, H3, H4, H5, H6, H7, H8, H9⟩
    isplitl [H0 H1 H2 H3]
    · isplitl [H0]; · iexact H0
      isplitl [H1]; · iexact H1
      isplitl [H2]; · iexact H2
      iexact H3
    isplitl [H4]; · iexact H4
    isplitl [H5 H7 H8]
    · isplitl [H5]; · iexact H5
      isplitl [H7]; · iexact H7
      iexact H8
    isplitl [H6]; · iexact H6
    iexact H9
  have h2 : iprop((anyOn (F := F) (ℓs cc0_scratch0 c) Finset.univ ∗ anyOn (ℓs cc0_scratch1 c) Finset.univ ∗ anyOn (ℓs cc0_scratch2 c) Finset.univ ∗ anyOn (ℓs cc0_scratch3 c) Finset.univ)
        ∗ sbS c Finset.univ ∗ (rb1S c Finset.univ ∗ rb2S c Finset.univ ∗ rb3S c Finset.univ) ∗ wS c Finset.univ ∗ anyOn (ℓs cc0_scratch9 c) Finset.univ)
      ⊢ iprop(anyOn (ℓs cc0_scratch0 c) Finset.univ ∗ anyOn (ℓs cc0_scratch1 c) Finset.univ ∗ anyOn (ℓs cc0_scratch2 c) Finset.univ ∗ anyOn (ℓs cc0_scratch3 c) Finset.univ
        ∗ sbS c Finset.univ ∗ rb1S c Finset.univ ∗ wS c Finset.univ ∗ rb2S c Finset.univ ∗ rb3S c Finset.univ ∗ anyOn (ℓs cc0_scratch9 c) Finset.univ) := by
    iintro ⟨⟨H0, H1, H2, H3⟩, H4, ⟨H5, H7, H8⟩, H6, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  exact BI.Entails.antisymm h1 h2

def start (c : Dev nD) : sProp (MT nD τ sig Unit (Elt F) ℕ UU ℕ) :=
  iprop((∃ K, Ctx m K ∗ locs c ∗ linear c) ∗ creds c ∗ atArg0 m c ∗ atArg1 m c ∗ atOut c (m (ℓs main_v1 c)) Finset.univ)
def Φ₀ (c : Dev nD) : sProp (MT nD τ sig Unit (Elt F) ℕ UU ℕ) := iprop(start m c ∗ scr c)
/-- The operands as they were, the result, every semaphore at zero. -/
def fin (c : Dev nD) : sProp (MT nD τ sig Unit (Elt F) ℕ UU ℕ) :=
  iprop(unscopedSems0 c ∗ atArg0 m c ∗ atArg1 m c ∗ atOut c (Oout m c) Finset.univ)
def Φ₁ (c : Dev nD) : sProp (MT nD τ sig Unit (Elt F) ℕ UU ℕ) := iprop(fin m c ∗ ownS c ∗ scr c)

def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => debts c allDebts
    | ⟨_ + 1, _⟩ => 0

/-! ## The body -/

theorem done_cells (c : Dev nD) : iprop(atPos ER (barCell c) 1 ∅ 0 ∗ atPos ER (exitCell c) 1 ∅ 0 ∗ bigSep Finset.univ fun x : X => Ex3 (F := F) x c)
    ⊢ bigSep Finset.univ fun k : Fin 32 => atPos ER (kcell (c, k)) 1 ∅ 0 := by
  rw [cellsOf (fun g => atPos ER g 1 ∅ 0) c]
  unfold Ex3
  rw [bigSep_sep']
  iintro ⟨HB, HE, HS, HR⟩
  isplitl [HB HE]
  · isplitl [HB]; · iexact HB
    iexact HE
  isplitl [HS]; · iexact HS
  iexact HR

theorem close_cells (K : Dev nD × Fin 32 → ℕ) (c : Dev nD) :
    Ctx m K ⊢ iprop((bigSep Finset.univ fun k : Fin 32 => atPos ER (kcell (c, k)) 1 ∅ 0) -∗ |={Set.univ}=> bigSep Finset.univ fun k : Fin 32 => semVal (kcell (c, k)) 0) := by
  have h : iprop(Ctx m K ∗ bigSep Finset.univ fun k : Fin 32 => atPos ER (kcell (c, k)) 1 ∅ 0)
      ⊢ bigSep Finset.univ fun k : Fin 32 => iprop(cellInv ER (Rd m) (K (c, k)) (kcell (c, k)) ∗ atPos ER (kcell (c, k)) 1 ∅ 0) := by
    refine (sep_mono_left (BI.bigSep_of_persistent (Finset.univ : Finset (Fin 32)) (Ctx m K))).trans ?_
    rw [← bigSep_sep']
    have h1 : ∀ k : Fin 32, iprop(Ctx m K ∗ atPos ER (kcell (c, k)) 1 ∅ 0) ⊢ iprop(cellInv ER (Rd m) (K (c, k)) (kcell (c, k)) ∗ atPos ER (kcell (c, k)) 1 ∅ 0) := fun k => by
      iintro ⟨HC, Hat⟩
      ihave H := (Ctx_cell m K c k rfl) $$ HC
      icases H with ⟨HI, -⟩
      isplitl [HI]; · iexact HI
      iexact Hat
    exact bigSep_mono fun k _ => h1 k
  iintro HC Hat
  iapply (Rounds.cells_close ER (Rd m) Finset.univ (fun k : Fin 32 => kcell (c, k)) (fun k => K (c, k)) (fun _ _ => Set.mem_univ _) (fun _ _ h => h) (fun _ => 1)
    (fun k _ => duties_later m (kcell (c, k))))
  iapply h
  isplitl [HC]; · iexact HC
  iexact Hat

/-- The exchanges, from the dealt positions, tokens and credit. -/
theorem ey_intro (c : Dev nD) : iprop((bigSep Finset.univ fun x : X => dutyTok ER (sendCell x c) 0 0) ∗ (bigSep Finset.univ fun x : X => dutyTok ER (recvCell x (peer x c)) 0 0)
      ∗ (bigSep Finset.univ fun x : X => atPos ER (sendCell x c) 0 ∅ 0) ∗ (bigSep Finset.univ fun x : X => atPos ER (recvCell x c) 0 ∅ 0) ∗ bigSep Finset.univ fun x : X => credR x c)
    ⊢ bigSep Finset.univ fun x : X => Ey (F := F) x c := by
  unfold Ey Tok
  rw [bigSep_sep', bigSep_sep', bigSep_sep', bigSep_sep']
  iintro ⟨H1, H2, H3, H4, H5⟩
  isplitl [H1 H2]
  · isplitl [H1]; · iexact H1
    iexact H2
  isplitl [H3]; · iexact H3
  isplitl [H4]; · iexact H4
  iexact H5

theorem leave (c : Dev nD) : iprop(OpsOut m c ∗ ((bigSep Finset.univ fun x : X => sendPay m x c) ∗ w2Val m c 0 0 ∗ w2Val m c 1 0 ∗ w2Val m c 2 0) ∗ (bigSep Finset.univ fun x : X => recvPay m x c)
      ∗ ResOut m c ∗ bigSep Finset.univ fun k : Fin 32 => semVal (kcell (c, k)) 0)
    ⊢ Φ₁ m c := by
  iintro ⟨HO, HD, HR, HX, Hv⟩
  ihave HO := (ops_out m) $$ HO
  icases HO with ⟨Hop, Ha0, Ha1, ⟨L0, L1⟩, L2, L3⟩
  ihave HD := (slots_out m) $$ HD
  icases HD with ⟨Hsb, Hw⟩
  ihave HR := (lands_out m) $$ HR
  ihave HX := (res_out m) $$ HX
  icases HX with ⟨Hob, Hout, L4, L5⟩
  ihave Hs := (Entails.of_eq (sems_eq (F := F) c).symm) $$ [Hv L0 L1 L2 L3 L4 L5]
  · rw [locs_eq]
    isplitr [Hv]
    · isplitl [L0]; · iexact L0
      isplitl [L1]; · iexact L1
      isplitl [L2]; · iexact L2
      isplitl [L3]; · iexact L3
      isplitl [L4]; · iexact L4
      iexact L5
    iexact Hv
  icases Hs with ⟨Hown, Huns⟩
  unfold Φ₁ fin scr
  isplitl [Huns Ha0 Ha1 Hout]
  · isplitl [Huns]; · iexact Huns
    isplitl [Ha0]; · iexact Ha0
    isplitl [Ha1]; · iexact Ha1
    iexact Hout
  isplitl [Hown]; · iexact Hown
  isplitl [Hop]; · iexact Hop
  isplitl [Hsb]; · iexact Hsb
  isplitl [HR]; · iexact HR
  isplitl [Hw]; · iexact Hw
  iexact Hob

theorem run_body (c : Dev nD) : iprop(Φ₀ m c ∗ owesE (F := F) c allDebts) ⊢ WP c (At (cc0_body (F := F))) fun _ => iprop(Φ₁ m c ∗ owesE c []) := by
  unfold Φ₀ start creds linear scr pays
  rw [all3, all3, cellsOf (fun g => atPos ER g 0 ∅ 0) c, locs_eq]
  iintro ⟨⟨⟨⟨%K, #HC, ⟨L0, L1, L2, L3, L4, L5⟩, ⟨⟨PB, PE⟩, PS, PR⟩, ⟨TB0, TB1, TB2⟩, ⟨TE0, TE1, TE2⟩, TS, TR⟩, ⟨CB, CE, CX⟩, Ha0, Ha1, Hv⟩, Hop, Hsb, Hrb, Hw, Hob⟩, HO⟩
  ihave Hg := ((lands_in (F := F) (c := c)).trans grants) $$ Hrb
  icases Hg with ⟨G0, G1, G2⟩
  iapply (wp_fupd frame (wpE (defs₀ (F := F)) 𝒱₀ (c : Thread nD τ) none) Set.univ)
  iapply (body_run m (K := K)) $$ HC [TB0 TB1 TB2 G0 G1 G2 CB PB] [Hop Ha0 Ha1 L0 L1 L2 L3] [Hsb Hw] [TS TR PS PR CX] [Hob Hv L4 L5] TE0 TE1 TE2 CE PE HO
  · unfold BarIn
    isplitl [TB0]; · iexact TB0
    isplitl [TB1]; · iexact TB1
    isplitl [TB2]; · iexact TB2
    isplitl [G0]; · iexact G0
    isplitl [G1]; · iexact G1
    isplitl [G2]; · iexact G2
    isplitl [CB]; · iexact CB
    iexact PB
  · iapply (ops_in m)
    isplitl [Hop]; · iexact Hop
    isplitl [Ha0]; · iexact Ha0
    isplitl [Ha1]; · iexact Ha1
    isplitl [L0 L1]
    · isplitl [L0]; · iexact L0
      iexact L1
    isplitl [L2]; · iexact L2
    iexact L3
  · iapply slots_in
    isplitl [Hsb]; · iexact Hsb
    iexact Hw
  · iapply ey_intro
    isplitl [TS]; · iexact TS
    isplitl [TR]; · iexact TR
    isplitl [PS]; · iexact PS
    isplitl [PR]; · iexact PR
    iexact CX
  · iapply (res_in (m (ℓs main_v1 c)))
    isplitl [Hob]; · iexact Hob
    isplitl [Hv]; · iexact Hv
    isplitl [L4]; · iexact L4
    iexact L5
  iintro PB PE Hops HD HR HO
  unfold Done
  icases HD with ⟨HE, HS, HRv, W0, W1, W2⟩
  ihave Hat := (done_cells (F := F) c) $$ [PB PE HE]
  · isplitl [PB]; · iexact PB
    isplitl [PE]; · iexact PE
    iexact HE
  imod (close_cells m K c) $$ HC Hat with Hz
  imodintro
  isplitr [HO]
  · iapply (leave m c)
    isplitl [Hops]; · iexact Hops
    isplitl [HS W0 W1 W2]
    · isplitl [HS]; · iexact HS
      isplitl [W0]; · iexact W0
      isplitl [W1]; · iexact W1
      iexact W2
    isplitl [HRv]; · iexact HRv
    isplitl [HR]; · iexact HR
    iexact Hz
  iexact HO
end Launch

end Cert.RS
-- ==== Proof.RS.Run.lean ====
/-
  The run of the whole program on all the devices.
-/
module

public import proofs.«01_k».proof.Proof.RS.Launch
public import Idealize.ShloMosaic.Lib.Pipeline.CollectiveSegs

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

section Run
variable (ρ : Dev nD → PrngReg)

theorem body_obligation (c : Dev nD) : Pipeline.BodyObligation (dats (F := F) m 0 c) (defs₀ (F := F)) 𝒱₀ () Set.univ := fun t => by
  rw [fin_N0 t, Finset.univ_eq_empty, bigSep_empty, bigSep_empty]
  have h := run_body m c
  have hin : iprop(Φ₀ m c ∗ (dats m 0 c).owesAt () t0_0.castSucc ∗ emp) ⊢ iprop(Φ₀ m c ∗ owesE c allDebts) := by
    unfold Pipeline.Dat.owesAt Pipeline.owesWithin owesE
    iintro ⟨H, ⟨%W, -, HO⟩, -⟩
    isplitl [H]; · iexact H
    iexists _; iexact HO
  have hout : iprop(Φ₁ m c ∗ owesE c []) ⊢ iprop(Φ₁ m c ∗ (dats m 0 c).owesAt () t0_0.succ ∗ emp) := by
    unfold Pipeline.Dat.owesAt Pipeline.owesWithin owesE
    iintro ⟨H, ⟨%W, HO⟩⟩
    isplitl [H]; · iexact H
    isplitl [HO]
    · iexists W
      isplitr; · ipureintro; exact fun _ _ => Or.inl trivial
      iexact HO
    iempintro
  exact hin.trans (h.trans (wp_mono frame (wpE (defs₀ (F := F)) 𝒱₀ (c : Thread nD τ) none) Set.univ fun _ => hout))

theorem start_intro (c : Dev nD) :
    iprop(Pipeline.unscopedRestP Pipeline.Prefetch.none cfg0.spec c (fun b => m ((c : Thread nD τ).loc b)) ∗ levAts L lv
        ∗ Pipeline.launchCred (fun c => debts c allDebts) c ∗ prngReg c (ρ c) ∗ G' m c)
      ⊢ |={Set.univ}=> iprop(start m c ∗ emp) := by
  rw [Pipeline.unscopedRestP_none, unscopedRest0_eq]
  unfold G'
  iintro ⟨⟨Ha0, Ha1, Hv⟩, Hlev, Hcr, -, ⟨%K, HR, HL, Hlin⟩⟩
  ihave Hc := (creds_intro (F := F) c) $$ Hcr
  imodintro
  unfold start
  isplitl
  · isplitl [HR HL Hlin Hlev]
    · iexists K
      isplitl [HR Hlev]
      · unfold Ctx
        isplitl [HR]; · unfold records; iexact HR
        iexact Hlev
      isplitl [HL]; · iexact HL
      iexact Hlin
    isplitl [Hc]; · iexact Hc
    isplitl [Ha0]; · iexact Ha0
    isplitl [Ha1]; · iexact Ha1
    iexact Hv
  · iempintro

theorem phi_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs]; · iexact Hs
  iexact Hr

theorem phi_exit (c : Dev nD) : (dats m 0 c).Φ (Fin.last cfg0.N) ⊢ iprop(fin m c ∗ ownS c ∗ Pipeline.scopedRest cfg0.spec c) := by
  rw [show (dats m 0 c).Φ (Fin.last cfg0.N) = Φ₁ m c from rfl, scr_eq]
  exact .rfl

/-- What a final memory shows on device `c`. -/
def Shows (c : Dev nD) (s : MemSt nD τ sig (Elt F)) : Prop :=
  s.mem (ℓs main_arg0 c) = m (ℓs main_arg0 c) ∧ s.mem (ℓs main_arg1 c) = m (ℓs main_arg1 c) ∧ s.mem (ℓs main_v1 c) = Oout m c

theorem read_one (ℓ : Loc nD τ sig) (f : Buf (Elt F) ℓ) (s' : Phys nD τ sig (Elt F)) :
    iprop((ℓ ↦[Finset.univ]{fullShare} f) ∗ SI s') ⊢ (iprop(⌜s'.mem.mem ℓ = f⌝ ∗ SI s') : sProp (MT nD τ sig Unit (Elt F) ℕ UU ℕ)) := by
  have h := pointsTo_read_all (Ix := Unit) (Name := ℕ) (U := UU) (Lvl := ℕ) (Finset.univ : Finset Unit) (fun _ => ℓ) (fun _ => f) s' fullShare
  have e : (bigSep (Finset.univ : Finset Unit) fun _ => (ℓ ↦[Finset.univ]{fullShare} f : sProp (MT nD τ sig Unit (Elt F) ℕ UU ℕ))) = (ℓ ↦[Finset.univ]{fullShare} f) :=
    bigSep_singleton
  iintro ⟨H, HSI⟩
  ihave Hr := h $$ [H HSI]
  · isplitl [H]
    · iapply (Entails.of_eq e.symm) $$ H
    iexact HSI
  icases Hr with ⟨%hr, HSI⟩
  isplitr; · ipureintro; exact hr () (Finset.mem_univ _)
  iexact HSI

theorem fin_read (c : Dev nD) (s' : Phys nD τ sig (Elt F)) : iprop(fin m c ∗ emp ∗ SI s')
    ⊢ |={Set.univ}=> iprop(⌜Shows m c s'.mem ∧ ∀ sm : SemLoc sig, sm.isScoped .tc = false → s'.mem.sem ((c : Thread nD τ), sm) = 0⌝ ∗ SI s') := by
  unfold fin
  iintro ⟨⟨Hu, Ha0, Ha1, Hv⟩, -, HSI⟩
  imod (Pipeline.unscopedSems0_read (X := unscopedSems0 c) (c := c) fupd_intro s') $$ [Hu HSI] with ⟨%h0, HSI⟩
  · isplitl [Hu]; · iexact Hu
    iexact HSI
  ihave H := (read_one (ℓs main_arg0 c) (m (ℓs main_arg0 c)) s') $$ [Ha0 HSI]
  · isplitl [Ha0]; · iexact Ha0
    iexact HSI
  icases H with ⟨%h1, HSI⟩
  ihave H := (read_one (ℓs main_arg1 c) (m (ℓs main_arg1 c)) s') $$ [Ha1 HSI]
  · isplitl [Ha1]; · iexact Ha1
    iexact HSI
  icases H with ⟨%h2, HSI⟩
  ihave H := (read_one (ℓs main_v1 c) (Oout m c) s') $$ [Hv HSI]
  · isplitl [Hv]; · iexact Hv
    iexact HSI
  icases H with ⟨%h3, HSI⟩
  imodintro
  isplitr; · ipureintro; exact ⟨⟨h1, h2, h3⟩, h0⟩
  iexact HSI

/-- From any memory with zero counters, at any float values: every execution ends, the operands are as they were, each device's
    result is `Oout`, and every semaphore counter is at zero. -/
theorem run_main : θ_run (defs (F := F)) (onTc (τ := τ) (main (F := F))) ⟨m, fun _ => 0, ρ⟩ (fun r => (∀ c, Shows m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun c => debts c allDebts) (howed₀ := fun _ => rfl) (howedN := fun _ => rfl)
    (L := L) (lv := lv) (hL := fun g hg => if_neg hg) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod ((show BI.own (embR ((initOf xCells xToks, 1) : UB × Counters)) ⊢ (BI.own (ER (initOf xCells xToks)) : sProp (MT nD τ sig Unit (Elt F) ℕ UU ℕ)) from .rfl).trans (fund_cells m)) $$ HX with HG
      imodintro
      isplitl [HP]; · iexact HP
      iexact HG)
    (hglob := glob m)
    (hA := fun _ w => w.elim0) (hpf := fun _ k => k.elim0)
    (X := start m) (Y := fin m) (Z := fun _ => iprop(emp))
    (hX := start_intro m ρ) (hin := phi_intro m) (hout := phi_exit m)
    (QY := fun c s => Shows m c s ∧ ∀ sm : SemLoc sig, sm.isScoped .tc = false → s.sem ((c : Thread nD τ), sm) = 0)
    (hY := fin_read m)
    (hQ := fun _ h hs => ⟨fun c => (h c).2.2.1, sem_eq_zero hs fun c => (h c).2.2.2⟩)
end Run

end Cert.RS
-- ==== Proof.RS.Prod.lean ====
/-
  One partial product over the extended reals: each entry is the sum of the products of a row of the one operand and a
  column of the other, and the sums of slots are entry by entry.
-/
module

public import proofs.«01_k».proof.Proof.RS.Out
public import Idealize.ShloMosaic.Lib.ValueIdx
public import Idealize.ShloMosaic.Lib.ValueLayout
public import Idealize.ShloMosaic.Lib.Layout

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

open scoped BigOperators

/-! ## A slot's matrix -/

/-- A matrix put in a slot reads, in the slot's only layer, the matrix. -/
theorem cast_slot {α : Type} (x : S384x1024.Idx → α) (h : S384x1024.ShapeCasts S1x1x384x1024) (r : Fin 384) (s : Fin 1024) :
    shapeCast S1x1x384x1024 x h (ix4 (0 : Fin 1) (0 : Fin 1) r s) = x (ix2 r s) :=
  shapeCast_apply x h _ _ (by
    rw [Shape.rowMajor_val_four, Shape.rowMajor_val_two]
    show r.val * 1024 + s.val = ((0 * 1 + 0) * 384 + r.val) * 1024 + s.val
    omega)

/-- A slot's matrix reads the slot's only layer. -/
theorem cast_mat {α : Type} (x : S1x1x384x1024.Idx → α) (h : S1x1x384x1024.ShapeCasts S384x1024) (r : Fin 384) (s : Fin 1024) :
    shapeCast S384x1024 x h (ix2 r s) = x (ix4 (0 : Fin 1) (0 : Fin 1) r s) :=
  shapeCast_apply x h _ _ (by
    rw [Shape.rowMajor_val_four, Shape.rowMajor_val_two]
    show ((0 * 1 + 0) * 384 + r.val) * 1024 + s.val = r.val * 1024 + s.val
    omega)

/-- A slot's entry. -/
abbrev at4 (v : Slot Ideal) (r : Fin 384) (s : Fin 1024) : EReal := v (ix4 (0 : Fin 1) (0 : Fin 1) r s)

theorem comb_at (v w : Slot Ideal) (r : Fin 384) (s : Fin 1024) : at4 (comb v w) r s = at4 v r s + at4 w r s := by
  unfold comb k0_pay34 at4
  refine (cast_slot _ _ r s).trans ?_
  rw [truncf_apply, addf_apply, extf_apply, extf_apply, cast_mat, cast_mat]

theorem combF_at (v w : Slot Ideal) (r : Fin 384) (s : Fin 1024) :
    combF v w (ix3 (0 : Fin 1) r s) = at4 v r s + at4 w r s := by
  unfold combF k0_pay55 at4
  rw [shapeCast_ab_1ab_apply, addf_apply, extf_apply, extf_apply, cast_mat, cast_mat]

/-! ## The product -/

/-- The product's dimension numbers. -/
abbrev DP := dot_S384x1536_S1536x1024_S384x1024_1_0_0_1_n_n

theorem lhsP_0 (j : S384x1024.Idx) (k : DP.contr.Idx) : (DP.lhsIdx j k 0 : ℕ) = j 0 := by
  simp [DotDims.lhsIdx, DP, dot_S384x1536_S1536x1024_S384x1024_1_0_0_1_n_n]; rfl
theorem lhsP_1 (j : S384x1024.Idx) (k : DP.contr.Idx) : (DP.lhsIdx j k 1 : ℕ) = k ⟨0, by decide⟩ := by
  simp [DotDims.lhsIdx, DP, dot_S384x1536_S1536x1024_S384x1024_1_0_0_1_n_n]; rfl
theorem rhsP_0 (j : S384x1024.Idx) (k : DP.contr.Idx) : (DP.rhsIdx j k 0 : ℕ) = k ⟨0, by decide⟩ := by
  simp [DotDims.rhsIdx, DP, dot_S384x1536_S1536x1024_S384x1024_1_0_0_1_n_n]; rfl
theorem rhsP_1 (j : S384x1024.Idx) (k : DP.contr.Idx) : (DP.rhsIdx j k 1 : ℕ) = j 1 := by
  simp [DotDims.rhsIdx, DP, dot_S384x1536_S1536x1024_S384x1024_1_0_0_1_n_n]; rfl

theorem zero_word : Ideal.ofBits .f32 0x00000000#32 = 0 := by simp [Ideal.ofBits, Ideal.ieee]

/-- An entry of a partial product. -/
theorem prod_at (a : Vec Ideal S384x1536 .bf16) (b : Vec Ideal S1536x1024 .bf16) (r : Fin 384) (s : Fin 1024) :
    at4 (prod a b) r s = ∑ k : Fin 1536, (a (ix2 r k) * b (ix2 k s) : EReal) := by
  unfold prod k0_pay1 at4
  refine (cast_slot _ _ r s).trans ?_
  rw [truncf_apply]
  show constant (F := Ideal) S384x1024 .f32 0x00000000#32 (ix2 r s) + ∑ k : DP.contr.Idx, (a (DP.lhsIdx (ix2 r s) k) * b (DP.rhsIdx (ix2 r s) k) : EReal) = _
  rw [constant_apply, zero_word, zero_add, ← Equiv.sum_comp (contrEquiv1 DP 1536 (by decide) (by decide)).symm]
  refine Finset.sum_congr rfl fun k _ => congrArg₂ (fun x y : EReal => x * y) (congrArg a ?_) (congrArg b ?_)
  · exact Shape.idx_ext₂ (lhsP_0 _ _) ((lhsP_1 _ _).trans (contrEquiv1_symm_val DP 1536 _ _ k))
  · exact Shape.idx_ext₂ ((rhsP_0 _ _).trans (contrEquiv1_symm_val DP 1536 _ _ k)) (rhsP_1 _ _)

end Cert.RS
-- ==== Proof.RS.Sum.lean ====
/-
  What the three exchanges add up to: an entry of device `c`'s result is the sum, over all eight devices, of the entries
  of the partial products they made for row block `c`.
-/
module

public import proofs.«01_k».proof.Proof.RS.Prod
public import Idealize.ShloMosaic.Lib.ValueIdx
public import Idealize.ShloMosaic.Lib.ValueLayout
public import Idealize.ShloMosaic.Lib.Layout

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

open scoped BigOperators

/-- The eight corners of the cube, met from `c` along the three axes in the order of a column third's exchanges. -/
theorem corners (g : Fin 3) (c : Dev nD) :
    List.Perm [c, ax g c, ax (g + 1) c, ax g (ax (g + 1) c), ax (g + 2) c, ax g (ax (g + 2) c),
      ax (g + 1) (ax (g + 2) c), ax g (ax (g + 1) (ax (g + 2) c))] (List.finRange 8) := by
  revert g c; decide

/-- A sum over the corners, exchange by exchange, is the sum over the devices. -/
theorem corners_sum (f : Dev nD → EReal) (g : Fin 3) (c : Dev nD) :
    (f c + f (ax g c) + (f (ax (g + 1) c) + f (ax g (ax (g + 1) c))))
      + (f (ax (g + 2) c) + f (ax g (ax (g + 2) c)) + (f (ax (g + 1) (ax (g + 2) c)) + f (ax g (ax (g + 1) (ax (g + 2) c)))))
      = ∑ q : Dev nD, f q := by
  refine Eq.trans ?_ ((((corners g c).map f).sum_eq).trans (Fin.sum_univ_def f).symm)
  simp only [List.map_cons, List.map_nil, List.sum_cons, List.sum_nil, add_zero, add_assoc]

theorem keep_0 (g : Fin 3) (c : Dev nD) : wch g 0 c = c := by revert g c; decide
theorem keep_2 (g : Fin 3) (c : Dev nD) : wch g 2 (ax (g + 1) c) = c := by revert g c; decide
theorem keep_1 (g : Fin 3) (c : Dev nD) : wch g 1 (ax (g + 2) c) = c := by revert g c; decide
theorem keep_3 (g : Fin 3) (c : Dev nD) : wch g 3 (ax (g + 1) (ax (g + 2) c)) = c := by revert g c; decide

section AtIdeal
variable (m : (ℓ : Loc nD τ sig) → Buf (Elt Ideal) ℓ)

/-- After the first exchange a slot sums the products of two devices about the row block it keeps. -/
theorem W1_at (d : Dev nD) (g : Fin 3) (j : Fin 4) (r : Fin 384) (s : Fin 1024) :
    at4 (W1 m d g j) r s = at4 (pp m d (wch g j d) g) r s + at4 (pp m (ax g d) (wch g j d) g) r s := by
  unfold W1
  rw [comb_at]; unfold W0 RB1 SB1; rw [och_ax]

theorem W2_0_at (d : Dev nD) (g : Fin 3) (r : Fin 384) (s : Fin 1024) :
    at4 (W2 m d g 0) r s = at4 (W1 m d g 0) r s + at4 (W1 m (ax (g + 1) d) g 2) r s := by
  unfold W2; rw [comb_at]; rfl
theorem W2_1_at (d : Dev nD) (g : Fin 3) (r : Fin 384) (s : Fin 1024) :
    at4 (W2 m d g 1) r s = at4 (W1 m d g 1) r s + at4 (W1 m (ax (g + 1) d) g 3) r s := by
  unfold W2; rw [comb_at]; rfl

/-- An entry of the result, as the sum over the devices. -/
theorem W3_at (c : Dev nD) (g : Fin 3) (r : Fin 384) (s : Fin 1024) :
    W3 m c g (ix3 (0 : Fin 1) r s) = ∑ q : Dev nD, at4 (pp m q c g) r s := by
  unfold W3
  rw [combF_at]; unfold RB3
  rw [W2_0_at, W2_1_at, W1_at, W1_at, W1_at, W1_at, keep_0, keep_1, keep_2, keep_3]
  exact corners_sum (fun q => at4 (pp m q c g) r s) g c

/-- One device's part of it, in its operands. -/
theorem pp_at (q c : Dev nD) (g : Fin 3) (r : Fin 384) (s : Fin 1024) :
    at4 (pp m q c g) r s = ∑ k : Fin 1536,
      (Ain m q (ix2 (n0 := 3072) (n1 := 1536) ⟨384 * c.val + r.val, by have h : c.val < 8 := c.isLt; omega⟩ k)
        * Bin m q (ix2 (n0 := 1536) (n1 := 3072) k ⟨1024 * g.val + s.val, by omega⟩) : EReal) := by
  unfold pp; rw [prod_at]; rfl

/-- An entry of device `c`'s result. -/
theorem Oout_at (c : Dev nD) (r : Fin 384) (s : Fin 3072) :
    Oout m c (ix2 r s) = ∑ q : Dev nD, ∑ k : Fin 1536,
      (Ain m q (ix2 (n0 := 3072) (n1 := 1536) ⟨384 * c.val + r.val, by have h : c.val < 8 := c.isLt; omega⟩ k)
        * Bin m q (ix2 (n0 := 1536) (n1 := 3072) k s) : EReal) := by
  unfold Oout
  refine (W3_at m c ⟨s.val / 1024, by omega⟩ r ⟨s.val % 1024, by omega⟩).trans ?_
  refine Finset.sum_congr rfl fun q _ => (pp_at m q c _ r _).trans (Finset.sum_congr rfl fun k _ => ?_)
  have hs : (⟨1024 * (s.val / 1024) + s.val % 1024, by omega⟩ : Fin 3072) = s := Fin.ext (Nat.div_add_mod _ _)
  exact congrArg (fun y : Fin 3072 => (Ain m q (ix2 (n0 := 3072) (n1 := 1536) ⟨384 * c.val + r.val, by have h : c.val < 8 := c.isLt; omega⟩ k)
    * Bin m q (ix2 (n0 := 1536) (n1 := 3072) k y) : EReal)) hs

end AtIdeal

end Cert.RS
-- ==== Proof.RS.Value.lean ====
/-
  The equation of the results: block `c` of the whole product is what device `c` ends with, when each device holds its
  columns of the one operand and its rows of the other.
-/
module

public import proofs.«01_k».proof.Proof.RS.Sum
public import Idealize.ShloMosaic.Lib.ValueIdx
public import Idealize.ShloMosaic.Lib.ValueLayout
public import Idealize.ShloMosaic.Lib.Layout
public import proofs.«01_k».proof.Proof.Gen.ReferenceIdeal.Run

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

open scoped BigOperators

/-! ## The whole product -/

/-- Its dimension numbers. -/
abbrev DR := Cert.ReferenceIdeal.dot_S3072x12288_S12288x3072_S3072x3072_1_0_0_1_n_n

/-- The whole operands, and their product. -/
abbrev AllA : Type := FVec Ideal ⟨2, ![3072, 12288]⟩ .f32
abbrev AllB : Type := FVec Ideal ⟨2, ![12288, 3072]⟩ .f32
def whole (A : AllA) (B : AllB) : FVec Ideal ⟨2, ![3072, 3072]⟩ .f32 := Host.dotGeneral DR none A B

theorem lhsR_0 (j : (Mat 3072 3072).Idx) (k : DR.contr.Idx) : (DR.lhsIdx j k 0 : ℕ) = j 0 := by
  simp [DotDims.lhsIdx, DR, Cert.ReferenceIdeal.dot_S3072x12288_S12288x3072_S3072x3072_1_0_0_1_n_n]; rfl
theorem lhsR_1 (j : (Mat 3072 3072).Idx) (k : DR.contr.Idx) : (DR.lhsIdx j k 1 : ℕ) = k ⟨0, by decide⟩ := by
  simp [DotDims.lhsIdx, DR, Cert.ReferenceIdeal.dot_S3072x12288_S12288x3072_S3072x3072_1_0_0_1_n_n]; rfl
theorem rhsR_0 (j : (Mat 3072 3072).Idx) (k : DR.contr.Idx) : (DR.rhsIdx j k 0 : ℕ) = k ⟨0, by decide⟩ := by
  simp [DotDims.rhsIdx, DR, Cert.ReferenceIdeal.dot_S3072x12288_S12288x3072_S3072x3072_1_0_0_1_n_n]; rfl
theorem rhsR_1 (j : (Mat 3072 3072).Idx) (k : DR.contr.Idx) : (DR.rhsIdx j k 1 : ℕ) = j 1 := by
  simp [DotDims.rhsIdx, DR, Cert.ReferenceIdeal.dot_S3072x12288_S12288x3072_S3072x3072_1_0_0_1_n_n]; rfl

/-- An entry of the whole product, its terms grouped by the device that holds them. -/
theorem whole_at (A : AllA) (B : AllB) (i j : Fin 3072) :
    whole A B (ix2 i j) = ∑ q : Dev nD, ∑ k : Fin 1536,
      (A (ix2 (n0 := 3072) (n1 := 12288) i ⟨1536 * q.val + k.val, by have h : q.val < 8 := q.isLt; omega⟩)
        * B (ix2 (n0 := 12288) (n1 := 3072) ⟨1536 * q.val + k.val, by have h : q.val < 8 := q.isLt; omega⟩ j) : EReal) := by
  show (0 : EReal) + ∑ k : DR.contr.Idx, (A (DR.lhsIdx (ix2 i j) k) * B (DR.rhsIdx (ix2 i j) k) : EReal) = _
  rw [zero_add, ← Equiv.sum_comp ((finProdFinEquiv (m := 8) (n := 1536)).trans (contrEquiv1 DR (8 * 1536) (by decide) (by decide)).symm),
    Fintype.sum_prod_type]
  refine Finset.sum_congr rfl fun q _ => Finset.sum_congr rfl fun k _ => ?_
  have hk := (contrEquiv1_symm_val DR (8 * 1536) (by decide) (by decide) (finProdFinEquiv (q, k))).trans
    (show (finProdFinEquiv (q, k)).val = 1536 * q.val + k.val from Nat.add_comm _ _)
  refine congrArg₂ (fun x y : EReal => x * y) (congrArg A ?_) (congrArg B ?_)
  · exact Shape.idx_ext₂ (lhsR_0 _ _) ((lhsR_1 _ _).trans hk)
  · exact Shape.idx_ext₂ ((rhsR_0 _ _).trans hk) (rhsR_1 _ _)

/-- The equation: what device `c` ends with is its block of rows of the whole product. -/
theorem Oout_eq (m : (ℓ : Loc nD τ sig) → Buf (Elt Ideal) ℓ) (A : AllA) (B : AllB)
    (h : ∀ c : Dev nD, Ain m c = Layout.block ⟨2, ![3072, 1536]⟩ ⟨2, ![3072, 12288]⟩ 1 8 c A
      ∧ Bin m c = Layout.block ⟨2, ![1536, 3072]⟩ ⟨2, ![12288, 3072]⟩ 0 8 c B) (c : Dev nD) :
    Oout m c = Layout.block ⟨2, ![384, 3072]⟩ ⟨2, ![3072, 3072]⟩ 0 8 c (whole A B) := by
  funext i
  obtain ⟨r, s, rfl⟩ : ∃ (r : Fin 384) (s : Fin 3072), i = ix2 r s := ⟨i 0, i 1, eq_ix2 i⟩
  rw [Oout_at, Layout.block_apply]
  have hc : c.val < 8 := c.isLt
  refine Eq.trans ?_ (Eq.trans (whole_at A B ⟨384 * c.val + r.val, by omega⟩ s).symm (congrArg (whole A B) ?_))
  · refine Finset.sum_congr rfl fun q _ => Finset.sum_congr rfl fun k _ => ?_
    rw [(h q).1, (h q).2, Layout.block_apply, Layout.block_apply]
    refine congrArg₂ (fun x y : EReal => x * y) (congrArg A ?_) (congrArg B ?_)
    · exact Shape.idx_ext₂ rfl (show q.val * 1536 + k.val = 1536 * q.val + k.val by omega)
    · exact Shape.idx_ext₂ (show q.val * 1536 + k.val = 1536 * q.val + k.val by omega) rfl
  · exact Shape.idx_ext₂ (show 384 * c.val + r.val = c.val * 384 + r.val by omega) rfl

end Cert.RS
-- ==== Proof.lean ====
/- The claims put together: the kernel's run on eight devices (RS/Run.lean) gives both its frames, the reference's run gives
   its own, and the two runs with the equation of their results give the value claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RS.Run
public import proofs.«01_k».proof.Proof.RS.Value

@[expose] public section

noncomputable section

namespace Cert.Proof

open Idealize.ShloMosaic Idealize.SL.Sem Cert.Kernel

/-- The kernel over the reals runs, leaves its operands alone and every semaphore at zero. -/
theorem frame_ideal : Cert.quiescent_KernelIdeal := fun m ρ _ =>
  (θ_run Cert.KernelIdeal.defs _ _).mono (fun _ h => ⟨fun c => ⟨(h.1 c).1, (h.1 c).2.1⟩, h.2⟩) (Cert.RS.run_main (F := Ideal) m ρ)

/-- So does the kernel at its own formats. -/
theorem frame_kernel : Cert.quiescent_Kernel := fun m ρ _ =>
  (θ_run Cert.KernelIdeal.defs _ _).mono (fun _ h => ⟨fun c => ⟨(h.1 c).1, (h.1 c).2.1⟩, h.2⟩) (Cert.RS.run_main (F := Bits) m ρ)

/-- So does the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The common value is the whole product: device `c` of the kernel ends with its block of rows of it (`RS.Oout_eq`), the
    reference with all of it. -/
theorem algebraic : Cert.algebraic_KernelIdeal_ReferenceIdeal := by
  intro m ρ m' ρ' _ hagree
  refine ⟨Cert.RS.whole (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c).2.2.trans (Cert.RS.Oout_eq m _ _ hagree c), (h.1 c).1, (h.1 c).2.1⟩)
      (Cert.RS.run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, algebraic⟩

end Cert.Proof

end
